-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v25_1)) (v2 : (c : Dev Cert.KernelIdeal.nD) → Buf (Elt Ideal) ((c.tc : Thread Cert.KernelIdeal.nD Cert.KernelIdeal.τ).loc Cert.KernelIdeal.main_v25_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_v25_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_v78) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v9_0)) (v1 : (c : Dev Cert.Kernel2Ideal.nD) → Buf (Elt Ideal) ((c.tc : Thread Cert.Kernel2Ideal.nD Cert.Kernel2Ideal.τ).loc Cert.Kernel2Ideal.main_v9_1)) (v2 : (c : Dev Cert.Kernel2Ideal.nD) → Buf (Elt Ideal) ((c.tc : Thread Cert.Kernel2Ideal.nD Cert.Kernel2Ideal.τ).loc Cert.Kernel2Ideal.main_v9_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_v9_1) = v1 c
          ∧ r.2.mem ((c.tc : Thread Cert.Kernel2Ideal.nD Cert.Kernel2Ideal.τ).loc Cert.Kernel2Ideal.main_v9_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_v49) = v1 c
          ∧ r.2.mem ((c.tc : Thread Cert.Reference2Ideal.nD Cert.Reference2Ideal.τ).loc Cert.Reference2Ideal.main_v50) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_v39) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v15)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v15) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)) (v2 : (c : Dev Cert.Kernel6Ideal.nD) → Buf (Elt Ideal) ((c.tc : Thread Cert.Kernel6Ideal.nD Cert.Kernel6Ideal.τ).loc Cert.Kernel6Ideal.main_v2_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_v2_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_v15) = v1 c
          ∧ r.2.mem ((c.tc : Thread Cert.Reference6Ideal.nD Cert.Reference6Ideal.τ).loc Cert.Reference6Ideal.main_v20) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v7_0)) (v1 : (c : Dev Cert.Kernel7Ideal.nD) → Buf (Elt Ideal) ((c.tc : Thread Cert.Kernel7Ideal.nD Cert.Kernel7Ideal.τ).loc Cert.Kernel7Ideal.main_v7_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7_0) = v0 c
          ∧ r.2.mem ((c.tc : Thread Cert.Kernel7Ideal.nD Cert.Kernel7Ideal.τ).loc Cert.Kernel7Ideal.main_v7_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_v19) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v15)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v15) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v15) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2_0)) (v1 : (c : Dev Cert.Kernel10Ideal.nD) → Buf (Elt Ideal) ((c.tc : Thread Cert.Kernel10Ideal.nD Cert.Kernel10Ideal.τ).loc Cert.Kernel10Ideal.main_v2_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_0) = v0 c
          ∧ r.2.mem ((c.tc : Thread Cert.Kernel10Ideal.nD Cert.Kernel10Ideal.τ).loc Cert.Kernel10Ideal.main_v2_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v13) = v0 c
          ∧ r.2.mem ((c.tc : Thread Cert.Reference10Ideal.nD Cert.Reference10Ideal.τ).loc Cert.Reference10Ideal.main_v14) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v3_0)) (v1 : (c : Dev Cert.Kernel11Ideal.nD) → Buf (Elt Ideal) ((c.tc : Thread Cert.Kernel11Ideal.nD Cert.Kernel11Ideal.τ).loc Cert.Kernel11Ideal.main_v3_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3_0) = v0 c
          ∧ r.2.mem ((c.tc : Thread Cert.Kernel11Ideal.nD Cert.Kernel11Ideal.τ).loc Cert.Kernel11Ideal.main_v3_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_v15) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v4_0)) (v1 : (c : Dev Cert.Kernel12Ideal.nD) → Buf (Elt Ideal) ((c.tc : Thread Cert.Kernel12Ideal.nD Cert.Kernel12Ideal.τ).loc Cert.Kernel12Ideal.main_v4_1)) (v2 : (c : Dev Cert.Kernel12Ideal.nD) → Buf (Elt Ideal) ((c.tc : Thread Cert.Kernel12Ideal.nD Cert.Kernel12Ideal.τ).loc Cert.Kernel12Ideal.main_v4_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4_0) = v0 c
          ∧ r.2.mem ((c.tc : Thread Cert.Kernel12Ideal.nD Cert.Kernel12Ideal.τ).loc Cert.Kernel12Ideal.main_v4_1) = v1 c
          ∧ r.2.mem ((c.tc : Thread Cert.Kernel12Ideal.nD Cert.Kernel12Ideal.τ).loc Cert.Kernel12Ideal.main_v4_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v37) = v0 c
          ∧ r.2.mem ((c.tc : Thread Cert.Reference12Ideal.nD Cert.Reference12Ideal.τ).loc Cert.Reference12Ideal.main_v39) = v1 c
          ∧ r.2.mem ((c.tc : Thread Cert.Reference12Ideal.nD Cert.Reference12Ideal.τ).loc Cert.Reference12Ideal.main_v40) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v3_0)) (v1 : (c : Dev Cert.Kernel13Ideal.nD) → Buf (Elt Ideal) ((c.tc : Thread Cert.Kernel13Ideal.nD Cert.Kernel13Ideal.τ).loc Cert.Kernel13Ideal.main_v3_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3_0) = v0 c
          ∧ r.2.mem ((c.tc : Thread Cert.Kernel13Ideal.nD Cert.Kernel13Ideal.τ).loc Cert.Kernel13Ideal.main_v3_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v38) = v0 c
          ∧ r.2.mem ((c.tc : Thread Cert.Reference13Ideal.nD Cert.Reference13Ideal.τ).loc Cert.Reference13Ideal.main_v39) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite_inputs : Cert.Pre_finite_inputs.Facts) (hPre_finite2 : Cert.Pre_finite2.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite2.lean ====
abbrev S16384x5632 : Shape := ⟨2, ![16384, 5632]⟩
abbrev S2816x1024 : Shape := ⟨2, ![2816, 1024]⟩
abbrev S1024 : Shape := ⟨1, ![1024]⟩
abbrev S16384x1024 : Shape := ⟨2, ![16384, 1024]⟩
abbrev S_ : Shape := ⟨0, ![]⟩

class Facts : Prop where
  bcast_S_S16384x5632 : S_.BroadcastsInDim S16384x5632 (![] : Fin 0 → Fin S16384x5632.rank)
  bcast_S_S2816x1024 : S_.BroadcastsInDim S2816x1024 (![] : Fin 0 → Fin S2816x1024.rank)
  bcast_S_S1024 : S_.BroadcastsInDim S1024 (![] : Fin 0 → Fin S1024.rank)
  bcast_S_S16384x1024 : S_.BroadcastsInDim S16384x1024 (![] : Fin 0 → Fin S16384x1024.rank)

variable [Facts]

def fn {F : FTy → Type} [FloatOps F] (main_arg0 : FVec F S16384x5632 .f32) (main_arg1 : FVec F S2816x1024 .f32) (main_arg2 : FVec F S1024 .f32) (main_arg3 : FVec F S16384x1024 .f32) : IVec S16384x5632 1 × IVec S2816x1024 1 × IVec S1024 1 × IVec S16384x1024 1 :=
  let main_v0 : FVec F S16384x5632 .f32 := Host.absf main_arg0
  let main_cst : FVec F S_ .f32 := constant S_ .f32 0x7F800000#32
  let main_v1 : FVec F S16384x5632 .f32 := broadcastInDim S16384x5632 ![] bcast_S_S16384x5632 main_cst
  let main_v2 : IVec S16384x5632 1 := cmpf .olt main_v0 main_v1
  let main_v3 : FVec F S2816x1024 .f32 := Host.absf main_arg1
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S16384x1024 .f32 := Host.absf main_arg3
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  (main_v2, main_v5, main_v8, main_v11)
-- ==== Pre_finite_inputs.lean ====
abbrev S16384x1408 : Shape := ⟨2, ![16384, 1408]⟩
abbrev S3x16384x64 : Shape := ⟨3, ![3, 16384, 64]⟩
abbrev S16384x256 : Shape := ⟨2, ![16384, 256]⟩
abbrev S16384x1024 : Shape := ⟨2, ![16384, 1024]⟩
abbrev S16384x768 : Shape := ⟨2, ![16384, 768]⟩
abbrev S_ : Shape := ⟨0, ![]⟩

class Facts : Prop where
  slices_S16384x1408_S16384x768_0_0 : S16384x1408.Slices ![0, 0] S16384x768
  bitsLt_bf16_f32 : FTy.bits .bf16 < FTy.bits .f32
  bcast_S_S16384x768 : S_.BroadcastsInDim S16384x768 (![] : Fin 0 → Fin S16384x768.rank)
  bcast_S_S3x16384x64 : S_.BroadcastsInDim S3x16384x64 (![] : Fin 0 → Fin S3x16384x64.rank)
  slices_S16384x1024_S16384x768_0_0 : S16384x1024.Slices ![0, 0] S16384x768

variable [Facts]

def fn {F : FTy → Type} [FloatOps F] (main_arg0 : FVec F S16384x1408 .bf16) (main_arg1 : FVec F S3x16384x64 .bf16) (main_arg2 : FVec F S3x16384x64 .bf16) (main_arg3 : FVec F S16384x256 .bf16) (main_arg4 : FVec F S16384x1024 .bf16) : IVec S16384x768 1 × IVec S3x16384x64 1 × IVec S3x16384x64 1 × IVec S16384x768 1 :=
  let main_v0 : FVec F S16384x768 .bf16 := (extractStridedSlice S16384x768 ![0, 0] · slices_S16384x1408_S16384x768_0_0) main_arg0
  let main_v1 : FVec F S16384x768 .f32 := (extf .f32 · bitsLt_bf16_f32) main_v0
  let main_v2 : FVec F S16384x768 .f32 := Host.absf main_v1
  let main_cst : FVec F S_ .f32 := constant S_ .f32 0x7F800000#32
  let main_v3 : FVec F S16384x768 .f32 := broadcastInDim S16384x768 ![] bcast_S_S16384x768 main_cst
  let main_v4 : IVec S16384x768 1 := cmpf .olt main_v2 main_v3
  let main_v5 : FVec F S3x16384x64 .f32 := (extf .f32 · bitsLt_bf16_f32) main_arg1
  let main_v6 : FVec F S3x16384x64 .f32 := Host.absf main_v5
  let main_cst_0 : FVec F S_ .f32 := constant S_ .f32 0x7F800000#32
  let main_v7 : FVec F S3x16384x64 .f32 := broadcastInDim S3x16384x64 ![] bcast_S_S3x16384x64 main_cst_0
  let main_v8 : IVec S3x16384x64 1 := cmpf .olt main_v6 main_v7
  let main_v9 : FVec F S3x16384x64 .f32 := (extf .f32 · bitsLt_bf16_f32) main_arg2
  let main_v10 : FVec F S3x16384x64 .f32 := Host.absf main_v9
  let main_cst_1 : FVec F S_ .f32 := constant S_ .f32 0x7F800000#32
  let main_v11 : FVec F S3x16384x64 .f32 := broadcastInDim S3x16384x64 ![] bcast_S_S3x16384x64 main_cst_1
  let main_v12 : IVec S3x16384x64 1 := cmpf .olt main_v10 main_v11
  let main_v13 : FVec F S16384x768 .bf16 := (extractStridedSlice S16384x768 ![0, 0] · slices_S16384x1024_S16384x768_0_0) main_arg4
  let main_v14 : FVec F S16384x768 .f32 := (extf .f32 · bitsLt_bf16_f32) main_v13
  let main_v15 : FVec F S16384x768 .f32 := Host.absf main_v14
  let main_cst_2 : FVec F S_ .f32 := constant S_ .f32 0x7F800000#32
  let main_v16 : FVec F S16384x768 .f32 := broadcastInDim S16384x768 ![] bcast_S_S16384x768 main_cst_2
  let main_v17 : IVec S16384x768 1 := cmpf .olt main_v15 main_v16
  (main_v4, main_v8, main_v12, main_v17)
-- ==== Kernel.lean ====
abbrev S16384x1408 : Shape := ⟨2, ![16384, 1408]⟩
abbrev S3x16384x64 : Shape := ⟨3, ![3, 16384, 64]⟩
abbrev S16384x256 : Shape := ⟨2, ![16384, 256]⟩
abbrev S16384x1024 : Shape := ⟨2, ![16384, 1024]⟩
abbrev S16384x768 : Shape := ⟨2, ![16384, 768]⟩
abbrev S16384x3x4x64 : Shape := ⟨4, ![16384, 3, 4, 64]⟩
abbrev S3x16384x16384x4 : Shape := ⟨4, ![3, 16384, 16384, 4]⟩
abbrev S3x4x16384x16384 : Shape := ⟨4, ![3, 4, 16384, 16384]⟩
abbrev S_ : Shape := ⟨0, ![]⟩
abbrev S3x4x16384 : Shape := ⟨3, ![3, 4, 16384]⟩
abbrev S3x4x16384x1 : Shape := ⟨4, ![3, 4, 16384, 1]⟩
abbrev S3x64x4x16384 : Shape := ⟨4, ![3, 64, 4, 16384]⟩
abbrev S8x16384x768 : Shape := ⟨3, ![8, 16384, 768]⟩
abbrev S1024x256 : Shape := ⟨2, ![1024, 256]⟩
abbrev S1x2048x64 : Shape := ⟨3, ![1, 2048, 64]⟩
abbrev S1x4x1024x1 : Shape := ⟨4, ![1, 4, 1024, 1]⟩
abbrev S1x1024x256 : Shape := ⟨3, ![1, 1024, 256]⟩
abbrev S2048x64 : Shape := ⟨2, ![2048, 64]⟩
abbrev S128x64 : Shape := ⟨2, ![128, 64]⟩
abbrev S128x2048 : Shape := ⟨2, ![128, 2048]⟩
abbrev S128 : Shape := ⟨1, ![128]⟩
abbrev S128x1 : Shape := ⟨2, ![128, 1]⟩
abbrev S1x1x128x1 : Shape := ⟨4, ![1, 1, 128, 1]⟩
abbrev S1x128x64 : Shape := ⟨3, ![1, 128, 64]⟩

abbrev nBuf : Space → Nat
  | .hbm => 39
  | .vmem => 20
  | .smem => 0
  | _ => 0

abbrev bufTy : (tb : Table) → Fin (tcTables nBuf tb) → BufTy
  | .hbm, ⟨0, _⟩ => ⟨S16384x1408, .bf16⟩
  | .hbm, ⟨1, _⟩ => ⟨S3x16384x64, .bf16⟩
  | .hbm, ⟨2, _⟩ => ⟨S3x16384x64, .bf16⟩
  | .hbm, ⟨3, _⟩ => ⟨S16384x256, .bf16⟩
  | .hbm, ⟨4, _⟩ => ⟨S16384x1024, .bf16⟩
  | .hbm, ⟨5, _⟩ => ⟨S16384x768, .bf16⟩
  | .hbm, ⟨6, _⟩ => ⟨S16384x768, .f32⟩
  | .hbm, ⟨7, _⟩ => ⟨S16384x3x4x64, .f32⟩
  | .hbm, ⟨8, _⟩ => ⟨S3x16384x64, .f32⟩
  | .hbm, ⟨9, _⟩ => ⟨S3x16384x16384x4, .f32⟩
  | .hbm, ⟨10, _⟩ => ⟨S3x4x16384x16384, .f32⟩
  | .hbm, ⟨11, _⟩ => ⟨S_, .f32⟩
  | .hbm, ⟨12, _⟩ => ⟨S3x4x16384x16384, .f32⟩
  | .hbm, ⟨13, _⟩ => ⟨S3x4x16384x16384, .f32⟩
  | .hbm, ⟨14, _⟩ => ⟨S_, .f32⟩
  | .hbm, ⟨15, _⟩ => ⟨S3x4x16384, .f32⟩
  | .hbm, ⟨16, _⟩ => ⟨S3x4x16384x1, .f32⟩
  | .hbm, ⟨17, _⟩ => ⟨S3x4x16384x16384, .f32⟩
  | .hbm, ⟨18, _⟩ => ⟨S3x4x16384x16384, .f32⟩
  | .hbm, ⟨19, _⟩ => ⟨S3x4x16384x16384, .f32⟩
  | .hbm, ⟨20, _⟩ => ⟨S_, .f32⟩
  | .hbm, ⟨21, _⟩ => ⟨S3x4x16384, .f32⟩
  | .hbm, ⟨22, _⟩ => ⟨S3x4x16384x1, .f32⟩
  | .hbm, ⟨23, _⟩ => ⟨S3x4x16384x16384, .f32⟩
  | .hbm, ⟨24, _⟩ => ⟨S3x4x16384x16384, .f32⟩
  | .hbm, ⟨25, _⟩ => ⟨S3x16384x64, .f32⟩
  | .hbm, ⟨26, _⟩ => ⟨S3x64x4x16384, .f32⟩
  | .hbm, ⟨27, _⟩ => ⟨S16384x3x4x64, .f32⟩
  | .hbm, ⟨28, _⟩ => ⟨S16384x768, .f32⟩
  | .hbm, ⟨29, _⟩ => ⟨S16384x768, .bf16⟩
  | .hbm, ⟨30, _⟩ => ⟨S3x4x16384x1, .f32⟩
  | .hbm, ⟨31, _⟩ => ⟨S3x4x16384x1, .f32⟩
  | .hbm, ⟨32, _⟩ => ⟨S16384x1024, .bf16⟩
  | .hbm, ⟨33, _⟩ => ⟨S8x16384x768, .f32⟩
  | .hbm, ⟨34, _⟩ => ⟨S3x16384x64, .bf16⟩
  | .hbm, ⟨35, _⟩ => ⟨S3x16384x64, .bf16⟩
  | .hbm, ⟨36, _⟩ => ⟨S_, .f32⟩
  | .hbm, ⟨37, _⟩ => ⟨S16384x768, .f32⟩
  | .hbm, ⟨38, _⟩ => ⟨S16384x768, .bf16⟩
  | .local _ .vmem, ⟨0, _⟩ => ⟨S1024x256, .bf16⟩
  | .local _ .vmem, ⟨1, _⟩ => ⟨S1024x256, .bf16⟩
  | .local _ .vmem, ⟨2, _⟩ => ⟨S1x2048x64, .bf16⟩
  | .local _ .vmem, ⟨3, _⟩ => ⟨S1x2048x64, .bf16⟩
  | .local _ .vmem, ⟨4, _⟩ => ⟨S1x2048x64, .bf16⟩
  | .local _ .vmem, ⟨5, _⟩ => ⟨S1x2048x64, .bf16⟩
  | .local _ .vmem, ⟨6, _⟩ => ⟨S1024x256, .bf16⟩
  | .local _ .vmem, ⟨7, _⟩ => ⟨S1024x256, .bf16⟩
  | .local _ .vmem, ⟨8, _⟩ => ⟨S1x4x1024x1, .f32⟩
  | .local _ .vmem, ⟨9, _⟩ => ⟨S1x4x1024x1, .f32⟩
  | .local _ .vmem, ⟨10, _⟩ => ⟨S1024x256, .bf16⟩
  | .local _ .vmem, ⟨11, _⟩ => ⟨S1024x256, .bf16⟩
  | .local _ .vmem, ⟨12, _⟩ => ⟨S1x1024x256, .f32⟩
  | .local _ .vmem, ⟨13, _⟩ => ⟨S1x1024x256, .f32⟩
  | .local _ .vmem, ⟨14, _⟩ => ⟨S1x2048x64, .bf16⟩
  | .local _ .vmem, ⟨15, _⟩ => ⟨S1x2048x64, .bf16⟩
  | .local _ .vmem, ⟨16, _⟩ => ⟨S1x2048x64, .bf16⟩
  | .local _ .vmem, ⟨17, _⟩ => ⟨S1x2048x64, .bf16⟩
  | .local _ .vmem, ⟨18, _⟩ => ⟨S1x2048x64, .f32⟩
  | .local _ .vmem, ⟨19, _⟩ => ⟨S1x2048x64, .f32⟩
  | _, _ => ⟨S16384x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25_0 : Ref sig .tc := ⟨.hbm, 33, rfl⟩
abbrev main_v25_1 : Ref sig .tc := ⟨.hbm, 34, rfl⟩
abbrev main_v25_2 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![3, 8, 16], ![false, false, false]⟩

def k0_cond2 (i : grid0.Coords) : BitVec 1 :=
  let arg2 : BitVec 32 := BitVec.ofNat 32 (i 2).val
  let c15_i32 : BitVec 32 := 15#32
  let v1383 : BitVec 1 := Scalar.cmpi .eq arg2 c15_i32
  let v1384 : BitVec 32 := Scalar.extui v1383
  let c0_i32_1049 : BitVec 32 := 0#32
  let v1385 : BitVec 1 := Scalar.cmpi .ne v1384 c0_i32_1049
  v1385

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg2.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x4x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x2048x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x2048x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== ReferenceIdeal.lean ====
abbrev S16384x1408 : Shape := ⟨2, ![16384, 1408]⟩
abbrev S3x16384x64 : Shape := ⟨3, ![3, 16384, 64]⟩
abbrev S16384x256 : Shape := ⟨2, ![16384, 256]⟩
abbrev S16384x1024 : Shape := ⟨2, ![16384, 1024]⟩
abbrev S16384x768 : Shape := ⟨2, ![16384, 768]⟩
abbrev S1x16384x3x4x64 : Shape := ⟨5, ![1, 16384, 3, 4, 64]⟩
abbrev S16384x3x64 : Shape := ⟨3, ![16384, 3, 64]⟩
abbrev S1x16384x3x64 : Shape := ⟨4, ![1, 16384, 3, 64]⟩
abbrev S1x3x16384x16384x4 : Shape := ⟨5, ![1, 3, 16384, 16384, 4]⟩
abbrev S1x3x4x16384x16384 : Shape := ⟨5, ![1, 3, 4, 16384, 16384]⟩
abbrev S_ : Shape := ⟨0, ![]⟩
abbrev S1x3x4x16384 : Shape := ⟨4, ![1, 3, 4, 16384]⟩
abbrev S1x3x4x16384x1 : Shape := ⟨5, ![1, 3, 4, 16384, 1]⟩
abbrev S1x3x64x4x16384 : Shape := ⟨5, ![1, 3, 64, 4, 16384]⟩
abbrev S1x3x64x16384 : Shape := ⟨4, ![1, 3, 64, 16384]⟩
abbrev S3x4x16384 : Shape := ⟨3, ![3, 4, 16384]⟩
abbrev S1x3x16384x4x64 : Shape := ⟨5, ![1, 3, 16384, 4, 64]⟩
abbrev S1x3x16384x64 : Shape := ⟨4, ![1, 3, 16384, 64]⟩

abbrev nBuf : Space → Nat
  | .hbm => 98
  | .vmem => 0
  | .smem => 0
  | _ => 0

abbrev bufTy : (tb : Table) → Fin (tcTables nBuf tb) → BufTy
  | .hbm, ⟨0, _⟩ => ⟨S16384x1408, .bf16⟩
  | .hbm, ⟨1, _⟩ => ⟨S3x16384x64, .bf16⟩
  | .hbm, ⟨2, _⟩ => ⟨S3x16384x64, .bf16⟩
  | .hbm, ⟨3, _⟩ => ⟨S16384x256, .bf16⟩
  | .hbm, ⟨4, _⟩ => ⟨S16384x1024, .bf16⟩
  | .hbm, ⟨5, _⟩ => ⟨S16384x768, .bf16⟩
  | .hbm, ⟨6, _⟩ => ⟨S1x16384x3x4x64, .bf16⟩
  | .hbm, ⟨7, _⟩ => ⟨S16384x3x64, .bf16⟩
  | .hbm, ⟨8, _⟩ => ⟨S1x16384x3x64, .bf16⟩
  | .hbm, ⟨9, _⟩ => ⟨S16384x3x64, .bf16⟩
  | .hbm, ⟨10, _⟩ => ⟨S1x16384x3x64, .bf16⟩
  | .hbm, ⟨11, _⟩ => ⟨S16384x768, .bf16⟩
  | .hbm, ⟨12, _⟩ => ⟨S1x16384x3x4x64, .bf16⟩
  | .hbm, ⟨13, _⟩ => ⟨S1x3x16384x16384x4, .f32⟩
  | .hbm, ⟨14, _⟩ => ⟨S1x3x4x16384x16384, .f32⟩
  | .hbm, ⟨15, _⟩ => ⟨S_, .f32⟩
  | .hbm, ⟨16, _⟩ => ⟨S1x3x4x16384x16384, .f32⟩
  | .hbm, ⟨17, _⟩ => ⟨S1x3x4x16384x16384, .f32⟩
  | .hbm, ⟨18, _⟩ => ⟨S_, .f32⟩
  | .hbm, ⟨19, _⟩ => ⟨S1x3x4x16384, .f32⟩
  | .hbm, ⟨20, _⟩ => ⟨S1x3x4x16384x1, .f32⟩
  | .hbm, ⟨21, _⟩ => ⟨S1x3x4x16384x16384, .f32⟩
  | .hbm, ⟨22, _⟩ => ⟨S1x3x4x16384x16384, .i1⟩
  | .hbm, ⟨23, _⟩ => ⟨S1x3x4x16384x16384, .f32⟩
  | .hbm, ⟨24, _⟩ => ⟨S_, .f32⟩
  | .hbm, ⟨25, _⟩ => ⟨S1x3x4x16384, .f32⟩
  | .hbm, ⟨26, _⟩ => ⟨S_, .f32⟩
  | .hbm, ⟨27, _⟩ => ⟨S1x3x4x16384, .f32⟩
  | .hbm, ⟨28, _⟩ => ⟨S1x3x4x16384, .f32⟩
  | .hbm, ⟨29, _⟩ => ⟨S_, .f32⟩
  | .hbm, ⟨30, _⟩ => ⟨S1x3x4x16384, .f32⟩
  | .hbm, ⟨31, _⟩ => ⟨S1x3x4x16384, .i1⟩
  | .hbm, ⟨32, _⟩ => ⟨S_, .f32⟩
  | .hbm, ⟨33, _⟩ => ⟨S1x3x4x16384, .f32⟩
  | .hbm, ⟨34, _⟩ => ⟨S1x3x4x16384, .i1⟩
  | .hbm, ⟨35, _⟩ => ⟨S_, .f32⟩
  | .hbm, ⟨36, _⟩ => ⟨S1x3x4x16384, .f32⟩
  | .hbm, ⟨37, _⟩ => ⟨S_, .f32⟩
  | .hbm, ⟨38, _⟩ => ⟨S1x3x4x16384, .f32⟩
  | .hbm, ⟨39, _⟩ => ⟨S_, .f32⟩
  | .hbm, ⟨40, _⟩ => ⟨S1x3x4x16384, .f32⟩
  | .hbm, ⟨41, _⟩ => ⟨S1x3x4x16384, .f32⟩
  | .hbm, ⟨42, _⟩ => ⟨S1x3x4x16384, .f32⟩
  | .hbm, ⟨43, _⟩ => ⟨S1x3x4x16384x1, .f32⟩
  | .hbm, ⟨44, _⟩ => ⟨S1x3x4x16384x16384, .f32⟩
  | .hbm, ⟨45, _⟩ => ⟨S1x3x4x16384x16384, .f32⟩
  | .hbm, ⟨46, _⟩ => ⟨S1x3x4x16384x16384, .f32⟩
  | .hbm, ⟨47, _⟩ => ⟨S_, .f32⟩
  | .hbm, ⟨48, _⟩ => ⟨S1x3x4x16384, .f32⟩
  | .hbm, ⟨49, _⟩ => ⟨S1x3x4x16384x1, .f32⟩
  | .hbm, ⟨50, _⟩ => ⟨S1x3x4x16384x16384, .f32⟩
  | .hbm, ⟨51, _⟩ => ⟨S1x3x4x16384x16384, .f32⟩
  | .hbm, ⟨52, _⟩ => ⟨S1x3x4x16384x1, .f32⟩
  | .hbm, ⟨53, _⟩ => ⟨S_, .f32⟩
  | .hbm, ⟨54, _⟩ => ⟨S1x3x4x16384x1, .f32⟩
  | .hbm, ⟨55, _⟩ => ⟨S1x3x4x16384x1, .f32⟩
  | .hbm, ⟨56, _⟩ => ⟨S1x3x4x16384x16384, .bf16⟩
  | .hbm, ⟨57, _⟩ => ⟨S1x3x64x4x16384, .f32⟩
  | .hbm, ⟨58, _⟩ => ⟨S1x16384x3x4x64, .f32⟩
  | .hbm, ⟨59, _⟩ => ⟨S1x16384x3x4x64, .bf16⟩
  | .hbm, ⟨60, _⟩ => ⟨S1x16384x3x4x64, .f32⟩
  | .hbm, ⟨61, _⟩ => ⟨S1x3x64x4x16384, .f32⟩
  | .hbm, ⟨62, _⟩ => ⟨S1x3x4x16384x16384, .f32⟩
  | .hbm, ⟨63, _⟩ => ⟨S1x3x4x16384x16384, .bf16⟩
  | .hbm, ⟨64, _⟩ => ⟨S1x3x64x16384, .f32⟩
  | .hbm, ⟨65, _⟩ => ⟨S1x16384x3x64, .f32⟩
  | .hbm, ⟨66, _⟩ => ⟨S1x16384x3x64, .bf16⟩
  | .hbm, ⟨67, _⟩ => ⟨S1x3x4x16384x16384, .f32⟩
  | .hbm, ⟨68, _⟩ => ⟨S1x3x4x16384x16384, .f32⟩
  | .hbm, ⟨69, _⟩ => ⟨S1x3x4x16384x16384, .f32⟩
  | .hbm, ⟨70, _⟩ => ⟨S1x3x4x16384x16384, .f32⟩
  | .hbm, ⟨71, _⟩ => ⟨S_, .f32⟩
  | .hbm, ⟨72, _⟩ => ⟨S1x3x4x16384, .f32⟩
  | .hbm, ⟨73, _⟩ => ⟨S1x3x4x16384x1, .f32⟩
  | .hbm, ⟨74, _⟩ => ⟨S1x3x4x16384x1, .f32⟩
  | .hbm, ⟨75, _⟩ => ⟨S1x3x4x16384x16384, .f32⟩
  | .hbm, ⟨76, _⟩ => ⟨S1x3x4x16384x16384, .f32⟩
  | .hbm, ⟨77, _⟩ => ⟨S_, .f32⟩
  | .hbm, ⟨78, _⟩ => ⟨S3x4x16384, .f32⟩
  | .hbm, ⟨79, _⟩ => ⟨S1x3x4x16384, .f32⟩
  | .hbm, ⟨80, _⟩ => ⟨S1x3x4x16384x16384, .f32⟩
  | .hbm, ⟨81, _⟩ => ⟨S1x3x4x16384x16384, .f32⟩
  | .hbm, ⟨82, _⟩ => ⟨S1x3x4x16384x16384, .f32⟩
  | .hbm, ⟨83, _⟩ => ⟨S_, .f32⟩
  | .hbm, ⟨84, _⟩ => ⟨S1x3x4x16384x16384, .f32⟩
  | .hbm, ⟨85, _⟩ => ⟨S1x3x4x16384x16384, .f32⟩
  | .hbm, ⟨86, _⟩ => ⟨S1x3x16384x16384x4, .f32⟩
  | .hbm, ⟨87, _⟩ => ⟨S1x3x16384x4x64, .f32⟩
  | .hbm, ⟨88, _⟩ => ⟨S1x16384x3x4x64, .f32⟩
  | .hbm, ⟨89, _⟩ => ⟨S1x16384x3x4x64, .bf16⟩
  | .hbm, ⟨90, _⟩ => ⟨S1x3x16384x64, .f32⟩
  | .hbm, ⟨91, _⟩ => ⟨S1x16384x3x64, .f32⟩
  | .hbm, ⟨92, _⟩ => ⟨S1x16384x3x64, .bf16⟩
  | .hbm, ⟨93, _⟩ => ⟨S16384x768, .bf16⟩
  | .hbm, ⟨94, _⟩ => ⟨S16384x3x64, .bf16⟩
  | .hbm, ⟨95, _⟩ => ⟨S3x16384x64, .bf16⟩
  | .hbm, ⟨96, _⟩ => ⟨S16384x3x64, .bf16⟩
  | .hbm, ⟨97, _⟩ => ⟨S3x16384x64, .bf16⟩
  | _, _ => ⟨S16384x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_10 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_11 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_12 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩

abbrev nD : Nat := 1
abbrev τ : Topo := Topo.v7x

variable {F : FTy → Type} [FloatOps F]
-- ==== Kernel2.lean ====
abbrev S16384x5632 : Shape := ⟨2, ![16384, 5632]⟩
abbrev S2816x1024 : Shape := ⟨2, ![2816, 1024]⟩
abbrev S1024 : Shape := ⟨1, ![1024]⟩
abbrev S16384x1024 : Shape := ⟨2, ![16384, 1024]⟩
abbrev S16384x2816 : Shape := ⟨2, ![16384, 2816]⟩
abbrev S_ : Shape := ⟨0, ![]⟩
abbrev S1x1024 : Shape := ⟨2, ![1, 1024]⟩
abbrev S512x1024 : Shape := ⟨2, ![512, 1024]⟩
abbrev S512x5632 : Shape := ⟨2, ![512, 5632]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩

abbrev nBuf : Space → Nat
  | .hbm => 24
  | .vmem => 13
  | .smem => 0
  | _ => 0

abbrev bufTy : (tb : Table) → Fin (tcTables nBuf tb) → BufTy
  | .hbm, ⟨0, _⟩ => ⟨S16384x5632, .f32⟩
  | .hbm, ⟨1, _⟩ => ⟨S2816x1024, .f32⟩
  | .hbm, ⟨2, _⟩ => ⟨S1024, .f32⟩
  | .hbm, ⟨3, _⟩ => ⟨S16384x1024, .f32⟩
  | .hbm, ⟨4, _⟩ => ⟨S16384x2816, .f32⟩
  | .hbm, ⟨5, _⟩ => ⟨S16384x2816, .f32⟩
  | .hbm, ⟨6, _⟩ => ⟨S16384x2816, .f32⟩
  | .hbm, ⟨7, _⟩ => ⟨S_, .f32⟩
  | .hbm, ⟨8, _⟩ => ⟨S16384x2816, .f32⟩
  | .hbm, ⟨9, _⟩ => ⟨S16384x2816, .f32⟩
  | .hbm, ⟨10, _⟩ => ⟨S_, .f32⟩
  | .hbm, ⟨11, _⟩ => ⟨S16384x2816, .f32⟩
  | .hbm, ⟨12, _⟩ => ⟨S16384x2816, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x1024, .f32⟩
  | .hbm, ⟨17, _⟩ => ⟨S16384x1024, .bf16⟩
  | .hbm, ⟨18, _⟩ => ⟨S2816x1024, .bf16⟩
  | .hbm, ⟨19, _⟩ => ⟨S16384x5632, .bf16⟩
  | .hbm, ⟨20, _⟩ => ⟨S1x1024, .f32⟩
  | .hbm, ⟨21, _⟩ => ⟨S16384x1024, .bf16⟩
  | .hbm, ⟨22, _⟩ => ⟨S16384x5632, .bf16⟩
  | .hbm, ⟨23, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S2816x1024, .bf16⟩
  | .local _ .vmem, ⟨3, _⟩ => ⟨S512x5632, .bf16⟩
  | .local _ .vmem, ⟨4, _⟩ => ⟨S512x5632, .bf16⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x5632, .bf16⟩
  | .local _ .vmem, ⟨11, _⟩ => ⟨S512x5632, .bf16⟩
  | .local _ .vmem, ⟨12, _⟩ => ⟨S1x1024, .f32⟩
  | _, _ => ⟨S16384x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev main_v9_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference2Ideal.lean ====
abbrev S16384x5632 : Shape := ⟨2, ![16384, 5632]⟩
abbrev S2816x1024 : Shape := ⟨2, ![2816, 1024]⟩
abbrev S1024 : Shape := ⟨1, ![1024]⟩
abbrev S16384x1024 : Shape := ⟨2, ![16384, 1024]⟩
abbrev S16384x2816 : Shape := ⟨2, ![16384, 2816]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 81
  | .vmem => 0
  | .smem => 0
  | _ => 0

abbrev bufTy : (tb : Table) → Fin (tcTables nBuf tb) → BufTy
  | .hbm, ⟨0, _⟩ => ⟨S16384x5632, .f32⟩
  | .hbm, ⟨1, _⟩ => ⟨S2816x1024, .f32⟩
  | .hbm, ⟨2, _⟩ => ⟨S1024, .f32⟩
  | .hbm, ⟨3, _⟩ => ⟨S16384x1024, .f32⟩
  | .hbm, ⟨4, _⟩ => ⟨S16384x2816, .f32⟩
  | .hbm, ⟨5, _⟩ => ⟨S16384x2816, .f32⟩
  | .hbm, ⟨6, _⟩ => ⟨S16384x2816, .f32⟩
  | .hbm, ⟨7, _⟩ => ⟨S_, .f32⟩
  | .hbm, ⟨8, _⟩ => ⟨S16384x2816, .f32⟩
  | .hbm, ⟨9, _⟩ => ⟨S16384x2816, .f32⟩
  | .hbm, ⟨10, _⟩ => ⟨S_, .f32⟩
  | .hbm, ⟨11, _⟩ => ⟨S16384x2816, .f32⟩
  | .hbm, ⟨12, _⟩ => ⟨S16384x2816, .f32⟩
  | .hbm, ⟨13, _⟩ => ⟨S_, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S1x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S1024, .f32⟩
  | .hbm, ⟨49, _⟩ => ⟨S16384x1024, .f32⟩
  | .hbm, ⟨50, _⟩ => ⟨S_, .f32⟩
  | .hbm, ⟨51, _⟩ => ⟨S16384, .f32⟩
  | .hbm, ⟨52, _⟩ => ⟨S16384x1, .f32⟩
  | .hbm, ⟨53, _⟩ => ⟨S16384x1024, .f32⟩
  | .hbm, ⟨54, _⟩ => ⟨S16384x1024, .f32⟩
  | .hbm, ⟨55, _⟩ => ⟨S16384x1, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S_, .f32⟩
  | .hbm, ⟨60, _⟩ => ⟨S16384, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .bf16⟩
  | .hbm, ⟨67, _⟩ => ⟨S16384x2816, .f32⟩
  | .hbm, ⟨68, _⟩ => ⟨S16384x2816, .f32⟩
  | .hbm, ⟨69, _⟩ => ⟨S16384x2816, .f32⟩
  | .hbm, ⟨70, _⟩ => ⟨S_, .f32⟩
  | .hbm, ⟨71, _⟩ => ⟨S16384x5632, .f32⟩
  | .hbm, ⟨72, _⟩ => ⟨S16384x2816, .f32⟩
  | .hbm, ⟨73, _⟩ => ⟨S16384x2816, .f32⟩
  | .hbm, ⟨74, _⟩ => ⟨S16384x2816, .f32⟩
  | .hbm, ⟨75, _⟩ => ⟨S16384x2816, .f32⟩
  | .hbm, ⟨76, _⟩ => ⟨S_, .f32⟩
  | .hbm, ⟨77, _⟩ => ⟨S16384x5632, .f32⟩
  | .hbm, ⟨78, _⟩ => ⟨S16384x5632, .f32⟩
  | .hbm, ⟨79, _⟩ => ⟨S16384x5632, .bf16⟩
  | .hbm, ⟨80, _⟩ => ⟨S1x1024, .f32⟩
  | _, _ => ⟨S16384x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_4 : Ref sig .tc := ⟨.hbm, 47, rfl⟩
abbrev main_v26 : Ref sig .tc := ⟨.hbm, 48, rfl⟩
abbrev main_v27 : Ref sig .tc := ⟨.hbm, 49, rfl⟩
abbrev main_cst_5 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_6 : Ref sig .tc := ⟨.hbm, 56, rfl⟩
abbrev main_v33 : Ref sig .tc := ⟨.hbm, 57, rfl⟩
abbrev main_v34 : Ref sig .tc := ⟨.hbm, 58, rfl⟩
abbrev main_cst_7 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_8 : Ref sig .tc := ⟨.hbm, 70, rfl⟩
abbrev main_v45 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v46 : Ref sig .tc := ⟨.hbm, 75, rfl⟩
abbrev main_cst_9 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩

abbrev nD : Nat := 1
abbrev τ : Topo := Topo.v7x

variable {F : FTy → Type} [FloatOps F]
-- ==== Kernel3.lean ====
abbrev S16384x1024 : Shape := ⟨2, ![16384, 1024]⟩
abbrev S1024x5632 : Shape := ⟨2, ![1024, 5632]⟩
abbrev S1024 : Shape := ⟨1, ![1024]⟩
abbrev S16384x5632 : Shape := ⟨2, ![16384, 5632]⟩
abbrev S1x1024 : Shape := ⟨2, ![1, 1024]⟩
abbrev S512x5632 : Shape := ⟨2, ![512, 5632]⟩
abbrev S512x1024 : Shape := ⟨2, ![512, 1024]⟩
abbrev S256x5632 : Shape := ⟨2, ![256, 5632]⟩
abbrev S256x1024 : Shape := ⟨2, ![256, 1024]⟩
abbrev S256 : Shape := ⟨1, ![256]⟩
abbrev S256x1 : Shape := ⟨2, ![256, 1]⟩

abbrev nBuf : Space → Nat
  | .hbm => 10
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S1024, .f32⟩
  | .hbm, ⟨3, _⟩ => ⟨S16384x1024, .f32⟩
  | .hbm, ⟨4, _⟩ => ⟨S16384x5632, .f32⟩
  | .hbm, ⟨5, _⟩ => ⟨S16384x5632, .bf16⟩
  | .hbm, ⟨6, _⟩ => ⟨S1024x5632, .bf16⟩
  | .hbm, ⟨7, _⟩ => ⟨S1x1024, .f32⟩
  | .hbm, ⟨8, _⟩ => ⟨S16384x1024, .f32⟩
  | .hbm, ⟨9, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S1024x5632, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference3Ideal.lean ====
abbrev S16384x1024 : Shape := ⟨2, ![16384, 1024]⟩
abbrev S1024x5632 : Shape := ⟨2, ![1024, 5632]⟩
abbrev S1024 : Shape := ⟨1, ![1024]⟩
abbrev S16384x5632 : Shape := ⟨2, ![16384, 5632]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S1024, .f32⟩
  | .hbm, ⟨3, _⟩ => ⟨S16384x1024, .f32⟩
  | .hbm, ⟨4, _⟩ => ⟨S16384x5632, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x5632, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel4.lean ====
abbrev S16384x1024 : Shape := ⟨2, ![16384, 1024]⟩
abbrev S1024x5632 : Shape := ⟨2, ![1024, 5632]⟩
abbrev S1024 : Shape := ⟨1, ![1024]⟩
abbrev S16384x5632 : Shape := ⟨2, ![16384, 5632]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024x1024 : Shape := ⟨2, ![1024, 1024]⟩
abbrev S1024x2816 : Shape := ⟨2, ![1024, 2816]⟩

abbrev nBuf : Space → Nat
  | .hbm => 23
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S1024, .f32⟩
  | .hbm, ⟨3, _⟩ => ⟨S16384x5632, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x1024, .bf16⟩
  | .hbm, ⟨21, _⟩ => ⟨S16384x5632, .bf16⟩
  | .hbm, ⟨22, _⟩ => ⟨S1024x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S1024x2816, .f32⟩
  | .local _ .vmem, ⟨5, _⟩ => ⟨S1024x2816, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S16384x1024 : Shape := ⟨2, ![16384, 1024]⟩
abbrev S1024x5632 : Shape := ⟨2, ![1024, 5632]⟩
abbrev S1024 : Shape := ⟨1, ![1024]⟩
abbrev S16384x5632 : Shape := ⟨2, ![16384, 5632]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S5632x1024 : Shape := ⟨2, ![5632, 1024]⟩

abbrev nBuf : Space → Nat
  | .hbm => 23
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S1024, .f32⟩
  | .hbm, ⟨3, _⟩ => ⟨S16384x5632, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x5632, .f32⟩
  | .hbm, ⟨21, _⟩ => ⟨S5632x1024, .f32⟩
  | .hbm, ⟨22, _⟩ => ⟨S1024x5632, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel5.lean ====
abbrev S16384x5632 : Shape := ⟨2, ![16384, 5632]⟩
abbrev S2816x1024 : Shape := ⟨2, ![2816, 1024]⟩
abbrev S16384x1024 : Shape := ⟨2, ![16384, 1024]⟩
abbrev S16384x2816 : Shape := ⟨2, ![16384, 2816]⟩
abbrev S_ : Shape := ⟨0, ![]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 18
  | .vmem => 6
  | .smem => 0
  | _ => 0

abbrev bufTy : (tb : Table) → Fin (tcTables nBuf tb) → BufTy
  | .hbm, ⟨0, _⟩ => ⟨S16384x5632, .f32⟩
  | .hbm, ⟨1, _⟩ => ⟨S2816x1024, .f32⟩
  | .hbm, ⟨2, _⟩ => ⟨S16384x1024, .f32⟩
  | .hbm, ⟨3, _⟩ => ⟨S16384x2816, .f32⟩
  | .hbm, ⟨4, _⟩ => ⟨S16384x2816, .f32⟩
  | .hbm, ⟨5, _⟩ => ⟨S16384x2816, .f32⟩
  | .hbm, ⟨6, _⟩ => ⟨S_, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S16384x2816, .f32⟩
  | .hbm, ⟨13, _⟩ => ⟨S16384x2816, .f32⟩
  | .hbm, ⟨14, _⟩ => ⟨S16384x2816, .f32⟩
  | .hbm, ⟨15, _⟩ => ⟨S16384x2816, .bf16⟩
  | .hbm, ⟨16, _⟩ => ⟨S16384x1024, .bf16⟩
  | .hbm, ⟨17, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S16384x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S16384x5632 : Shape := ⟨2, ![16384, 5632]⟩
abbrev S2816x1024 : Shape := ⟨2, ![2816, 1024]⟩
abbrev S16384x1024 : Shape := ⟨2, ![16384, 1024]⟩
abbrev S16384x2816 : Shape := ⟨2, ![16384, 2816]⟩
abbrev S_ : Shape := ⟨0, ![]⟩
abbrev S1024x2816 : Shape := ⟨2, ![1024, 2816]⟩

abbrev nBuf : Space → Nat
  | .hbm => 18
  | .vmem => 0
  | .smem => 0
  | _ => 0

abbrev bufTy : (tb : Table) → Fin (tcTables nBuf tb) → BufTy
  | .hbm, ⟨0, _⟩ => ⟨S16384x5632, .f32⟩
  | .hbm, ⟨1, _⟩ => ⟨S2816x1024, .f32⟩
  | .hbm, ⟨2, _⟩ => ⟨S16384x1024, .f32⟩
  | .hbm, ⟨3, _⟩ => ⟨S16384x2816, .f32⟩
  | .hbm, ⟨4, _⟩ => ⟨S16384x2816, .f32⟩
  | .hbm, ⟨5, _⟩ => ⟨S16384x2816, .f32⟩
  | .hbm, ⟨6, _⟩ => ⟨S_, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S16384x2816, .f32⟩
  | .hbm, ⟨13, _⟩ => ⟨S16384x2816, .f32⟩
  | .hbm, ⟨14, _⟩ => ⟨S16384x2816, .f32⟩
  | .hbm, ⟨15, _⟩ => ⟨S16384x1024, .f32⟩
  | .hbm, ⟨16, _⟩ => ⟨S1024x2816, .f32⟩
  | .hbm, ⟨17, _⟩ => ⟨S2816x1024, .f32⟩
  | _, _ => ⟨S16384x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel6.lean ====
abbrev S16384x1024 : Shape := ⟨2, ![16384, 1024]⟩
abbrev S1024x5632 : Shape := ⟨2, ![1024, 5632]⟩
abbrev S1024 : Shape := ⟨1, ![1024]⟩
abbrev S1x1024 : Shape := ⟨2, ![1, 1024]⟩
abbrev S16384x5632 : Shape := ⟨2, ![16384, 5632]⟩
abbrev S16384x2816 : Shape := ⟨2, ![16384, 2816]⟩
abbrev S512x1024 : Shape := ⟨2, ![512, 1024]⟩
abbrev S512x5632 : Shape := ⟨2, ![512, 5632]⟩
abbrev S512x2816 : Shape := ⟨2, ![512, 2816]⟩
abbrev S256x1024 : Shape := ⟨2, ![256, 1024]⟩
abbrev S256 : Shape := ⟨1, ![256]⟩
abbrev S256x1 : Shape := ⟨2, ![256, 1]⟩
abbrev S256x5632 : Shape := ⟨2, ![256, 5632]⟩
abbrev S256x2816 : Shape := ⟨2, ![256, 2816]⟩

abbrev nBuf : Space → Nat
  | .hbm => 8
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S1024, .f32⟩
  | .hbm, ⟨3, _⟩ => ⟨S1024x5632, .bf16⟩
  | .hbm, ⟨4, _⟩ => ⟨S1x1024, .f32⟩
  | .hbm, ⟨5, _⟩ => ⟨S16384x1024, .bf16⟩
  | .hbm, ⟨6, _⟩ => ⟨S16384x5632, .bf16⟩
  | .hbm, ⟨7, _⟩ => ⟨S16384x2816, .bf16⟩
  | .local _ .vmem, ⟨0, _⟩ => ⟨S512x1024, .f32⟩
  | .local _ .vmem, ⟨1, _⟩ => ⟨S512x1024, .f32⟩
  | .local _ .vmem, ⟨2, _⟩ => ⟨S1024x5632, .bf16⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | .local _ .vmem, ⟨6, _⟩ => ⟨S512x5632, .bf16⟩
  | .local _ .vmem, ⟨7, _⟩ => ⟨S512x5632, .bf16⟩
  | .local _ .vmem, ⟨8, _⟩ => ⟨S512x2816, .bf16⟩
  | .local _ .vmem, ⟨9, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S16384x1024 : Shape := ⟨2, ![16384, 1024]⟩
abbrev S1024x5632 : Shape := ⟨2, ![1024, 5632]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 35
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x5632, .f32⟩
  | .hbm, ⟨20, _⟩ => ⟨S16384x1024, .bf16⟩
  | .hbm, ⟨21, _⟩ => ⟨S16384x5632, .bf16⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]
-- ==== Kernel7.lean ====
abbrev S16384x5632 : Shape := ⟨2, ![16384, 5632]⟩
abbrev S2816x1024 : Shape := ⟨2, ![2816, 1024]⟩
abbrev S1024 : Shape := ⟨1, ![1024]⟩
abbrev S16384x1024 : Shape := ⟨2, ![16384, 1024]⟩
abbrev S16384x2816 : Shape := ⟨2, ![16384, 2816]⟩
abbrev S_ : Shape := ⟨0, ![]⟩
abbrev S1x1024 : Shape := ⟨2, ![1, 1024]⟩
abbrev S1024x2816 : Shape := ⟨2, ![1024, 2816]⟩
abbrev S1024x1024 : Shape := ⟨2, ![1024, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩

abbrev nBuf : Space → Nat
  | .hbm => 21
  | .vmem => 10
  | .smem => 0
  | _ => 0

abbrev bufTy : (tb : Table) → Fin (tcTables nBuf tb) → BufTy
  | .hbm, ⟨0, _⟩ => ⟨S16384x5632, .f32⟩
  | .hbm, ⟨1, _⟩ => ⟨S2816x1024, .f32⟩
  | .hbm, ⟨2, _⟩ => ⟨S1024, .f32⟩
  | .hbm, ⟨3, _⟩ => ⟨S16384x1024, .f32⟩
  | .hbm, ⟨4, _⟩ => ⟨S16384x2816, .f32⟩
  | .hbm, ⟨5, _⟩ => ⟨S16384x2816, .f32⟩
  | .hbm, ⟨6, _⟩ => ⟨S16384x2816, .f32⟩
  | .hbm, ⟨7, _⟩ => ⟨S_, .f32⟩
  | .hbm, ⟨8, _⟩ => ⟨S16384x2816, .f32⟩
  | .hbm, ⟨9, _⟩ => ⟨S16384x2816, .f32⟩
  | .hbm, ⟨10, _⟩ => ⟨S_, .f32⟩
  | .hbm, ⟨11, _⟩ => ⟨S16384x2816, .f32⟩
  | .hbm, ⟨12, _⟩ => ⟨S16384x2816, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x2816, .bf16⟩
  | .hbm, ⟨17, _⟩ => ⟨S2816x1024, .bf16⟩
  | .hbm, ⟨18, _⟩ => ⟨S1x1024, .f32⟩
  | .hbm, ⟨19, _⟩ => ⟨S16384x1024, .bf16⟩
  | .hbm, ⟨20, _⟩ => ⟨S16384x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | _, _ => ⟨S16384x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S16384x5632 : Shape := ⟨2, ![16384, 5632]⟩
abbrev S2816x1024 : Shape := ⟨2, ![2816, 1024]⟩
abbrev S1024 : Shape := ⟨1, ![1024]⟩
abbrev S16384x1024 : Shape := ⟨2, ![16384, 1024]⟩
abbrev S16384x2816 : Shape := ⟨2, ![16384, 2816]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S16384x5632, .f32⟩
  | .hbm, ⟨1, _⟩ => ⟨S2816x1024, .f32⟩
  | .hbm, ⟨2, _⟩ => ⟨S1024, .f32⟩
  | .hbm, ⟨3, _⟩ => ⟨S16384x1024, .f32⟩
  | .hbm, ⟨4, _⟩ => ⟨S16384x2816, .f32⟩
  | .hbm, ⟨5, _⟩ => ⟨S16384x2816, .f32⟩
  | .hbm, ⟨6, _⟩ => ⟨S16384x2816, .f32⟩
  | .hbm, ⟨7, _⟩ => ⟨S_, .f32⟩
  | .hbm, ⟨8, _⟩ => ⟨S16384x2816, .f32⟩
  | .hbm, ⟨9, _⟩ => ⟨S16384x2816, .f32⟩
  | .hbm, ⟨10, _⟩ => ⟨S_, .f32⟩
  | .hbm, ⟨11, _⟩ => ⟨S16384x2816, .f32⟩
  | .hbm, ⟨12, _⟩ => ⟨S16384x2816, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x1024, .f32⟩
  | .hbm, ⟨17, _⟩ => ⟨S16384x1024, .bf16⟩
  | .hbm, ⟨18, _⟩ => ⟨S16384x1024, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S16384x1024, .f32⟩
  | _, _ => ⟨S16384x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== Kernel8.lean ====
abbrev S16384x1024 : Shape := ⟨2, ![16384, 1024]⟩
abbrev S1024x1408 : Shape := ⟨2, ![1024, 1408]⟩
abbrev S1024 : Shape := ⟨1, ![1024]⟩
abbrev S16384x1408 : Shape := ⟨2, ![16384, 1408]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S2048x1024 : Shape := ⟨2, ![2048, 1024]⟩
abbrev S2048x1408 : Shape := ⟨2, ![2048, 1408]⟩

abbrev nBuf : Space → Nat
  | .hbm => 23
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x1408, .f32⟩
  | .hbm, ⟨2, _⟩ => ⟨S1024, .f32⟩
  | .hbm, ⟨3, _⟩ => ⟨S16384x1408, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x1024, .bf16⟩
  | .hbm, ⟨21, _⟩ => ⟨S16384x1408, .bf16⟩
  | .hbm, ⟨22, _⟩ => ⟨S1024x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S16384x1024 : Shape := ⟨2, ![16384, 1024]⟩
abbrev S1024x1408 : Shape := ⟨2, ![1024, 1408]⟩
abbrev S1024 : Shape := ⟨1, ![1024]⟩
abbrev S16384x1408 : Shape := ⟨2, ![16384, 1408]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1408x1024 : Shape := ⟨2, ![1408, 1024]⟩

abbrev nBuf : Space → Nat
  | .hbm => 23
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1408, .f32⟩
  | .hbm, ⟨2, _⟩ => ⟨S1024, .f32⟩
  | .hbm, ⟨3, _⟩ => ⟨S16384x1408, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x1408, .f32⟩
  | .hbm, ⟨21, _⟩ => ⟨S1408x1024, .f32⟩
  | .hbm, ⟨22, _⟩ => ⟨S1024x1408, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel9.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 6
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S16384x1024, .bf16⟩
  | .hbm, ⟨4, _⟩ => ⟨S16384x1024, .bf16⟩
  | .hbm, ⟨5, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S16384x1024 : Shape := ⟨2, ![16384, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S16384x1024, .f32⟩
  | .hbm, ⟨4, _⟩ => ⟨S1024x1024, .f32⟩
  | .hbm, ⟨5, _⟩ => ⟨S1024x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel10.lean ====
abbrev S16384x1024 : Shape := ⟨2, ![16384, 1024]⟩
abbrev S1024x1408 : Shape := ⟨2, ![1024, 1408]⟩
abbrev S1024 : Shape := ⟨1, ![1024]⟩
abbrev S1x1024 : Shape := ⟨2, ![1, 1024]⟩
abbrev S16384x1408 : Shape := ⟨2, ![16384, 1408]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩
abbrev S256x1408 : Shape := ⟨2, ![256, 1408]⟩

abbrev nBuf : Space → Nat
  | .hbm => 7
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024x1408, .f32⟩
  | .hbm, ⟨2, _⟩ => ⟨S1024, .f32⟩
  | .hbm, ⟨3, _⟩ => ⟨S1024x1408, .bf16⟩
  | .hbm, ⟨4, _⟩ => ⟨S1x1024, .f32⟩
  | .hbm, ⟨5, _⟩ => ⟨S16384x1024, .bf16⟩
  | .hbm, ⟨6, _⟩ => ⟨S16384x1408, .f32⟩
  | .local _ .vmem, ⟨0, _⟩ => ⟨S1024x1024, .f32⟩
  | .local _ .vmem, ⟨1, _⟩ => ⟨S1024x1024, .f32⟩
  | .local _ .vmem, ⟨2, _⟩ => ⟨S1024x1408, .bf16⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1408, .f32⟩
  | .local _ .vmem, ⟨7, _⟩ => ⟨S1024x1408, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S16384x1024 : Shape := ⟨2, ![16384, 1024]⟩
abbrev S1024x1408 : Shape := ⟨2, ![1024, 1408]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x1408 : Shape := ⟨2, ![16384, 1408]⟩

abbrev nBuf : Space → Nat
  | .hbm => 21
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1408, .f32⟩
  | .hbm, ⟨2, _⟩ => ⟨S1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x1024, .bf16⟩
  | .hbm, ⟨20, _⟩ => ⟨S16384x1408, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel11.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 9
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024, .f32⟩
  | .hbm, ⟨3, _⟩ => ⟨S16384x1024, .f32⟩
  | .hbm, ⟨4, _⟩ => ⟨S16384x1024, .bf16⟩
  | .hbm, ⟨5, _⟩ => ⟨S1024x1024, .bf16⟩
  | .hbm, ⟨6, _⟩ => ⟨S1x1024, .f32⟩
  | .hbm, ⟨7, _⟩ => ⟨S16384x1024, .bf16⟩
  | .hbm, ⟨8, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference11Ideal.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024, .f32⟩
  | .hbm, ⟨3, _⟩ => ⟨S16384x1024, .f32⟩
  | .hbm, ⟨4, _⟩ => ⟨S16384x1024, .f32⟩
  | .hbm, ⟨5, _⟩ => ⟨S16384x1024, .bf16⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel12.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 11
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024, .f32⟩
  | .hbm, ⟨3, _⟩ => ⟨S16384x1024, .f32⟩
  | .hbm, ⟨4, _⟩ => ⟨S16384x1024, .f32⟩
  | .hbm, ⟨5, _⟩ => ⟨S16384x1024, .bf16⟩
  | .hbm, ⟨6, _⟩ => ⟨S1024x1024, .bf16⟩
  | .hbm, ⟨7, _⟩ => ⟨S1x1024, .f32⟩
  | .hbm, ⟨8, _⟩ => ⟨S16384x1024, .bf16⟩
  | .hbm, ⟨9, _⟩ => ⟨S16384x1024, .bf16⟩
  | .hbm, ⟨10, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference12Ideal.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S1024, .f32⟩
  | .hbm, ⟨33, _⟩ => ⟨S16384x1024, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S16384x1024, .f32⟩
  | .hbm, ⟨38, _⟩ => ⟨S16384x1024, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .bf16⟩
  | .hbm, ⟨51, _⟩ => ⟨S16384x1024, .f32⟩
  | .hbm, ⟨52, _⟩ => ⟨S16384x1024, .bf16⟩
  | .hbm, ⟨53, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel13.lean ====
abbrev S16384x1024 : Shape := ⟨2, ![16384, 1024]⟩
abbrev S1024x1408 : Shape := ⟨2, ![1024, 1408]⟩
abbrev S1024 : Shape := ⟨1, ![1024]⟩
abbrev S16384x1408 : Shape := ⟨2, ![16384, 1408]⟩
abbrev S1x1024 : Shape := ⟨2, ![1, 1024]⟩
abbrev S1024x1024 : Shape := ⟨2, ![1024, 1024]⟩
abbrev S256x1408 : Shape := ⟨2, ![256, 1408]⟩
abbrev S256x1024 : Shape := ⟨2, ![256, 1024]⟩
abbrev S256 : Shape := ⟨1, ![256]⟩
abbrev S256x1 : Shape := ⟨2, ![256, 1]⟩

abbrev nBuf : Space → Nat
  | .hbm => 10
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024x1408, .f32⟩
  | .hbm, ⟨2, _⟩ => ⟨S1024, .f32⟩
  | .hbm, ⟨3, _⟩ => ⟨S16384x1024, .f32⟩
  | .hbm, ⟨4, _⟩ => ⟨S16384x1408, .f32⟩
  | .hbm, ⟨5, _⟩ => ⟨S16384x1408, .bf16⟩
  | .hbm, ⟨6, _⟩ => ⟨S1024x1408, .bf16⟩
  | .hbm, ⟨7, _⟩ => ⟨S1x1024, .f32⟩
  | .hbm, ⟨8, _⟩ => ⟨S16384x1024, .f32⟩
  | .hbm, ⟨9, _⟩ => ⟨S1x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference13Ideal.lean ====
abbrev S16384x1024 : Shape := ⟨2, ![16384, 1024]⟩
abbrev S1024x1408 : Shape := ⟨2, ![1024, 1408]⟩
abbrev S1024 : Shape := ⟨1, ![1024]⟩
abbrev S16384x1408 : Shape := ⟨2, ![16384, 1408]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1408, .f32⟩
  | .hbm, ⟨2, _⟩ => ⟨S1024, .f32⟩
  | .hbm, ⟨3, _⟩ => ⟨S16384x1024, .f32⟩
  | .hbm, ⟨4, _⟩ => ⟨S16384x1408, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x1408, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Proof.Row.lean ====
/- One row of attention: real arithmetic, and its reading in the extended reals where every score is a real number. -/
module

public import Idealize.ShloMosaic.PureOps.Ideal
public import Mathlib.Analysis.SpecialFunctions.Log.Basic

@[expose] public section

noncomputable section

open Idealize.ShloMosaic

namespace Cert.Row

variable {n : ℕ} {ι : Type} [Fintype ι]

/-- An extended real that is a real number. -/
def Fin' (x : EReal) : Prop := ∃ r : ℝ, x = (r : EReal)

theorem Fin'.coe (r : ℝ) : Fin' (r : EReal) := ⟨r, rfl⟩

/-- An extended real of absolute value below `⊤` is a real number. -/
theorem fin_of_abs_lt {x : EReal} (h : max x (-x) < ⊤) : Fin' x := by
  induction x with
  | bot => simp at h
  | top => simp at h
  | coe r => exact ⟨r, rfl⟩

/-- A finite sum of real numbers, read in the extended reals. -/
theorem coe_sum {κ : Type} (t : Finset κ) (f : κ → ℝ) : ∑ i ∈ t, ((f i : ℝ) : EReal) = ((∑ i ∈ t, f i : ℝ) : EReal) := by
  classical
  induction t using Finset.induction_on with
  | empty => simp
  | insert a t ha ih => rw [Finset.sum_insert ha, Finset.sum_insert ha, ih, EReal.coe_add]

/-- The weight of key `k`: its exponential over the sum of all. -/
def wt (s : Fin n → ℝ) (k : Fin n) : ℝ := Real.exp (s k) / ∑ j, Real.exp (s j)

variable [NeZero n]

theorem sum_exp_pos (s : Fin n → ℝ) (M : ℝ) : 0 < ∑ j, Real.exp (s j - M) :=
  Finset.sum_pos (fun _ _ => Real.exp_pos _) ⟨0, Finset.mem_univ _⟩

/-- The weight does not depend on what is subtracted from all the scores. -/
theorem exp_div (s : Fin n → ℝ) (M : ℝ) (k : Fin n) :
    Real.exp (s k - M) / ∑ j, Real.exp (s j - M) = wt s k := by
  have h : ∀ j, Real.exp (s j - M) = Real.exp (s j) * Real.exp (-M) := fun j => by
    rw [← Real.exp_add, sub_eq_add_neg]
  simp only [h, ← Finset.sum_mul, wt]
  exact mul_div_mul_right _ _ (Real.exp_pos _).ne'

/-- The same weight by the saved logarithm of the sum. -/
theorem exp_lse (s : Fin n → ℝ) (M : ℝ) (k : Fin n) :
    Real.exp (s k - (M + Real.log (∑ j, Real.exp (s j - M)))) = wt s k := by
  rw [← exp_div s M k, ← sub_sub, Real.exp_sub, Real.exp_log (sum_exp_pos s M)]

/-- The saved logarithm, in the extended reals. -/
theorem lse_coe (s : Fin n → ℝ) (M : ℝ) :
    (M : EReal) + Ideal.log (∑ j, Ideal.exp ((s j : EReal) - M))
      = ((M + Real.log (∑ j, Real.exp (s j - M)) : ℝ) : EReal) := by
  simp only [← EReal.coe_sub, Ideal.exp_coe, coe_sum, Ideal.log_coe]
  rw [if_neg (not_le.mpr (sum_exp_pos s M)), EReal.coe_add]

/-- The recomputed weight. -/
theorem ker_wt (s : Fin n → ℝ) (M : ℝ) (k : Fin n) :
    Ideal.exp ((s k : EReal) - ((M : EReal) + Ideal.log (∑ j, Ideal.exp ((s j : EReal) - M)))) = (wt s k : EReal) := by
  rw [lse_coe, ← EReal.coe_sub, Ideal.exp_coe, exp_lse]

/-- The weight as a quotient. -/
theorem div_wt (s : Fin n → ℝ) (M : ℝ) (k : Fin n) :
    Ideal.div (Ideal.exp ((s k : EReal) - M)) (∑ j, Ideal.exp ((s j : EReal) - M)) = (wt s k : EReal) := by
  simp only [← EReal.coe_sub, Ideal.exp_coe, coe_sum]
  rw [Ideal.div_coe (sum_exp_pos s M).ne', ← EReal.coe_mul, ← exp_div s M k, mul_one_div]

/-- The gradient of a score: the weight times what the weight's own gradient exceeds the weighted mean by. -/
def dsc (s dp : Fin n → ℝ) (k : Fin n) : ℝ := wt s k * (dp k - ∑ j, dp j * wt s j)

/-- The gradient of a score as the derivative of the quotient spells it. -/
theorem ref_dsc (s dp : Fin n → ℝ) (M : ℝ) (k : Fin n) :
    (Ideal.div (dp k : EReal) (∑ j, Ideal.exp ((s j : EReal) - M))
        + -(∑ i, (dp i : EReal) * Ideal.div 1 ((∑ j, Ideal.exp ((s j : EReal) - M)) * (∑ j, Ideal.exp ((s j : EReal) - M)))
            * Ideal.exp ((s i : EReal) - M))) * Ideal.exp ((s k : EReal) - M)
      = (dsc s dp k : EReal) := by
  have hl := (sum_exp_pos s M).ne'
  simp only [← EReal.coe_sub, Ideal.exp_coe, coe_sum, ← EReal.coe_mul]
  rw [Ideal.div_coe hl]
  simp only [Ideal.div_coe (mul_ne_zero hl hl), one_mul, ← EReal.coe_mul, coe_sum, ← EReal.coe_neg, ← EReal.coe_add]
  congr 1
  simp only [dsc, ← exp_div s M]
  set l := ∑ j, Real.exp (s j - M)
  have h : ∑ i, dp i * (1 / (l * l)) * Real.exp (s i - M) = (∑ i, dp i * (Real.exp (s i - M) / l)) / l := by
    rw [Finset.sum_div]
    exact Finset.sum_congr rfl fun i _ => by field_simp
  rw [h]
  field_simp
  ring

/-- The gradient of a score as the kernel has it: the weighted mean is read off the saved output. -/
theorem ker_dsc {m : ℕ} (s : Fin n → ℝ) (g : Fin m → ℝ) (v : Fin n → Fin m → ℝ) (k : Fin n) :
    (wt s k : EReal) * ((∑ d, (g d : EReal) * v k d) - ∑ d, (g d : EReal) * ∑ j, (v j d : EReal) * (wt s j : EReal))
      = (dsc s (fun j => ∑ d, g d * v j d) k : EReal) := by
  simp only [← EReal.coe_mul, coe_sum, ← EReal.coe_sub]
  congr 1
  simp only [dsc, Finset.mul_sum, Finset.sum_mul]
  rw [Finset.sum_comm]
  congr 2
  exact Finset.sum_congr rfl fun j _ => Finset.sum_congr rfl fun d _ => by ring

/-- The largest of real numbers, folded from `⊥` over an inhabited list, is a real number. -/
theorem fin_foldl_max {κ : Type} (f : κ → EReal) (hf : ∀ i, Fin' (f i)) (l : List κ) (a : EReal) (ha : a = ⊥ ∨ Fin' a)
    (h : l ≠ [] ∨ Fin' a) : Fin' (l.foldl (fun b i => max b (f i)) a) := by
  induction l generalizing a with
  | nil => exact h.resolve_left (fun h => h rfl)
  | cons x l ih =>
    have hx : Fin' (max a (f x)) := by
      obtain ⟨r, hr⟩ := hf x
      rcases ha with rfl | ⟨s, rfl⟩
      · exact ⟨r, by simp [hr]⟩
      · exact ⟨max s r, by rw [hr]; exact (EReal.coe_strictMono.monotone.map_max).symm⟩
    exact ih _ (Or.inr hx) (Or.inr hx)

end Cert.Row

end
-- ==== Proof.Chain.lean ====
/- One chain of the kernel's body: 128 rows of one head against the 2048 keys of the point, as operations on the
   loaded parts, and each of them read at an index. -/
module

public import proofs.«01_k».proof.Proof.Gen.KernelIdeal.Skeleton
public import Idealize.ShloMosaic.Lib.Pipeline.ValueKit
public import proofs.«01_k».proof.Proof.Row

@[expose] public section

set_option maxRecDepth 16384

noncomputable section

open Idealize.ShloMosaic Idealize.SL.Sem

namespace Cert.KernelIdeal.Chain

open Cert.KernelIdeal Cert.KernelIdeal.Gen Facts

/-- The scores of the rows `q` against the keys `k`. -/
def scr (k : FVec Ideal S1x2048x64 .bf16) (q : FVec Ideal S128x64 .bf16) : FVec Ideal S128x2048 .f32 :=
  matmul dot_S128x64_S2048x64_S128x2048_1_1_0_0_n_n none (mulf q (broadcast S128x64 (Scalar.ofBits (F := Ideal) .bf16 0x3E00#16)))
    (shapeCast S2048x64 k shapeCasts_S1x2048x64_S2048x64) (constant S128x2048 .f32 0x00000000#32)

/-- The weights recomputed from the scores and the saved logarithms `l`. -/
def wgt (k : FVec Ideal S1x2048x64 .bf16) (q : FVec Ideal S128x64 .bf16) (l : FVec Ideal S1x1x128x1 .f32) : FVec Ideal S128x2048 .f32 :=
  exp (subf (scr k q) (broadcastTo S128x2048 (shapeCast S128x1 l shapeCasts_S1x1x128x1_S128x1) broadcasts_S128x1_S128x2048))

/-- The gradient of the weights less the row's mean `Σ g·o`. -/
def dwg (v : FVec Ideal S1x2048x64 .bf16) (g o : FVec Ideal S128x64 .bf16) : FVec Ideal S128x2048 .f32 :=
  subf (matmul dot_S128x64_S2048x64_S128x2048_1_1_0_0_n_n none g (shapeCast S2048x64 v shapeCasts_S1x2048x64_S2048x64)
      (constant S128x2048 .f32 0x00000000#32))
    (broadcastTo S128x2048 (shapeCast S128x1 (multiReduction .add [1] S128
      (mulf (extf .f32 g bitsLt_bf16_f32) (extf .f32 (shapeCast S128x64 o shapeCasts_S128x64_S128x64) bitsLt_bf16_f32))
      0x00000000#32 reduces_S128x64_S128 (.inl rfl) rfl) shapeCasts_S128_S128x1) broadcasts_S128x1_S128x2048)

/-- The gradient of the scores. -/
def dsc (k v : FVec Ideal S1x2048x64 .bf16) (q g o : FVec Ideal S128x64 .bf16) (l : FVec Ideal S1x1x128x1 .f32) : FVec Ideal S128x2048 .bf16 :=
  truncf .bf16 (mulf (wgt k q l) (dwg v g o)) bitsLt_bf16_f32

/-- The accumulated gradient of the values after this chain. -/
def addV (k : FVec Ideal S1x2048x64 .bf16) (q g : FVec Ideal S128x64 .bf16) (l : FVec Ideal S1x1x128x1 .f32)
    (a : FVec Ideal S1x2048x64 .f32) : FVec Ideal S1x2048x64 .f32 :=
  shapeCast S1x2048x64 (addf (shapeCast S2048x64 a shapeCasts_S1x2048x64_S2048x64)
    (matmul dot_S128x2048_S128x64_S2048x64_0_0_1_1_n_n none (truncf .bf16 (wgt k q l) bitsLt_bf16_f32) g
      (constant S2048x64 .f32 0x00000000#32))) shapeCasts_S2048x64_S1x2048x64

/-- The accumulated gradient of the keys after this chain. -/
def addK (k v : FVec Ideal S1x2048x64 .bf16) (q g o : FVec Ideal S128x64 .bf16) (l : FVec Ideal S1x1x128x1 .f32)
    (a : FVec Ideal S1x2048x64 .f32) : FVec Ideal S1x2048x64 .f32 :=
  shapeCast S1x2048x64 (addf (shapeCast S2048x64 a shapeCasts_S1x2048x64_S2048x64)
    (matmul dot_S128x2048_S128x64_S2048x64_0_0_1_1_n_n none (dsc k v q g o l)
      (mulf q (broadcast S128x64 (Scalar.ofBits (F := Ideal) .bf16 0x3E00#16)))
      (constant S2048x64 .f32 0x00000000#32))) shapeCasts_S2048x64_S1x2048x64

/-- The rows' part of the gradient of the queries. -/
def putQ (k v : FVec Ideal S1x2048x64 .bf16) (q g o : FVec Ideal S128x64 .bf16) (l : FVec Ideal S1x1x128x1 .f32) : FVec Ideal S1x128x64 .f32 :=
  shapeCast S1x128x64 (mulf (matmul dot_S128x2048_S2048x64_S128x64_1_0_0_1_n_n none (dsc k v q g o l)
    (shapeCast S2048x64 k shapeCasts_S1x2048x64_S2048x64) (constant S128x64 .f32 0x00000000#32))
    (broadcast S128x64 (Scalar.ofBits (F := Ideal) .f32 0x3E000000#32))) shapeCasts_S128x64_S1x128x64

theorem eighth_bf16 : Ideal.ofBits .bf16 0x3E00#16 = ((1 / 8 : ℝ) : EReal) := by
  simp [Ideal.ofBits, Ideal.ieee]; rw [← EReal.coe_mul]; norm_num

theorem eighth_f32 : Ideal.ofBits .f32 0x3E000000#32 = ((1 / 8 : ℝ) : EReal) := by
  simp [Ideal.ofBits, Ideal.ieee]; rw [← EReal.coe_mul]; norm_num

/-- A score times 1/8, row `r` against key `x`. -/
theorem scr_apply (k q) (r : Fin 128) (x : Fin 2048) :
    scr k q (ix2 r x) = ∑ d : Fin 64, q (ix2 r d) * ((1 / 8 : ℝ) : EReal) * k (ix3 (0 : Fin 1) x d) := by
  rw [← eighth_bf16]; pointwise [scr]

theorem wgt_apply (k q l) (r : Fin 128) (x : Fin 2048) :
    wgt k q l (ix2 r x) = Ideal.exp (scr k q (ix2 r x) - l (ix4 (0 : Fin 1) (0 : Fin 1) r (0 : Fin 1))) := by
  pointwise [wgt]

theorem dwg_apply (v g o) (r : Fin 128) (x : Fin 2048) :
    dwg v g o (ix2 r x) = (∑ d : Fin 64, g (ix2 r d) * v (ix3 (0 : Fin 1) x d)) - ∑ d : Fin 64, g (ix2 r d) * o (ix2 r d) := by
  pointwise [dwg]

theorem dsc_apply (k v q g o l) (r : Fin 128) (x : Fin 2048) :
    dsc k v q g o l (ix2 r x) = wgt k q l (ix2 r x) * dwg v g o (ix2 r x) := by
  pointwise [dsc]

theorem addV_apply (k q g l a) (x : Fin 2048) (d : Fin 64) :
    addV k q g l a (ix3 (0 : Fin 1) x d) = a (ix3 (0 : Fin 1) x d) + ∑ r : Fin 128, wgt k q l (ix2 r x) * g (ix2 r d) := by
  pointwise [addV]

theorem addK_apply (k v q g o l a) (x : Fin 2048) (d : Fin 64) :
    addK k v q g o l a (ix3 (0 : Fin 1) x d) = a (ix3 (0 : Fin 1) x d)
      + ∑ r : Fin 128, dsc k v q g o l (ix2 r x) * (q (ix2 r d) * ((1 / 8 : ℝ) : EReal)) := by
  rw [← eighth_bf16]; pointwise [addK]

theorem putQ_apply (k v q g o l) (r : Fin 128) (d : Fin 64) :
    putQ k v q g o l (ix3 (0 : Fin 1) r d)
      = (∑ x : Fin 2048, dsc k v q g o l (ix2 r x) * k (ix3 (0 : Fin 1) x d)) * ((1 / 8 : ℝ) : EReal) := by
  rw [← eighth_f32]; pointwise [putQ]

end Cert.KernelIdeal.Chain

end
-- ==== Proof.Point.lean ====
/- What the body leaves at one grid point, as 32 chains over the point's blocks: the two accumulated gradients and the
   block of the gradient of the queries. -/
module

public import proofs.«01_k».proof.Proof.Gen.KernelIdeal.Frame
public import proofs.«01_k».proof.Proof.Chain

@[expose] public section

set_option maxRecDepth 16384

noncomputable section

open Idealize.ShloMosaic Idealize.ShloMosaic.TcCoe Idealize.SL.Sem

namespace Cert.KernelIdeal.Point

open Cert.KernelIdeal Cert.KernelIdeal.Gen Cert.KernelIdeal.Chain Facts

/-- The first row and the first column of chain `c` in a block of 1024 rows and 4 heads. -/
theorem inb_part (c : Fin 32) : ∀ a, (![128 * (c.val % 8), 64 * (c.val / 8)] : Fin 2 → Nat) a + (![128, 64] : Fin 2 → Nat) a ≤ S1024x256.size a := by
  revert c; decide
theorem inb_lpart (c : Fin 32) : ∀ a, (![0, c.val / 8, 128 * (c.val % 8), 0] : Fin 4 → Nat) a + (![1, 1, 128, 1] : Fin 4 → Nat) a ≤ S1x4x1024x1.size a := by
  revert c; decide
theorem inb_qpart (c : Fin 32) : ∀ a, (![0, 128 * (c.val % 8), 64 * (c.val / 8)] : Fin 3 → Nat) a + (![1, 128, 64] : Fin 3 → Nat) a ≤ S1x1024x256.size a := by
  revert c; decide

/-- Chain `c`'s part of a block of rows. -/
def part (X : FVec Ideal S1024x256 .bf16) (c : Fin 32) : FVec Ideal S128x64 .bf16 :=
  View.ld (Val := Elt Ideal) (S := S1024x256) (e' := .bf16) X (Rect.unit (s := S1024x256) ![128 * (c.val % 8), 64 * (c.val / 8)] ![128, 64] (inb_part c))

/-- Chain `c`'s part of the saved logarithms. -/
def lpart (X : FVec Ideal S1x4x1024x1 .f32) (c : Fin 32) : FVec Ideal S1x1x128x1 .f32 :=
  View.ld (Val := Elt Ideal) (S := S1x4x1024x1) (e' := .f32) X (Rect.unit (s := S1x4x1024x1) ![0, c.val / 8, 128 * (c.val % 8), 0] ![1, 1, 128, 1] (inb_lpart c))

/-- The gradient of the values, accumulated over all chains. -/
def allV (k : FVec Ideal S1x2048x64 .bf16) (q g : FVec Ideal S1024x256 .bf16) (l : FVec Ideal S1x4x1024x1 .f32)
    (a : FVec Ideal S1x2048x64 .f32) : FVec Ideal S1x2048x64 .f32 :=
  (List.finRange 32).foldl (fun a c => addV k (part q c) (part g c) (lpart l c) a) a

/-- The gradient of the keys, accumulated over all chains. -/
def allK (k v : FVec Ideal S1x2048x64 .bf16) (q g o : FVec Ideal S1024x256 .bf16) (l : FVec Ideal S1x4x1024x1 .f32)
    (a : FVec Ideal S1x2048x64 .f32) : FVec Ideal S1x2048x64 .f32 :=
  (List.finRange 32).foldl (fun a c => addK k v (part q c) (part g c) (part o c) (lpart l c) a) a

/-- The block of the gradient of the queries: every chain's part stored at its place. -/
def allQ (k v : FVec Ideal S1x2048x64 .bf16) (q g o : FVec Ideal S1024x256 .bf16) (l : FVec Ideal S1x4x1024x1 .f32) :
    FVec Ideal S1x1024x256 .f32 :=
  View.canon (Val := Elt Ideal) (e := .f32) (List.ofFn fun c : Fin 32 =>
    (⟨Rect.unit ![0, 128 * (c.rev.val % 8), 64 * (c.rev.val / 8)] ![1, 128, 64] (inb_qpart c.rev),
      putQ k v (part q c.rev) (part g c.rev) (part o c.rev) (lpart l c.rev)⟩ : View.Piece (Elt Ideal) S1x1024x256 .f32))

/-- The chains in order. -/
theorem chains : List.finRange 32 = [0, 1, 2, 3, 4, 5, 6, 7, 8, 9, 10, 11, 12, 13, 14, 15, 16, 17, 18, 19, 20, 21, 22, 23, 24, 25, 26, 27, 28, 29, 30, 31] := by
  decide

end Cert.KernelIdeal.Point

end
-- ==== Proof.Block.lean ====
/- The blocks of a grid point read at an index of their arrays. -/
module

public import proofs.«01_k».proof.Proof.Point

@[expose] public section

set_option maxRecDepth 16384

noncomputable section

open Idealize.ShloMosaic Idealize.ShloMosaic.TcCoe Idealize.SL.Sem

namespace Cert.KernelIdeal.Block

open Cert.KernelIdeal Cert.KernelIdeal.Gen Cert.KernelIdeal.Point Facts

/-- Point `t` is the group of heads `t / 128`, the block of keys `t / 16 % 8` and the block of rows `t % 16`. -/
theorem idx : ∀ t : Fin cfg0.N, win0_0.index t = ![t.val % 16, t.val / 128] ∧ win0_1.index t = ![t.val / 128, t.val / 16 % 8, 0]
    ∧ win0_2.index t = ![t.val / 128, t.val / 16 % 8, 0] ∧ win0_3.index t = ![t.val % 16, t.val / 128]
    ∧ win0_4.index t = ![t.val / 128, 0, t.val % 16, 0] ∧ win0_5.index t = ![t.val % 16, t.val / 128]
    ∧ win0_6.index t = ![t.val / 16 % 8, t.val % 16, t.val / 128] ∧ win0_7.index t = ![t.val / 128, t.val / 16 % 8, 0]
    ∧ win0_8.index t = ![t.val / 128, t.val / 16 % 8, 0] := (by decide +kernel : ∀ t : Fin grid0.N, _)

variable (m : (ℓ : Loc nD τ sig) → Buf (Elt Ideal) ℓ)

theorem k_at (c : Dev nD) (t : Fin cfg0.N) (x : Fin 2048) (d : Fin 64) (g : Fin 3) (X : Fin 16384) (hg : (g : ℕ) = t.val / 128)
    (hX : (X : ℕ) = t.val / 16 % 8 * 2048 + x) : iblk m c 1 t (ix3 (0 : Fin 1) x d) = V m c main_arg1 (ix3 g X d) := by
  unfold iblk
  generalize V m c = A
  blk_ext [idx t]

theorem v_at (c : Dev nD) (t : Fin cfg0.N) (x : Fin 2048) (d : Fin 64) (g : Fin 3) (X : Fin 16384) (hg : (g : ℕ) = t.val / 128)
    (hX : (X : ℕ) = t.val / 16 % 8 * 2048 + x) : iblk m c 2 t (ix3 (0 : Fin 1) x d) = V m c main_arg2 (ix3 g X d) := by
  unfold iblk
  generalize V m c = A
  blk_ext [idx t]

theorem part_apply (X : FVec Ideal S1024x256 .bf16) (b : Fin 32) (r : Fin 128) (d : Fin 64) :
    part X b (ix2 r d) = X (ix2 ⟨128 * (b.val % 8) + r, by omega⟩ ⟨64 * (b.val / 8) + d, by omega⟩) := by
  unfold part
  refine View.ld_unit_apply_of (Val := Elt Ideal) (e := .bf16) (S := S1024x256) X ![128 * (b.val % 8), 64 * (b.val / 8)] ![128, 64] (inb_part b) (ix2 r d) _ fun a => ?_
  fin_cases a <;> rfl

theorem lpart_apply (X : FVec Ideal S1x4x1024x1 .f32) (b : Fin 32) (r : Fin 128) :
    lpart X b (ix4 (0 : Fin 1) (0 : Fin 1) r (0 : Fin 1)) = X (ix4 (0 : Fin 1) ⟨b.val / 8, by omega⟩ ⟨128 * (b.val % 8) + r, by omega⟩ (0 : Fin 1)) := by
  unfold lpart
  refine View.ld_unit_apply_of (Val := Elt Ideal) (e := .f32) (S := S1x4x1024x1) X ![0, b.val / 8, 128 * (b.val % 8), 0] ![1, 1, 128, 1] (inb_lpart b)
    (ix4 (0 : Fin 1) (0 : Fin 1) r (0 : Fin 1)) _ fun a => ?_
  fin_cases a <;> rfl

theorem q_at (c : Dev nD) (t : Fin cfg0.N) (b : Fin 32) (r : Fin 128) (d : Fin 64) (R : Fin 16384) (C : Fin 1408)
    (hR : (R : ℕ) = t.val % 16 * 1024 + (128 * (b.val % 8) + r)) (hC : (C : ℕ) = t.val / 128 * 256 + (64 * (b.val / 8) + d)) :
    part (X0_0 m c t) b (ix2 r d) = V m c main_arg0 (ix2 R C) := by
  rw [part_apply]
  unfold X0_0 Pipeline.Window.fill
  rw [dif_pos (moved0_0 t _)]
  unfold iblk
  generalize V m c = A
  blk_ext [idx t]

theorem g_at (c : Dev nD) (t : Fin cfg0.N) (b : Fin 32) (r : Fin 128) (d : Fin 64) (R : Fin 16384) (C : Fin 1024)
    (hR : (R : ℕ) = t.val % 16 * 1024 + (128 * (b.val % 8) + r)) (hC : (C : ℕ) = t.val / 128 * 256 + (64 * (b.val / 8) + d)) :
    part (iblk m c 3 t) b (ix2 r d) = V m c main_arg4 (ix2 R C) := by
  rw [part_apply]
  unfold iblk
  generalize V m c = A
  blk_ext [idx t]

theorem o_at (c : Dev nD) (t : Fin cfg0.N) (b : Fin 32) (r : Fin 128) (d : Fin 64) (R : Fin 16384) (C : Fin 1024)
    (hR : (R : ℕ) = t.val % 16 * 1024 + (128 * (b.val % 8) + r)) (hC : (C : ℕ) = t.val / 128 * 256 + (64 * (b.val / 8) + d)) :
    part (iblk m c 5 t) b (ix2 r d) = V m c main_v24 (ix2 R C) := by
  rw [part_apply]
  unfold iblk
  generalize V m c = A
  blk_ext [idx t]

/-- The block of logarithms of any contents of their array. -/
theorem l_read (c : Dev nD) (A : (b : Ref sig .tc) → Buf (Elt Ideal) ((c : Thread nD τ).loc b)) (t : Fin cfg0.N) (h : Fin 4) (r : Fin 1024)
    (g : Fin 3) (R : Fin 16384) (hg : (g : ℕ) = t.val / 128) (hR : (R : ℕ) = t.val % 16 * 1024 + r) :
    ((cfg0.win 4).blk t).view.read (Elt Ideal) (A main_v23) (ix4 (0 : Fin 1) h r (0 : Fin 1)) = A main_v23 (ix4 g h R (0 : Fin 1)) := by
  blk_ext [idx t]

theorem l_at (c : Dev nD) (t : Fin cfg0.N) (b : Fin 32) (r : Fin 128) (g : Fin 3) (h : Fin 4) (R : Fin 16384)
    (hg : (g : ℕ) = t.val / 128) (hh : (h : ℕ) = b.val / 8) (hR : (R : ℕ) = t.val % 16 * 1024 + (128 * (b.val % 8) + r)) :
    lpart (iblk m c 4 t) b (ix4 (0 : Fin 1) (0 : Fin 1) r (0 : Fin 1)) = V m c main_v23 (ix4 g h R (0 : Fin 1)) := by
  rw [lpart_apply]
  have e : h = ⟨b.val / 8, Nat.div_lt_of_lt_mul b.isLt⟩ := Fin.ext hh
  rw [e]
  exact l_read c (V m c) t ⟨b.val / 8, _⟩ ⟨128 * (b.val % 8) + r, by omega⟩ g R hg hR

end Cert.KernelIdeal.Block

end
-- ==== Proof.PointA.lean ====
/- The grid points at which a group of keys begins: what the body leaves is the 32 chains over the point's blocks. -/
module

public import proofs.«01_k».proof.Proof.Point
public import Idealize.ShloMosaic.Lib.Pipeline.ReadBack

@[expose] public section

set_option maxRecDepth 16384

noncomputable section

open Idealize.ShloMosaic Idealize.ShloMosaic.TcCoe Idealize.SL.Sem

namespace Cert.KernelIdeal.Point

open Cert.KernelIdeal Cert.KernelIdeal.Gen Cert.KernelIdeal.Chain Facts

variable (m : (ℓ : Loc nD τ sig) → Buf (Elt Ideal) ℓ)

/-- The accumulated gradient of the keys. -/
theorem dk_A (c : Dev nD) (t : Fin cfg0.N) (h0 : t.val % 16 = 0) (h1 : ¬t.val % 16 = 15) :
    (outsAt0 m c t.val t.isLt).2.2.2.1 = allK (iblk m c 1 t) (iblk m c 2 t) (X0_0 m c t) (iblk m c 3 t) (iblk m c 5 t) (iblk m c 4 t)
      (constant (F := Ideal) S1x2048x64 .f32 0x00000000#32) := by
  rw [outsAt0_A m c t h0 h1]; frame_out
  generalize X0_0 m c t = x0; generalize iblk m c 1 t = x1; generalize iblk m c 2 t = x2; generalize iblk m c 3 t = x3
  generalize iblk m c 4 t = x4; generalize iblk m c 5 t = x5
  simp only [allK, chains, List.foldl_cons, List.foldl_nil]
  rfl

/-- The accumulated gradient of the values. -/
theorem dv_A (c : Dev nD) (t : Fin cfg0.N) (h0 : t.val % 16 = 0) (h1 : ¬t.val % 16 = 15) :
    (outsAt0 m c t.val t.isLt).2.2.2.2 = allV (iblk m c 1 t) (X0_0 m c t) (iblk m c 3 t) (iblk m c 4 t)
      (constant (F := Ideal) S1x2048x64 .f32 0x00000000#32) := by
  rw [outsAt0_A m c t h0 h1]; frame_out
  generalize X0_0 m c t = x0; generalize iblk m c 1 t = x1; generalize iblk m c 2 t = x2; generalize iblk m c 3 t = x3
  generalize iblk m c 4 t = x4; generalize iblk m c 5 t = x5
  simp only [allV, chains, List.foldl_cons, List.foldl_nil]
  rfl

/-- The block of the gradient of the queries. -/
theorem dq_A (c : Dev nD) (t : Fin cfg0.N) (h0 : t.val % 16 = 0) (h1 : ¬t.val % 16 = 15) :
    (outsAt0 m c t.val t.isLt).1 = allQ (iblk m c 1 t) (iblk m c 2 t) (X0_0 m c t) (iblk m c 3 t) (iblk m c 5 t) (iblk m c 4 t) := by
  rw [outsAt0_A m c t h0 h1]; frame_out
  generalize X0_0 m c t = x0; generalize iblk m c 1 t = x1; generalize iblk m c 2 t = x2; generalize iblk m c 3 t = x3
  generalize iblk m c 4 t = x4; generalize iblk m c 5 t = x5
  rfl

end Cert.KernelIdeal.Point

end
-- ==== Proof.PointB.lean ====
/- The grid points in the middle of a group of keys: what the body leaves is the 32 chains over the point's blocks. -/
module

public import proofs.«01_k».proof.Proof.Point
public import Idealize.ShloMosaic.Lib.Pipeline.ReadBack

@[expose] public section

set_option maxRecDepth 16384

noncomputable section

open Idealize.ShloMosaic Idealize.ShloMosaic.TcCoe Idealize.SL.Sem

namespace Cert.KernelIdeal.Point

open Cert.KernelIdeal Cert.KernelIdeal.Gen Cert.KernelIdeal.Chain Facts

variable (m : (ℓ : Loc nD τ sig) → Buf (Elt Ideal) ℓ)

/-- The accumulated gradient of the keys. -/
theorem dk_B (c : Dev nD) (t : Fin cfg0.N) (h0 : ¬t.val % 16 = 0) (h1 : ¬t.val % 16 = 15) :
    (outsAt0 m c t.val t.isLt).2.2.2.1 = allK (iblk m c 1 t) (iblk m c 2 t) (X0_0 m c t) (iblk m c 3 t) (iblk m c 5 t) (iblk m c 4 t)
      (outsAt0 m c (t.val - 1) (Nat.lt_of_le_of_lt (Nat.sub_le _ _) t.isLt)).2.2.2.1 := by
  rw [outsAt0_B m c t h0 h1]; frame_out
  rw [read_unread_whole]
  generalize (outsAt0 m c (t.val - 1) (Nat.lt_of_le_of_lt (Nat.sub_le _ _) t.isLt)).2.2.2.1 = a
  generalize X0_0 m c t = x0; generalize iblk m c 1 t = x1; generalize iblk m c 2 t = x2; generalize iblk m c 3 t = x3
  generalize iblk m c 4 t = x4; generalize iblk m c 5 t = x5
  simp only [allK, chains, List.foldl_cons, List.foldl_nil]
  rfl

/-- The accumulated gradient of the values. -/
theorem dv_B (c : Dev nD) (t : Fin cfg0.N) (h0 : ¬t.val % 16 = 0) (h1 : ¬t.val % 16 = 15) :
    (outsAt0 m c t.val t.isLt).2.2.2.2 = allV (iblk m c 1 t) (X0_0 m c t) (iblk m c 3 t) (iblk m c 4 t)
      (outsAt0 m c (t.val - 1) (Nat.lt_of_le_of_lt (Nat.sub_le _ _) t.isLt)).2.2.2.2 := by
  rw [outsAt0_B m c t h0 h1]; frame_out
  rw [read_unread_whole]
  generalize (outsAt0 m c (t.val - 1) (Nat.lt_of_le_of_lt (Nat.sub_le _ _) t.isLt)).2.2.2.2 = a
  generalize X0_0 m c t = x0; generalize iblk m c 1 t = x1; generalize iblk m c 2 t = x2; generalize iblk m c 3 t = x3
  generalize iblk m c 4 t = x4; generalize iblk m c 5 t = x5
  simp only [allV, chains, List.foldl_cons, List.foldl_nil]
  rfl

/-- The block of the gradient of the queries. -/
theorem dq_B (c : Dev nD) (t : Fin cfg0.N) (h0 : ¬t.val % 16 = 0) (h1 : ¬t.val % 16 = 15) :
    (outsAt0 m c t.val t.isLt).1 = allQ (iblk m c 1 t) (iblk m c 2 t) (X0_0 m c t) (iblk m c 3 t) (iblk m c 5 t) (iblk m c 4 t) := by
  rw [outsAt0_B m c t h0 h1]; frame_out
  generalize X0_0 m c t = x0; generalize iblk m c 1 t = x1; generalize iblk m c 2 t = x2; generalize iblk m c 3 t = x3
  generalize iblk m c 4 t = x4; generalize iblk m c 5 t = x5
  rfl

end Cert.KernelIdeal.Point

end
-- ==== Proof.PointC.lean ====
/- The grid points at which a group of keys ends: what the body leaves is the 32 chains over the point's blocks. -/
module

public import proofs.«01_k».proof.Proof.Point
public import Idealize.ShloMosaic.Lib.Pipeline.ReadBack

@[expose] public section

set_option maxRecDepth 16384

noncomputable section

open Idealize.ShloMosaic Idealize.ShloMosaic.TcCoe Idealize.SL.Sem

namespace Cert.KernelIdeal.Point

open Cert.KernelIdeal Cert.KernelIdeal.Gen Cert.KernelIdeal.Chain Facts

variable (m : (ℓ : Loc nD τ sig) → Buf (Elt Ideal) ℓ)

/-- The accumulated gradient of the keys. -/
theorem dk_C (c : Dev nD) (t : Fin cfg0.N) (h0 : ¬t.val % 16 = 0) (h1 : t.val % 16 = 15) :
    (outsAt0 m c t.val t.isLt).2.2.2.1 = allK (iblk m c 1 t) (iblk m c 2 t) (X0_0 m c t) (iblk m c 3 t) (iblk m c 5 t) (iblk m c 4 t)
      (outsAt0 m c (t.val - 1) (Nat.lt_of_le_of_lt (Nat.sub_le _ _) t.isLt)).2.2.2.1 := by
  rw [outsAt0_C m c t h0 h1]; frame_out
  rw [read_unread_whole]
  generalize (outsAt0 m c (t.val - 1) (Nat.lt_of_le_of_lt (Nat.sub_le _ _) t.isLt)).2.2.2.1 = a
  generalize X0_0 m c t = x0; generalize iblk m c 1 t = x1; generalize iblk m c 2 t = x2; generalize iblk m c 3 t = x3
  generalize iblk m c 4 t = x4; generalize iblk m c 5 t = x5
  simp only [allK, chains, List.foldl_cons, List.foldl_nil]
  rfl

/-- The accumulated gradient of the values. -/
theorem dv_C (c : Dev nD) (t : Fin cfg0.N) (h0 : ¬t.val % 16 = 0) (h1 : t.val % 16 = 15) :
    (outsAt0 m c t.val t.isLt).2.2.2.2 = allV (iblk m c 1 t) (X0_0 m c t) (iblk m c 3 t) (iblk m c 4 t)
      (outsAt0 m c (t.val - 1) (Nat.lt_of_le_of_lt (Nat.sub_le _ _) t.isLt)).2.2.2.2 := by
  rw [outsAt0_C m c t h0 h1]; frame_out
  rw [read_unread_whole]
  generalize (outsAt0 m c (t.val - 1) (Nat.lt_of_le_of_lt (Nat.sub_le _ _) t.isLt)).2.2.2.2 = a
  generalize X0_0 m c t = x0; generalize iblk m c 1 t = x1; generalize iblk m c 2 t = x2; generalize iblk m c 3 t = x3
  generalize iblk m c 4 t = x4; generalize iblk m c 5 t = x5
  simp only [allV, chains, List.foldl_cons, List.foldl_nil]
  rfl

/-- The block of the gradient of the queries. -/
theorem dq_C (c : Dev nD) (t : Fin cfg0.N) (h0 : ¬t.val % 16 = 0) (h1 : t.val % 16 = 15) :
    (outsAt0 m c t.val t.isLt).1 = allQ (iblk m c 1 t) (iblk m c 2 t) (X0_0 m c t) (iblk m c 3 t) (iblk m c 5 t) (iblk m c 4 t) := by
  rw [outsAt0_C m c t h0 h1]; frame_out
  generalize X0_0 m c t = x0; generalize iblk m c 1 t = x1; generalize iblk m c 2 t = x2; generalize iblk m c 3 t = x3
  generalize iblk m c 4 t = x4; generalize iblk m c 5 t = x5
  rfl

/-- The block of the gradient of the keys written out: the accumulated one, cast. -/
theorem outK (c : Dev nD) (t : Fin cfg0.N) (h0 : ¬t.val % 16 = 0) (h1 : t.val % 16 = 15) :
    (outsAt0 m c t.val t.isLt).2.1 = k0_pay2 (F := Ideal) (outsAt0 m c t.val t.isLt).2.2.2.1 := by
  rw [outsAt0_C m c t h0 h1]; frame_out

/-- The block of the gradient of the values written out: the accumulated one, cast. -/
theorem outV (c : Dev nD) (t : Fin cfg0.N) (h0 : ¬t.val % 16 = 0) (h1 : t.val % 16 = 15) :
    (outsAt0 m c t.val t.isLt).2.2.1 = k0_pay3 (F := Ideal) (outsAt0 m c t.val t.isLt).2.2.2.2 := by
  rw [outsAt0_C m c t h0 h1]; frame_out

end Cert.KernelIdeal.Point

end
-- ==== Proof.Fold.lean ====
/- The kernel's three results at an index, as sums over the chains and the grid points of entries of the arrays that the
   launch takes. -/
module

public import proofs.«01_k».proof.Proof.Block
public import proofs.«01_k».proof.Proof.PointA
public import proofs.«01_k».proof.Proof.PointB
public import proofs.«01_k».proof.Proof.PointC

@[expose] public section

set_option maxRecDepth 16384

noncomputable section

open Idealize.ShloMosaic Idealize.ShloMosaic.TcCoe Idealize.SL.Sem

namespace Cert.KernelIdeal.Fold

open Cert.KernelIdeal Cert.KernelIdeal.Gen Cert.KernelIdeal.Point Cert.KernelIdeal.Block Cert.KernelIdeal.Chain Facts

/-- A sum over a list's elements, added one by one. -/
theorem foldl_apply {ι α : Type} {M : Type} [AddCommMonoid M] (f : ι → (α → M) → α → M) (p : ι → M) (i : α)
    (h : ∀ c a, f c a i = a i + p c) (l : List ι) (a : α → M) : l.foldl (fun a c => f c a) a i = a i + (l.map p).sum := by
  induction l generalizing a with
  | nil => simp
  | cons c l ih => rw [List.foldl_cons, ih, h, List.map_cons, List.sum_cons, add_assoc]

theorem allV_apply (k q g l a) (x : Fin 2048) (d : Fin 64) : allV k q g l a (ix3 (0 : Fin 1) x d)
    = a (ix3 (0 : Fin 1) x d) + ∑ b : Fin 32, ∑ r : Fin 128, wgt k (part q b) (lpart l b) (ix2 r x) * part g b (ix2 r d) := by
  unfold allV
  rw [foldl_apply _ _ _ (fun b a => addV_apply k (part q b) (part g b) (lpart l b) a x d), ← Fin.sum_univ_def]

theorem allK_apply (k v q g o l a) (x : Fin 2048) (d : Fin 64) : allK k v q g o l a (ix3 (0 : Fin 1) x d)
    = a (ix3 (0 : Fin 1) x d)
      + ∑ b : Fin 32, ∑ r : Fin 128, dsc k v (part q b) (part g b) (part o b) (lpart l b) (ix2 r x) * (part q b (ix2 r d) * ((1 / 8 : ℝ) : EReal)) := by
  unfold allK
  rw [foldl_apply _ _ _ (fun b a => addK_apply k v (part q b) (part g b) (part o b) (lpart l b) a x d), ← Fin.sum_univ_def]

/-- The block of the gradient of the queries at an index: of the chain that stores there. -/
theorem allQ_apply (k v q g o l) (b : Fin 32) (r : Fin 128) (d : Fin 64) (y : S1x1024x256.Idx)
    (h1 : (y 1 : ℕ) = 128 * (b.val % 8) + r) (h2 : (y 2 : ℕ) = 64 * (b.val / 8) + d) : allQ k v q g o l y
    = putQ k v (part q b) (part g b) (part o b) (lpart l b) (ix3 (0 : Fin 1) r d) := by
  have hr := r.isLt; have hd := d.isLt; have hb := b.isLt
  have h0 : (y 0 : ℕ) = 0 := by have := (y 0).isLt; change _ < 1 at this; omega
  unfold allQ
  refine View.canon_ofFn_unit_eq_of_forall (Val := Elt Ideal) (e := .f32) (fun b : Fin 32 => ![0, 128 * (b.rev.val % 8), 64 * (b.rev.val / 8)]) ![1, 128, 64]
    (fun b => inb_qpart b.rev) (fun b => putQ k v (part q b.rev) (part g b.rev) (part o b.rev) (lpart l b.rev)) y _ ⟨b.rev, fun a => ?_⟩ fun e x hx => ?_
  · rw [Fin.rev_rev]
    fin_cases a
    · exact ⟨Nat.zero_le _, by show (y 0 : ℕ) < 0 + 1; omega⟩
    · exact ⟨by show 128 * (b.val % 8) ≤ (y 1 : ℕ); omega, by show (y 1 : ℕ) < 128 * (b.val % 8) + 128; omega⟩
    · exact ⟨by show 64 * (b.val / 8) ≤ (y 2 : ℕ); omega, by show (y 2 : ℕ) < 64 * (b.val / 8) + 64; omega⟩
  · have e1 : (y 1 : ℕ) = 128 * (e.rev.val % 8) + (x 1 : ℕ) := hx 1
    have e2 : (y 2 : ℕ) = 64 * (e.rev.val / 8) + (x 2 : ℕ) := hx 2
    have l0 : (x 0 : ℕ) < 1 := (x 0).isLt
    have l1 : (x 1 : ℕ) < 128 := (x 1).isLt
    have l2 : (x 2 : ℕ) < 64 := (x 2).isLt
    have hrev := e.rev.isLt
    have he : e.rev = b := Fin.ext (by omega)
    rw [he] at e1 e2 ⊢
    refine congrArg _ (funext fun a => Fin.ext ?_)
    fin_cases a
    · show (x 0 : ℕ) = 0; omega
    · show (x 1 : ℕ) = r; omega
    · show (x 2 : ℕ) = d; omega

/-! The arrays of the launch at a group `g` of heads, a head `h` in it, a row `R` or a key `X`, and a lane `d`. -/

variable (m : (ℓ : Loc nD τ sig) → Buf (Elt Ideal) ℓ) (c : Dev nD)

def aQ (g : Fin 3) (h : Fin 4) (R : Fin 16384) (d : Fin 64) : EReal := V m c main_arg0 (ix2 R (⟨g * 256 + (64 * h + d), by omega⟩ : Fin 1408))
def aK (g : Fin 3) (X : Fin 16384) (d : Fin 64) : EReal := V m c main_arg1 (ix3 g X d)
def aV (g : Fin 3) (X : Fin 16384) (d : Fin 64) : EReal := V m c main_arg2 (ix3 g X d)
def aG (g : Fin 3) (h : Fin 4) (R : Fin 16384) (d : Fin 64) : EReal := V m c main_arg4 (ix2 R (⟨g * 256 + (64 * h + d), by omega⟩ : Fin 1024))
def aO (g : Fin 3) (h : Fin 4) (R : Fin 16384) (d : Fin 64) : EReal := V m c main_v24 (ix2 R (⟨g * 256 + (64 * h + d), by omega⟩ : Fin 1024))
def aL (g : Fin 3) (h : Fin 4) (R : Fin 16384) : EReal := V m c main_v23 (ix4 g h R (0 : Fin 1))

/-- The weight of key `X` in row `R`. -/
def weight (g : Fin 3) (h : Fin 4) (R X : Fin 16384) : EReal :=
  Ideal.exp ((∑ d : Fin 64, aQ m c g h R d * ((1 / 8 : ℝ) : EReal) * aK m c g X d) - aL m c g h R)

/-- The gradient of the score of key `X` in row `R`. -/
def dscore (g : Fin 3) (h : Fin 4) (R X : Fin 16384) : EReal :=
  weight m c g h R X * ((∑ d : Fin 64, aG m c g h R d * aV m c g X d) - ∑ d : Fin 64, aG m c g h R d * aO m c g h R d)

/-- Row `r` of chain `b` in the block of rows `i`. -/
def row (i : Fin 16) (b : Fin 32) (r : Fin 128) : Fin 16384 := ⟨i * 1024 + (128 * (b % 8) + r), by omega⟩
/-- The head of chain `b`. -/
def head (b : Fin 32) : Fin 4 := ⟨b / 8, by omega⟩

theorem wgt_at (t : Fin cfg0.N) (b : Fin 32) (r : Fin 128) (x : Fin 2048) (g : Fin 3) (i : Fin 16) (X : Fin 16384)
    (hg : (g : ℕ) = t.val / 128) (hi : (i : ℕ) = t.val % 16) (hX : (X : ℕ) = t.val / 16 % 8 * 2048 + x) :
    wgt (iblk m c 1 t) (part (X0_0 m c t) b) (lpart (iblk m c 4 t) b) (ix2 r x) = weight m c g (head b) (row i b r) X := by
  rw [wgt_apply, scr_apply, l_at m c t b r g (head b) (row i b r) hg rfl (by simp only [row, hi])]
  simp only [k_at m c t x _ g X hg hX]
  simp only [fun d : Fin 64 => q_at m c t b r d (row i b r) ⟨g * 256 + (64 * (head b) + d), by omega⟩ (by simp only [row, hi]) (by simp only [head, hg])]
  rfl

theorem dsc_at (t : Fin cfg0.N) (b : Fin 32) (r : Fin 128) (x : Fin 2048) (g : Fin 3) (i : Fin 16) (X : Fin 16384)
    (hg : (g : ℕ) = t.val / 128) (hi : (i : ℕ) = t.val % 16) (hX : (X : ℕ) = t.val / 16 % 8 * 2048 + x) :
    dsc (iblk m c 1 t) (iblk m c 2 t) (part (X0_0 m c t) b) (part (iblk m c 3 t) b) (part (iblk m c 5 t) b) (lpart (iblk m c 4 t) b) (ix2 r x)
      = dscore m c g (head b) (row i b r) X := by
  rw [dsc_apply, wgt_at m c t b r x g i X hg hi hX, dwg_apply]
  simp only [v_at m c t x _ g X hg hX]
  simp only [fun d : Fin 64 => g_at m c t b r d (row i b r) ⟨g * 256 + (64 * (head b) + d), by omega⟩ (by simp only [row, hi]) (by simp only [head, hg])]
  simp only [fun d : Fin 64 => o_at m c t b r d (row i b r) ⟨g * 256 + (64 * (head b) + d), by omega⟩ (by simp only [row, hi]) (by simp only [head, hg])]
  rfl

end Cert.KernelIdeal.Fold

end
-- ==== Proof.Host.lean ====
/- What the host lines before the launch compute from the arguments: the logarithms of the weights' sums and the outputs
   of the attention, each read at an index. -/
module

public import proofs.«01_k».proof.Proof.Fold

@[expose] public section

set_option maxRecDepth 16384

noncomputable section

open Idealize.ShloMosaic Idealize.ShloMosaic.TcCoe Idealize.SL.Sem

namespace Cert.KernelIdeal.Host

open Cert.KernelIdeal Cert.KernelIdeal.Gen Facts

/-- The scores of every row of every head against every key. -/
def score (p : FVec Ideal S16384x1408 .bf16) (k : FVec Ideal S3x16384x64 .bf16) : FVec Ideal S3x4x16384x16384 .f32 :=
  mulf (transpose S3x4x16384x16384 [0, 3, 2, 1]
      (Idealize.ShloMosaic.Host.dotGeneral dot_S3x16384x64_S16384x3x4x64_S3x16384x16384x4_2_3_1_02_0_1 none (extf .f32 k bitsLt_bf16_f32)
        (shapeCast S16384x3x4x64 (extf .f32 (extractStridedSlice S16384x768 ![0, 0] p slices_S16384x1408_S16384x768_0_0) bitsLt_bf16_f32)
          shapeCasts_S16384x768_S16384x3x4x64))
      transposes_S3x16384x16384x4_S3x4x16384x16384_0_3_2_1)
    (broadcastInDim S3x4x16384x16384 ![] bcast_S_S3x4x16384x16384 (constant S_ .f32 0x3E000000#32))

/-- The greatest score of every row. -/
def top (s : FVec Ideal S3x4x16384x16384 .f32) : FVec Ideal S3x4x16384x1 .f32 :=
  broadcastInDim S3x4x16384x1 ![0, 1, 2] bcast_S3x4x16384_S3x4x16384x1_0_1_2
    (Idealize.ShloMosaic.Host.reduce FloatOps.maximumf s (constant S_ .f32 0xFF800000#32) reducesTo_S3x4x16384x16384_S3x4x16384_d3 h_S_)

/-- The exponentials of the scores less the row's greatest. -/
def expo (s : FVec Ideal S3x4x16384x16384 .f32) (t : FVec Ideal S3x4x16384x1 .f32) : FVec Ideal S3x4x16384x16384 .f32 :=
  Idealize.ShloMosaic.Host.exp (subf s (broadcastInDim S3x4x16384x16384 ![0, 1, 2, 3] bcast_S3x4x16384x1_S3x4x16384x16384_0_1_2_3 t))

/-- Their sum over the keys. -/
def total (e : FVec Ideal S3x4x16384x16384 .f32) : FVec Ideal S3x4x16384x1 .f32 :=
  broadcastInDim S3x4x16384x1 ![0, 1, 2] bcast_S3x4x16384_S3x4x16384x1_0_1_2
    (Idealize.ShloMosaic.Host.reduceAdd e (constant S_ .f32 0x00000000#32) reducesTo_S3x4x16384x16384_S3x4x16384_d3 h_S_)

/-- The logarithm that is saved. -/
def saved (t l : FVec Ideal S3x4x16384x1 .f32) : FVec Ideal S3x4x16384x1 .f32 :=
  addf t (Idealize.ShloMosaic.Host.log l)

/-- The outputs of the attention beside those of the other branch. -/
def output (v : FVec Ideal S3x16384x64 .bf16) (e : FVec Ideal S3x4x16384x16384 .f32) (l : FVec Ideal S3x4x16384x1 .f32)
    (o : FVec Ideal S16384x256 .bf16) : FVec Ideal S16384x1024 .bf16 :=
  concatenate S16384x1024 1 [⟨S16384x768, truncf .bf16 (shapeCast S16384x768 (transpose S16384x3x4x64 [3, 0, 2, 1]
      (Idealize.ShloMosaic.Host.dotGeneral dot_S3x16384x64_S3x4x16384x16384_S3x64x4x16384_1_3_2_12_0_0 none (extf .f32 v bitsLt_bf16_f32)
        (Idealize.ShloMosaic.Host.divf e (broadcastInDim S3x4x16384x16384 ![0, 1, 2, 3] bcast_S3x4x16384x1_S3x4x16384x16384_0_1_2_3 l)))
      transposes_S3x64x4x16384_S16384x3x4x64_3_0_2_1) shapeCasts_S16384x3x4x64_S16384x768) bitsLt_bf16_f32⟩, ⟨S16384x256, o⟩]
    concatenates_S16384x768_S16384x256_S16384x1024_d1

theorem score_apply (p k) (g : Fin 3) (h : Fin 4) (R X : Fin 16384) : score p k (ix4 g h R X)
    = (∑ d : Fin 64, k (ix3 g X d) * p (ix2 R (⟨g * 256 + (64 * h + d), by omega⟩ : Fin 1408))) * ((1 / 8 : ℝ) : EReal) := by
  rw [← Chain.eighth_f32]; pointwise [score]; blk_point []

theorem neg_inf : Ideal.ofBits .f32 0xFF800000#32 = (⊥ : EReal) := by
  simp [Ideal.ofBits, Ideal.ieee]

theorem top_apply (s) (g : Fin 3) (h : Fin 4) (R : Fin 16384) : top s (ix4 g h R (0 : Fin 1))
    = Finset.univ.fold max ⊥ fun X : Fin 16384 => s (ix4 g h R X) := by
  rw [← neg_inf]; pointwise [top]

theorem expo_apply (s t) (g : Fin 3) (h : Fin 4) (R X : Fin 16384) : expo s t (ix4 g h R X)
    = Ideal.exp (s (ix4 g h R X) - t (ix4 g h R (0 : Fin 1))) := by
  pointwise [expo]

theorem total_apply (e) (g : Fin 3) (h : Fin 4) (R : Fin 16384) : total e (ix4 g h R (0 : Fin 1)) = ∑ X : Fin 16384, e (ix4 g h R X) := by
  pointwise [total]

theorem saved_apply (t l) (g : Fin 3) (h : Fin 4) (R : Fin 16384) : saved t l (ix4 g h R (0 : Fin 1))
    = t (ix4 g h R (0 : Fin 1)) + Ideal.log (l (ix4 g h R (0 : Fin 1))) := by
  pointwise [saved]

theorem output_apply (v e l o) (g : Fin 3) (h : Fin 4) (R : Fin 16384) (d : Fin 64) :
    output v e l o (ix2 R (⟨g * 256 + (64 * h + d), by omega⟩ : Fin 1024))
      = ∑ X : Fin 16384, v (ix3 g X d) * Ideal.div (e (ix4 g h R X)) (l (ix4 g h R (0 : Fin 1))) := by
  pointwise [output]; rw [dif_pos (by omega)]

variable (m : (ℓ : Loc nD τ sig) → Buf (Elt Ideal) ℓ) (c : Dev nD)

/-- The scores of the arguments. -/
def mScore : FVec Ideal S3x4x16384x16384 .f32 :=
  score (m ((c : Thread nD τ).loc main_arg0)) (m ((c : Thread nD τ).loc main_arg1))

theorem V_saved : V m c main_v23 = saved (top (mScore m c)) (total (expo (mScore m c) (top (mScore m c)))) := by
  unfold V V0; rw [List.flatten_cons, List.flatten_nil, List.append_nil]; after_results; rfl

theorem V_output : V m c main_v24 = output (m ((c : Thread nD τ).loc main_arg2)) (expo (mScore m c) (top (mScore m c)))
    (total (expo (mScore m c) (top (mScore m c)))) (m ((c : Thread nD τ).loc main_arg3)) := by
  unfold V V0; rw [List.flatten_cons, List.flatten_nil, List.append_nil]; after_results; rfl

end Cert.KernelIdeal.Host

end
-- ==== Proof.RefRead.lean ====
/- The reference's results read at an index: sums over keys and rows of the scores, their exponentials and the weights. -/
module

public import proofs.«01_k».proof.Proof.Gen.ReferenceIdeal.Read
public import proofs.«01_k».proof.Proof.Host

@[expose] public section

set_option maxRecDepth 16384

noncomputable section

open Idealize.ShloMosaic Idealize.ShloMosaic.TcCoe Idealize.SL.Sem

namespace Cert.ReferenceIdeal.At

open Cert.ReferenceIdeal Cert.ReferenceIdeal.Read

variable (p : FVec Ideal S16384x1408 .bf16) (k v : FVec Ideal S3x16384x64 .bf16) (o : FVec Ideal S16384x1024 .bf16)

/-- A row's lane of one head among the projections. -/
abbrev lane (g : Fin 3) (h : Fin 4) (d : Fin 64) : Fin 1408 := ⟨g * 256 + (64 * h + d), by omega⟩
/-- The same among the outputs. -/
abbrev slot (g : Fin 3) (h : Fin 4) (d : Fin 64) : Fin 1024 := ⟨g * 256 + (64 * h + d), by omega⟩

theorem score_at (b : Fin 1) (g : Fin 3) (h : Fin 4) (R X : Fin 16384) : val_main_v11 (F := Ideal) p k (ix5 b g h R X)
    = (∑ d : Fin 64, k (ix3 g X d) * p (ix2 R (lane g h d))) * ((1 / 8 : ℝ) : EReal) := by
  rw [← Cert.KernelIdeal.Chain.eighth_f32]
  pointwise [val_main_v11, val_main_v10, val_main_v9, val_main_v8, val_main_v3, val_main_v2, val_main_v1, val_main_v0, val_main_cst]
  simp only [lane, slot, add_assoc, mul_comm _ 64]

theorem bot_at (b : Fin 1) (g : Fin 3) (h : Fin 4) (R : Fin 16384) : val_main_v18 (F := Ideal) (ix4 b g h R) = (⊥ : EReal) := by
  rw [← Cert.KernelIdeal.Host.neg_inf]
  pointwise [val_main_v18, val_main_cst_2]

/-- The greatest of a row's scores. -/
theorem most_apply (s : FVec Ideal S1x3x4x16384x16384 .f32) (b : Fin 1) (g : Fin 3) (h : Fin 4) (R : Fin 16384) :
    Host.reduce FloatOps.maximumf s (constant S_ .f32 0xFF800000#32) Gen.reducesTo_S1x3x4x16384x16384_S1x3x4x16384_d4 Gen.h_S_ (ix4 b g h R)
      = Finset.univ.fold max ⊥ fun X : Fin 16384 => s (ix5 0 g h R X) := by
  rw [← Cert.KernelIdeal.Host.neg_inf]
  pointwise []

theorem most_at (b : Fin 1) (g : Fin 3) (h : Fin 4) (R : Fin 16384) : val_main_v12 (F := Ideal) p k (ix4 b g h R)
    = Finset.univ.fold max ⊥ fun X : Fin 16384 => val_main_v11 (F := Ideal) p k (ix5 0 g h R X) := by
  unfold val_main_v12 val_main_cst_0
  generalize val_main_v11 (F := Ideal) p k = s
  exact most_apply s b g h R

theorem top_at (b : Fin 1) (g : Fin 3) (h : Fin 4) (R : Fin 16384) : val_main_v19 (F := Ideal) p k (ix4 b g h R)
    = max ⊥ (Finset.univ.fold max ⊥ fun X : Fin 16384 => val_main_v11 (F := Ideal) p k (ix5 0 g h R X)) := by
  rw [val_main_v19_apply, bot_at, most_at]; rfl

theorem expo_at (b : Fin 1) (g : Fin 3) (h : Fin 4) (R X : Fin 16384) : val_main_v32 (F := Ideal) p k (ix5 b g h R X)
    = Ideal.exp (val_main_v11 (F := Ideal) p k (ix5 b g h R X) - val_main_v19 (F := Ideal) p k (ix4 0 g h R)) := by
  pointwise [val_main_v32, val_main_v31, val_main_v30, val_main_v29]

theorem total_at (b : Fin 1) (g : Fin 3) (h : Fin 4) (R : Fin 16384) : val_main_v33 (F := Ideal) p k (ix4 b g h R)
    = ∑ X : Fin 16384, val_main_v32 (F := Ideal) p k (ix5 b g h R X) := by
  pointwise [val_main_v33, val_main_cst_8]
  rw [Subsingleton.elim b 0]

theorem weight_at (b : Fin 1) (g : Fin 3) (h : Fin 4) (R X : Fin 16384) : val_main_v40 (F := Ideal) p k (ix5 b g h R X)
    = Ideal.div (val_main_v32 (F := Ideal) p k (ix5 b g h R X)) (val_main_v33 (F := Ideal) p k (ix4 0 g h R)) := by
  pointwise [val_main_v40, val_main_v36, val_main_v35, val_main_v34]

theorem back_at (b : Fin 1) (g : Fin 3) (h : Fin 4) (R X : Fin 16384) : val_main_v51 (F := Ideal) v o (ix5 b g h R X)
    = ∑ d : Fin 64, o (ix2 R (slot g h d)) * v (ix3 g X d) := by
  pointwise [val_main_v51, val_main_v47, val_main_v46, val_main_v45, val_main_v44, val_main_v7, val_main_v6, val_main_v5, val_main_v4]
  simp only [lane, slot, add_assoc, mul_comm _ 64]

theorem mean_at (b : Fin 1) (g : Fin 3) (h : Fin 4) (R : Fin 16384) : val_main_v55 (F := Ideal) p k v o (ix4 b g h R)
    = ∑ X : Fin 16384, val_main_v51 (F := Ideal) v o (ix5 b g h R X)
      * Ideal.div 1 (val_main_v33 (F := Ideal) p k (ix4 0 g h R) * val_main_v33 (F := Ideal) p k (ix4 0 g h R))
      * val_main_v32 (F := Ideal) p k (ix5 b g h R X) := by
  pointwise [val_main_v55, val_main_v54, val_main_v53, val_main_v52, val_main_v39, val_main_v38, val_main_v37, val_main_v34, val_main_cst_9, val_main_cst_10]
  rw [Subsingleton.elim b 0]

/-- A sum over two axes of one element each reads the one element there is. -/
theorem unit_sum (w : S1x3x4x16384x1.ReducesTo [0, 4] S3x4x16384) (x : S1x3x4x16384x1.Idx → EReal)
    (g : Fin 3) (h : Fin 4) (R : Fin 16384) : Ideal.hostReduceAdd w x 0 (ix3 g h R) = x (ix5 0 g h R 0) := by
  unfold Ideal.hostReduceAdd
  rw [zero_add]
  have e : (Finset.univ.filter fun i => w.drop i = ix3 g h R) = {(ix5 0 g h R 0 : S1x3x4x16384x1.Idx)} := by
    ext i
    simp only [Finset.mem_filter, Finset.mem_univ, true_and, Finset.mem_singleton]
    constructor
    · intro q
      have q0 : (i 1).val = g.val := congrArg Fin.val (congrFun q 0)
      have q1 : (i 2).val = h.val := congrArg Fin.val (congrFun q 1)
      have q2 : (i 3).val = R.val := congrArg Fin.val (congrFun q 2)
      funext a
      match a with
      | ⟨0, _⟩ => exact Subsingleton.elim (α := Fin 1) _ _
      | ⟨1, _⟩ => exact Fin.ext q0
      | ⟨2, _⟩ => exact Fin.ext q1
      | ⟨3, _⟩ => exact Fin.ext q2
      | ⟨4, _⟩ => exact Subsingleton.elim (α := Fin 1) _ _
    · intro q
      subst q
      funext a
      match a with
      | ⟨0, _⟩ => rfl
      | ⟨1, _⟩ => rfl
      | ⟨2, _⟩ => rfl
  rw [e, Finset.sum_singleton]

theorem dsc_at (b : Fin 1) (g : Fin 3) (h : Fin 4) (R X : Fin 16384) : val_main_v66 (F := Ideal) p k v o (ix5 b g h R X)
    = (Ideal.div (val_main_v51 (F := Ideal) v o (ix5 b g h R X)) (val_main_v33 (F := Ideal) p k (ix4 0 g h R))
        + -val_main_v55 (F := Ideal) p k v o (ix4 0 g h R))
      * val_main_v32 (F := Ideal) p k (ix5 b g h R X) * ((1 / 8 : ℝ) : EReal) := by
  rw [← Cert.KernelIdeal.Chain.eighth_f32]
  pointwise [val_main_v66, val_main_v65, val_main_v64, val_main_v63, val_main_v62, val_main_v61, val_main_v60, val_main_v59, val_main_v58, val_main_v57, val_main_v56, val_main_v34, val_main_cst_11, val_main_cst_12]
  rw [unit_sum]
  pointwise []

theorem dv_at (g : Fin 3) (X : Fin 16384) (d : Fin 64) : val_main_v78 (F := Ideal) p k o (ix3 g X d)
    = ∑ h : Fin 4, ∑ R : Fin 16384, o (ix2 R (slot g h d)) * val_main_v40 (F := Ideal) p k (ix5 0 g h R X) := by
  pointwise [val_main_v78, val_main_v77, val_main_v50, val_main_v49, val_main_v48, val_main_v45, val_main_v44, val_main_v7, val_main_v6]
  simp only [lane, slot, add_assoc, mul_comm _ 64]

theorem dk_at (g : Fin 3) (X : Fin 16384) (d : Fin 64) : val_main_v76 (F := Ideal) p k v o (ix3 g X d)
    = ∑ R : Fin 16384, ∑ h : Fin 4, val_main_v66 (F := Ideal) p k v o (ix5 0 g h R X) * p (ix2 R (lane g h d)) := by
  pointwise [val_main_v76, val_main_v75, val_main_v73, val_main_v72, val_main_v71, val_main_v67, val_main_v1, val_main_v0]
  simp only [lane, slot, add_assoc, mul_comm _ 64]

theorem dq_at (R : Fin 16384) (g : Fin 3) (h : Fin 4) (d : Fin 64) :
    val_main_v74 (F := Ideal) p k v o (ix2 R (⟨g * 256 + (64 * h + d), by omega⟩ : Fin 768))
    = ∑ X : Fin 16384, val_main_v66 (F := Ideal) p k v o (ix5 0 g h R X) * k (ix3 g X d) := by
  pointwise [val_main_v74, val_main_v70, val_main_v69, val_main_v68, val_main_v67, val_main_v3, val_main_v2]

end Cert.ReferenceIdeal.At

end
-- ==== Proof.Final.lean ====
/- The three arrays that the launch leaves, at an index. -/
module

public import proofs.«01_k».proof.Proof.Fold

@[expose] public section

set_option maxRecDepth 16384

noncomputable section

open Idealize.ShloMosaic Idealize.ShloMosaic.TcCoe Idealize.SL.Sem

namespace Cert.KernelIdeal.Fold

open Cert.KernelIdeal Cert.KernelIdeal.Gen Cert.KernelIdeal.Point Cert.KernelIdeal.Block Cert.KernelIdeal.Chain Facts

variable (m : (ℓ : Loc nD τ sig) → Buf (Elt Ideal) ℓ) (c : Dev nD)

/-- The key and the lane of an index of a block of keys. -/
def key (y : S1x2048x64.Idx) : Fin 2048 := y 1
def lane (y : S1x2048x64.Idx) : Fin 64 := y 2

/-- What a point adds to the gradient of the keys. -/
def partK (t : Fin cfg0.N) (y : S1x2048x64.Idx) : EReal :=
  ∑ b : Fin 32, ∑ r : Fin 128, dsc (iblk m c 1 t) (iblk m c 2 t) (part (X0_0 m c t) b) (part (iblk m c 3 t) b) (part (iblk m c 5 t) b)
    (lpart (iblk m c 4 t) b) (ix2 r (key y)) * (part (X0_0 m c t) b (ix2 r (lane y)) * ((1 / 8 : ℝ) : EReal))

/-- What a point adds to the gradient of the values. -/
def partV (t : Fin cfg0.N) (y : S1x2048x64.Idx) : EReal :=
  ∑ b : Fin 32, ∑ r : Fin 128, wgt (iblk m c 1 t) (part (X0_0 m c t) b) (lpart (iblk m c 4 t) b) (ix2 r (key y)) * part (iblk m c 3 t) b (ix2 r (lane y))

/-- An index of a block of keys is its key and its lane. -/
theorem block_ix (y : S1x2048x64.Idx) : y = (ix3 (0 : Fin 1) (key y) (lane y) : S1x2048x64.Idx) := by
  funext a; fin_cases a
  · exact Fin.ext (by have := (y 0).isLt; change _ < 1 at this; show (y 0 : ℕ) = 0; omega)
  · rfl
  · rfl

theorem allK_at (k v q g o l a) (y : S1x2048x64.Idx) : allK k v q g o l a y = a y
    + ∑ b : Fin 32, ∑ r : Fin 128, dsc k v (part q b) (part g b) (part o b) (lpart l b) (ix2 r (key y)) * (part q b (ix2 r (lane y)) * ((1 / 8 : ℝ) : EReal)) :=
  (congrArg _ (block_ix y)).trans ((allK_apply k v q g o l a (key y) (lane y)).trans (congrArg (· + _) (congrArg a (block_ix y).symm)))

theorem allV_at (k q g l a) (y : S1x2048x64.Idx) : allV k q g l a y = a y
    + ∑ b : Fin 32, ∑ r : Fin 128, wgt k (part q b) (lpart l b) (ix2 r (key y)) * part g b (ix2 r (lane y)) :=
  (congrArg _ (block_ix y)).trans ((allV_apply k q g l a (key y) (lane y)).trans (congrArg (· + _) (congrArg a (block_ix y).symm)))

theorem zero_at (y : S1x2048x64.Idx) : (constant (F := Ideal) S1x2048x64 .f32 0x00000000#32) y = (0 : EReal) := by
  pointwise []

theorem stepK_zero (t : Fin cfg0.N) (h0 : t.val % 16 = 0) (y : S1x2048x64.Idx) :
    ((outsAt0 m c t.val t.isLt).2.2.2.1 y : EReal) = 0 + partK m c t y := by
  rw [dk_A m c t h0 (by omega)]
  rw [allK_at, zero_at]; rfl

theorem stepK (t : Fin cfg0.N) (h0 : ¬t.val % 16 = 0) (y : S1x2048x64.Idx) :
    ((outsAt0 m c t.val t.isLt).2.2.2.1 y : EReal)
      = (outsAt0 m c (t.val - 1) (Nat.lt_of_le_of_lt (Nat.sub_le _ _) t.isLt)).2.2.2.1 y + partK m c t y := by
  by_cases h1 : t.val % 16 = 15
  · rw [dk_C m c t h0 h1]
    generalize (outsAt0 m c (t.val - 1) (Nat.lt_of_le_of_lt (Nat.sub_le _ _) t.isLt)).2.2.2.1 = a
    rw [allK_at]; rfl
  · rw [dk_B m c t h0 h1]
    generalize (outsAt0 m c (t.val - 1) (Nat.lt_of_le_of_lt (Nat.sub_le _ _) t.isLt)).2.2.2.1 = a
    rw [allK_at]; rfl

theorem stepV_zero (t : Fin cfg0.N) (h0 : t.val % 16 = 0) (y : S1x2048x64.Idx) :
    ((outsAt0 m c t.val t.isLt).2.2.2.2 y : EReal) = 0 + partV m c t y := by
  rw [dv_A m c t h0 (by omega)]
  rw [allV_at, zero_at]; rfl

theorem stepV (t : Fin cfg0.N) (h0 : ¬t.val % 16 = 0) (y : S1x2048x64.Idx) :
    ((outsAt0 m c t.val t.isLt).2.2.2.2 y : EReal)
      = (outsAt0 m c (t.val - 1) (Nat.lt_of_le_of_lt (Nat.sub_le _ _) t.isLt)).2.2.2.2 y + partV m c t y := by
  by_cases h1 : t.val % 16 = 15
  · rw [dv_C m c t h0 h1]
    generalize (outsAt0 m c (t.val - 1) (Nat.lt_of_le_of_lt (Nat.sub_le _ _) t.isLt)).2.2.2.2 = a
    rw [allV_at]; rfl
  · rw [dv_B m c t h0 h1]
    generalize (outsAt0 m c (t.val - 1) (Nat.lt_of_le_of_lt (Nat.sub_le _ _) t.isLt)).2.2.2.2 = a
    rw [allV_at]; rfl

/-- The gradient of key `X`. -/
def gradK (g : Fin 3) (X : Fin 16384) (d : Fin 64) : EReal :=
  ∑ i : Fin 16, ∑ b : Fin 32, ∑ r : Fin 128, dscore m c g (head b) (row i b r) X * (aQ m c g (head b) (row i b r) d * ((1 / 8 : ℝ) : EReal))

/-- The gradient of value `X`. -/
def gradV (g : Fin 3) (X : Fin 16384) (d : Fin 64) : EReal :=
  ∑ i : Fin 16, ∑ b : Fin 32, ∑ r : Fin 128, weight m c g (head b) (row i b r) X * aG m c g (head b) (row i b r) d

/-- The share of the block of keys `j` in the gradient of row `R`. -/
def gradQ (j : Fin 8) (g : Fin 3) (h : Fin 4) (R : Fin 16384) (d : Fin 64) : EReal :=
  (∑ x : Fin 2048, dscore m c g h R ⟨j * 2048 + x, by omega⟩ * aK m c g ⟨j * 2048 + x, by omega⟩ d) * ((1 / 8 : ℝ) : EReal)

theorem partK_at (t : Fin cfg0.N) (i : Fin 16) (y : S1x2048x64.Idx) (g : Fin 3) (X : Fin 16384) (hg : (g : ℕ) = t.val / 128)
    (hi : (i : ℕ) = t.val % 16) (hX : (X : ℕ) = t.val / 16 % 8 * 2048 + (key y : ℕ)) :
    partK m c t y = ∑ b : Fin 32, ∑ r : Fin 128, dscore m c g (head b) (row i b r) X * (aQ m c g (head b) (row i b r) (lane y) * ((1 / 8 : ℝ) : EReal)) := by
  unfold partK
  refine Finset.sum_congr rfl fun b _ => Finset.sum_congr rfl fun r _ => ?_
  rw [dsc_at m c t b r (key y) g i X hg hi hX, q_at m c t b r (lane y) (row i b r) ⟨g * 256 + (64 * (head b) + lane y), by omega⟩
    (by simp only [row, hi]) (by simp only [head, hg])]
  rfl

theorem partV_at (t : Fin cfg0.N) (i : Fin 16) (y : S1x2048x64.Idx) (g : Fin 3) (X : Fin 16384) (hg : (g : ℕ) = t.val / 128)
    (hi : (i : ℕ) = t.val % 16) (hX : (X : ℕ) = t.val / 16 % 8 * 2048 + (key y : ℕ)) :
    partV m c t y = ∑ b : Fin 32, ∑ r : Fin 128, weight m c g (head b) (row i b r) X * aG m c g (head b) (row i b r) (lane y) := by
  unfold partV
  refine Finset.sum_congr rfl fun b _ => Finset.sum_congr rfl fun r _ => ?_
  rw [wgt_at m c t b r (key y) g i X hg hi hX, g_at m c t b r (lane y) (row i b r) ⟨g * 256 + (64 * (head b) + lane y), by omega⟩
    (by simp only [row, hi]) (by simp only [head, hg])]
  rfl

theorem accK (t : Fin cfg0.N) (hf : t.val % 16 = 16 - 1) (y : S1x2048x64.Idx) (g : Fin 3) (X : Fin 16384) (hg : (g : ℕ) = t.val / 128)
    (hX : (X : ℕ) = t.val / 16 % 8 * 2048 + (key y : ℕ)) :
    ((outsAt0 m c t.val t.isLt).2.2.2.1 y : EReal) = gradK m c g X (lane y) := by
  have e := Pipeline.eq_sum_fin_of_reset_step_apply_of_flush (N := cfg0.N) (M := EReal) (fun n h y => ((outsAt0 m c n h).2.2.2.1 y : EReal)) 16 (fun _ => 0)
    (partK m c) (stepK_zero m c) (stepK m c) t hf y
  refine e.trans ?_
  rw [zero_add]
  refine Finset.sum_congr rfl fun s _ => ?_
  exact partK_at m c _ s y g X (by rw [hg]; show _ = (16 * (t.val / 16) + s.val) / 128; omega)
    (by show _ = (16 * (t.val / 16) + s.val) % 16; omega) (by rw [hX]; show _ = (16 * (t.val / 16) + s.val) / 16 % 8 * 2048 + _; omega)

theorem accV (t : Fin cfg0.N) (hf : t.val % 16 = 16 - 1) (y : S1x2048x64.Idx) (g : Fin 3) (X : Fin 16384) (hg : (g : ℕ) = t.val / 128)
    (hX : (X : ℕ) = t.val / 16 % 8 * 2048 + (key y : ℕ)) :
    ((outsAt0 m c t.val t.isLt).2.2.2.2 y : EReal) = gradV m c g X (lane y) := by
  have e := Pipeline.eq_sum_fin_of_reset_step_apply_of_flush (N := cfg0.N) (M := EReal) (fun n h y => ((outsAt0 m c n h).2.2.2.2 y : EReal)) 16 (fun _ => 0)
    (partV m c) (stepV_zero m c) (stepV m c) t hf y
  refine e.trans ?_
  rw [zero_add]
  refine Finset.sum_congr rfl fun s _ => ?_
  exact partV_at m c _ s y g X (by rw [hg]; show _ = (16 * (t.val / 16) + s.val) / 128; omega)
    (by show _ = (16 * (t.val / 16) + s.val) % 16; omega) (by rw [hX]; show _ = (16 * (t.val / 16) + s.val) / 16 % 8 * 2048 + _; omega)

theorem final_k : (dats m 0 c).arrAt 7 (cfgs 0).N = fun y : S3x16384x64.Idx => gradK m c (y 0) (y 1) (y 2) := by
  refine (dats m 0 c).arrAt_eq_of_covers 7 _ (by decide +kernel) fun t hf y => ?_
  have h15 := (flush0_7 t).mp hf
  blk_simp
  rw [after0_7, outK m c t (by omega) h15]
  refine (accK m c t h15 y _ _ ?_ ?_).trans (congrArg _ ?_)
  · blk_simp [idx t] <;> omega
  · have hk : (key y : ℕ) = (y 1 : ℕ) := rfl
    blk_simp [idx t] <;> omega
  · apply Fin.ext; blk_simp [idx t]; rfl

theorem final_v : (dats m 0 c).arrAt 8 (cfgs 0).N = fun y : S3x16384x64.Idx => gradV m c (y 0) (y 1) (y 2) := by
  refine (dats m 0 c).arrAt_eq_of_covers 8 _ (by decide +kernel) fun t hf y => ?_
  have h15 := (flush0_8 t).mp hf
  blk_simp
  rw [after0_8, outV m c t (by omega) h15]
  refine (accV m c t h15 y _ _ ?_ ?_).trans (congrArg _ ?_)
  · blk_simp [idx t] <;> omega
  · have hk : (key y : ℕ) = (y 1 : ℕ) := rfl
    blk_simp [idx t] <;> omega
  · apply Fin.ext; blk_simp [idx t]; rfl

/-- The block of the gradient of the queries that a point leaves. -/
theorem dq_at (t : Fin cfg0.N) : (outsAt0 m c t.val t.isLt).1
    = allQ (iblk m c 1 t) (iblk m c 2 t) (X0_0 m c t) (iblk m c 3 t) (iblk m c 5 t) (iblk m c 4 t) := by
  by_cases h0 : t.val % 16 = 0
  · exact dq_A m c t h0 (by omega)
  by_cases h1 : t.val % 16 = 15
  · exact dq_C m c t h0 h1
  · exact dq_B m c t h0 h1

theorem q_point (t : Fin cfg0.N) (y : S1x1024x256.Idx) (j : Fin 8) (g : Fin 3) (h : Fin 4) (R : Fin 16384) (d : Fin 64)
    (hj : (j : ℕ) = t.val / 16 % 8) (hg : (g : ℕ) = t.val / 128) (hR : (R : ℕ) = t.val % 16 * 1024 + (y 1 : ℕ))
    (hd : (y 2 : ℕ) = 64 * h + d) :
    allQ (iblk m c 1 t) (iblk m c 2 t) (X0_0 m c t) (iblk m c 3 t) (iblk m c 5 t) (iblk m c 4 t) y = gradQ m c j g h R d := by
  have hy : (y 1 : ℕ) < 1024 := (y 1).isLt
  have hh := h.isLt
  obtain ⟨b, hb⟩ : ∃ b : Fin 32, (b : ℕ) = 8 * h + (y 1 : ℕ) / 128 := ⟨⟨8 * h + (y 1 : ℕ) / 128, by omega⟩, rfl⟩
  obtain ⟨r, hr⟩ : ∃ r : Fin 128, (r : ℕ) = (y 1 : ℕ) % 128 := ⟨⟨(y 1 : ℕ) % 128, by omega⟩, rfl⟩
  have eh : head b = h := Fin.ext (by show (b : ℕ) / 8 = h; omega)
  have eR : row ⟨t.val % 16, by omega⟩ b r = R := Fin.ext (by show t.val % 16 * 1024 + (128 * ((b : ℕ) % 8) + r) = R; omega)
  rw [allQ_apply _ _ _ _ _ _ b r d y (by omega) (by omega), putQ_apply]
  unfold gradQ
  refine congrArg (· * ((1 / 8 : ℝ) : EReal)) (Finset.sum_congr rfl fun x _ => ?_)
  have hX : j.val * 2048 + x.val = t.val / 16 % 8 * 2048 + x := by rw [hj]
  rw [dsc_at m c t b r x g ⟨t.val % 16, by omega⟩ ⟨j * 2048 + x, by omega⟩ hg rfl hX, eh, eR, k_at m c t x d g ⟨j * 2048 + x, by omega⟩ hg hX]
  rfl

theorem final_q : (dats m 0 c).arrAt 6 (cfgs 0).N = fun y : S8x16384x768.Idx =>
    gradQ m c (y 0) ⟨(y 2).val / 256, Nat.div_lt_of_lt_mul (y 2).isLt⟩ ⟨(y 2).val % 256 / 64, by omega⟩ (y 1) ⟨(y 2).val % 64, by omega⟩ := by
  refine (dats m 0 c).arrAt_eq_of_covers 6 _ (by decide +kernel) fun t hf y => ?_
  have hy : (y 2 : ℕ) < 256 := (y 2).isLt
  blk_simp
  rw [after0_6, dq_at m c t]
  refine q_point m c t y _ _ _ _ _ ?_ ?_ ?_ ?_
  all_goals (blk_simp [idx t] <;> (try dsimp only) <;> omega)

end Cert.KernelIdeal.Fold

end
-- ==== Proof.Equation.lean ====
/- The gradients of attention as real numbers, and the reference's results as those numbers. -/
module

public import proofs.«01_k».proof.Proof.RefRead
public import proofs.«01_k».proof.Proof.Row
public import proofs.«01_k».proof.Proof.Final

@[expose] public section

set_option maxRecDepth 16384

noncomputable section

open Idealize.ShloMosaic Idealize.ShloMosaic.TcCoe Idealize.SL.Sem

namespace Cert.Grad

/-- A maximum of real numbers, at least one, is a real number. -/
theorem fold_fin {n : ℕ} [NeZero n] (f : Fin n → ℝ) : ∃ M : ℝ, (Finset.univ.fold max (⊥ : EReal) fun X : Fin n => (f X : EReal)) = (M : EReal) := by
  obtain ⟨i, -, h⟩ := Finset.exists_mem_eq_sup (Finset.univ : Finset (Fin n)) ⟨0, Finset.mem_univ _⟩ (fun X => (f X : EReal))
  exact ⟨f i, h⟩

variable (q g : Fin 3 → Fin 4 → Fin 16384 → Fin 64 → ℝ) (k v : Fin 3 → Fin 16384 → Fin 64 → ℝ)

/-- The scores of a row. -/
def sc (t : Fin 3) (h : Fin 4) (R X : Fin 16384) : ℝ := (∑ d, k t X d * q t h R d) * (1 / 8)

/-- The weights of a row. -/
def W (t : Fin 3) (h : Fin 4) (R X : Fin 16384) : ℝ := Row.wt (sc q k t h R) X

/-- The gradients of a row's scores. -/
def D (t : Fin 3) (h : Fin 4) (R X : Fin 16384) : ℝ := Row.dsc (sc q k t h R) (fun j => ∑ d, g t h R d * v t j d) X

/-- The gradient of the queries. -/
def dq (t : Fin 3) (h : Fin 4) (R : Fin 16384) (d : Fin 64) : ℝ := ∑ X, D q g k v t h R X * (1 / 8) * k t X d
/-- The gradient of the keys. -/
def dk (t : Fin 3) (X : Fin 16384) (d : Fin 64) : ℝ := ∑ R, ∑ h, D q g k v t h R X * (1 / 8) * q t h R d
/-- The gradient of the values. -/
def dv (t : Fin 3) (X : Fin 16384) (d : Fin 64) : ℝ := ∑ h, ∑ R, g t h R d * W q k t h R X

section Reference

open Cert.ReferenceIdeal Cert.ReferenceIdeal.Read Cert.ReferenceIdeal.At

variable (P : FVec Ideal S16384x1408 .bf16) (K V : FVec Ideal S3x16384x64 .bf16) (G : FVec Ideal S16384x1024 .bf16)
  (hP : ∀ t h R d, P (ix2 R (lane t h d)) = (q t h R d : EReal)) (hK : ∀ t X d, K (ix3 t X d) = (k t X d : EReal))
  (hV : ∀ t X d, V (ix3 t X d) = (v t X d : EReal)) (hG : ∀ t h R d, G (ix2 R (slot t h d)) = (g t h R d : EReal))

include hP hK in
theorem ref_sc (t : Fin 3) (h : Fin 4) (R X : Fin 16384) : val_main_v11 (F := Ideal) P K (ix5 0 t h R X) = (sc q k t h R X : EReal) := by
  rw [score_at]
  simp only [hP, hK, ← EReal.coe_mul, Row.coe_sum]; rfl

include hP hK in
theorem ref_top (t : Fin 3) (h : Fin 4) (R : Fin 16384) : ∃ M : ℝ, val_main_v19 (F := Ideal) P K (ix4 0 t h R) = (M : EReal) := by
  rw [top_at]
  simp only [ref_sc q k P K hP hK]
  rw [max_eq_right bot_le]
  exact fold_fin _

include hV hG in
theorem ref_back (t : Fin 3) (h : Fin 4) (R X : Fin 16384) :
    val_main_v51 (F := Ideal) V G (ix5 0 t h R X) = ((∑ d, g t h R d * v t X d : ℝ) : EReal) := by
  rw [back_at]
  simp only [hV, hG, ← EReal.coe_mul, Row.coe_sum]

include hP hK in
theorem ref_weight (t : Fin 3) (h : Fin 4) (R X : Fin 16384) :
    val_main_v40 (F := Ideal) P K (ix5 0 t h R X) = (W q k t h R X : EReal) := by
  obtain ⟨M, hM⟩ := ref_top q k P K hP hK t h R
  rw [weight_at, total_at]
  simp only [expo_at, ref_sc q k P K hP hK, hM]
  exact Row.div_wt _ M X

include hP hK hV hG in
theorem ref_dsc (t : Fin 3) (h : Fin 4) (R X : Fin 16384) :
    val_main_v66 (F := Ideal) P K V G (ix5 0 t h R X) = ((D q g k v t h R X * (1 / 8) : ℝ) : EReal) := by
  obtain ⟨M, hM⟩ := ref_top q k P K hP hK t h R
  rw [dsc_at, mean_at, total_at]
  simp only [expo_at, ref_sc q k P K hP hK, hM, ref_back g v V G hV hG]
  rw [Row.ref_dsc (sc q k t h R) (fun j => ∑ d, g t h R d * v t j d) M X, ← EReal.coe_mul]; rfl

include hP hK hV hG in
theorem ref_dq (t : Fin 3) (h : Fin 4) (R : Fin 16384) (d : Fin 64) :
    val_main_v74 (F := Ideal) P K V G (ix2 R (⟨t * 256 + (64 * h + d), by omega⟩ : Fin 768)) = (dq q g k v t h R d : EReal) := by
  rw [dq_at]
  simp only [ref_dsc q g k v P K V G hP hK hV hG, hK, ← EReal.coe_mul, Row.coe_sum]; rfl

include hP hK hV hG in
theorem ref_dk (t : Fin 3) (X : Fin 16384) (d : Fin 64) : val_main_v76 (F := Ideal) P K V G (ix3 t X d) = (dk q g k v t X d : EReal) := by
  rw [dk_at]
  simp only [ref_dsc q g k v P K V G hP hK hV hG, hP, ← EReal.coe_mul, Row.coe_sum]; rfl

include hP hK hG in
theorem ref_dv (t : Fin 3) (X : Fin 16384) (d : Fin 64) : val_main_v78 (F := Ideal) P K G (ix3 t X d) = (dv q g k t X d : EReal) := by
  rw [dv_at]
  simp only [ref_weight q k P K hP hK, hG, ← EReal.coe_mul, Row.coe_sum]; rfl

end Reference

section Kernel

open Cert.KernelIdeal Cert.KernelIdeal.Gen Cert.KernelIdeal.Fold Cert.KernelIdeal.Host

variable (m : (ℓ : Loc nD τ sig) → Buf (Elt Ideal) ℓ) (c : Dev nD)
  (hP : ∀ t h R d, aQ m c t h R d = (q t h R d : EReal)) (hK : ∀ t X d, aK m c t X d = (k t X d : EReal))
  (hV : ∀ t X d, aV m c t X d = (v t X d : EReal)) (hG : ∀ t h R d, aG m c t h R d = (g t h R d : EReal))

theorem arg0_at (R : Fin 16384) (l : Fin 1408) : V m c main_arg0 (ix2 R l) = m ((c : Thread nD τ).loc main_arg0) (ix2 R l) := by
  unfold V V0; rw [List.flatten_cons, List.flatten_nil, List.append_nil]; after_results
theorem arg1_at (t : Fin 3) (X : Fin 16384) (d : Fin 64) : V m c main_arg1 (ix3 t X d) = m ((c : Thread nD τ).loc main_arg1) (ix3 t X d) := by
  unfold V V0; rw [List.flatten_cons, List.flatten_nil, List.append_nil]; after_results
theorem arg2_at (t : Fin 3) (X : Fin 16384) (d : Fin 64) : V m c main_arg2 (ix3 t X d) = m ((c : Thread nD τ).loc main_arg2) (ix3 t X d) := by
  unfold V V0; rw [List.flatten_cons, List.flatten_nil, List.append_nil]; after_results
theorem arg4_at (R : Fin 16384) (l : Fin 1024) : V m c main_arg4 (ix2 R l) = m ((c : Thread nD τ).loc main_arg4) (ix2 R l) := by
  unfold V V0; rw [List.flatten_cons, List.flatten_nil, List.append_nil]; after_results

include hP hK in
theorem ker_sc (t : Fin 3) (h : Fin 4) (R X : Fin 16384) : mScore m c (ix4 t h R X) = (sc q k t h R X : EReal) := by
  unfold mScore
  rw [score_apply]
  have eq : ∀ d : Fin 64, m ((c : Thread nD τ).loc main_arg0) (ix2 R (⟨t * 256 + (64 * h + d), by omega⟩ : Fin 1408)) = (q t h R d : EReal) :=
    fun d => (arg0_at m c R _).symm.trans (hP t h R d)
  have ek : ∀ d, m ((c : Thread nD τ).loc main_arg1) (ix3 t X d) = (k t X d : EReal) :=
    fun d => (arg1_at m c t X d).symm.trans (hK t X d)
  simp only [eq, ek, ← EReal.coe_mul, Row.coe_sum]; rfl

include hP hK in
theorem ker_top (t : Fin 3) (h : Fin 4) (R : Fin 16384) : ∃ M : ℝ, top (mScore m c) (ix4 t h R (0 : Fin 1)) = (M : EReal) := by
  rw [top_apply]
  simp only [ker_sc q k m c hP hK]
  exact fold_fin _

include hP hK in
theorem ker_W (t : Fin 3) (h : Fin 4) (R X : Fin 16384) : weight m c t h R X = (W q k t h R X : EReal) := by
  obtain ⟨M, hM⟩ := ker_top q k m c hP hK t h R
  have e : (∑ d : Fin 64, aQ m c t h R d * ((1 / 8 : ℝ) : EReal) * aK m c t X d) = (sc q k t h R X : EReal) := by
    simp only [hP, hK, ← EReal.coe_mul, Row.coe_sum]
    rw [EReal.coe_eq_coe_iff]
    unfold sc
    rw [Finset.sum_mul]
    exact Finset.sum_congr rfl fun d _ => by ring
  unfold weight aL
  rw [V_saved, saved_apply, total_apply, e]
  simp only [expo_apply, ker_sc q k m c hP hK, hM]
  exact Row.ker_wt _ M X

include hP hK hV in
theorem ker_O (t : Fin 3) (h : Fin 4) (R : Fin 16384) (d : Fin 64) :
    aO m c t h R d = ∑ X, (v t X d : EReal) * (W q k t h R X : EReal) := by
  obtain ⟨M, hM⟩ := ker_top q k m c hP hK t h R
  have ev : ∀ X, m ((c : Thread nD τ).loc main_arg2) (ix3 t X d) = (v t X d : EReal) :=
    fun X => (arg2_at m c t X d).symm.trans (hV t X d)
  unfold aO
  rw [V_output, output_apply, total_apply]
  simp only [expo_apply, ker_sc q k m c hP hK, hM, ev]
  exact Finset.sum_congr rfl fun X _ => congrArg _ (Row.div_wt _ M X)

include hP hK hV hG in
theorem ker_D (t : Fin 3) (h : Fin 4) (R X : Fin 16384) : dscore m c t h R X = (D q g k v t h R X : EReal) := by
  unfold dscore
  simp only [ker_W q k m c hP hK, ker_O q k v m c hP hK hV, hV, hG]
  exact Row.ker_dsc (sc q k t h R) (g t h R) (v t) X

/-- The rows in the order of the blocks and chains are all the rows of all the heads. -/
theorem sum_rows (F : Fin 4 → Fin 16384 → ℝ) :
    ∑ i : Fin 16, ∑ b : Fin 32, ∑ r : Fin 128, F (head b) (row i b r) = ∑ h, ∑ R, F h R := by
  have e1 : ∀ i : Fin 16, ∑ b : Fin 32, ∑ r : Fin 128, F (head b) (row i b r)
      = ∑ h : Fin 4, ∑ s : Fin 1024, F h ⟨i * 1024 + s, by omega⟩ := fun i => by
    have := Fin.sum_divmod_fin (N := 32) (A := 4) 8 (fun h a => ∑ r : Fin 128, F h ⟨i * 1024 + (128 * a + r), by omega⟩)
    refine Eq.trans ?_ (this.trans (Finset.sum_congr rfl fun h _ => ?_))
    · rfl
    · rw [← Fin.sum_mul_add_fin (L := 1024) 8 128 (fun s => F h ⟨i * 1024 + s, by omega⟩)]
      exact Finset.sum_congr rfl fun a _ => Finset.sum_congr rfl fun r _ => congrArg (F h) (Fin.ext (by simp only []; omega))
  simp only [e1]
  rw [Finset.sum_comm]
  exact Finset.sum_congr rfl fun h _ => Fin.sum_mul_add_fin (L := 16384) 16 1024 (F h)

include hP hK hV hG in
theorem ker_dk (t : Fin 3) (X : Fin 16384) (d : Fin 64) : gradK m c t X d = (dk q g k v t X d : EReal) := by
  unfold gradK
  simp only [ker_D q g k v m c hP hK hV hG, hP, ← EReal.coe_mul, Row.coe_sum]
  rw [EReal.coe_eq_coe_iff]
  unfold dk
  rw [sum_rows (fun h R => D q g k v t h R X * (q t h R d * (1 / 8))), Finset.sum_comm]
  exact Finset.sum_congr rfl fun R _ => Finset.sum_congr rfl fun h _ => by ring

include hP hK hG in
theorem ker_dv (t : Fin 3) (X : Fin 16384) (d : Fin 64) : gradV m c t X d = (dv q g k t X d : EReal) := by
  unfold gradV
  simp only [ker_W q k m c hP hK, hG, ← EReal.coe_mul, Row.coe_sum]
  rw [EReal.coe_eq_coe_iff]
  unfold dv
  rw [sum_rows (fun h R => W q k t h R X * g t h R d)]
  exact Finset.sum_congr rfl fun h _ => Finset.sum_congr rfl fun R _ => mul_comm _ _

include hP hK hV hG in
theorem ker_dq (t : Fin 3) (h : Fin 4) (R : Fin 16384) (d : Fin 64) :
    (∑ j : Fin 8, gradQ m c j t h R d) = (dq q g k v t h R d : EReal) := by
  unfold gradQ
  simp only [ker_D q g k v m c hP hK hV hG, hK, ← EReal.coe_mul, Row.coe_sum]
  rw [EReal.coe_eq_coe_iff]
  unfold dq
  rw [← Finset.sum_mul, Fin.sum_mul_add_fin (L := 16384) 8 2048 (fun X => D q g k v t h R X * k t X d), Finset.sum_mul]
  exact Finset.sum_congr rfl fun X _ => by ring

end Kernel

end Cert.Grad

end
-- ==== Proof.Finite.lean ====
/- What the precondition says: the elements read by the launch are real numbers. -/
module

public import proofs.«01_k».proof.Defs
public import proofs.«01_k».proof.Proof.Row
public import proofs.«01_k».proof.Proof.RefRead

@[expose] public section

set_option maxRecDepth 16384

noncomputable section

open Idealize.ShloMosaic Idealize.ShloMosaic.TcCoe Idealize.SL.Sem

namespace Cert.Finite

open Cert.Pre_finite_inputs

/-- The shape relations that the predicate's operations take. -/
theorem facts : Cert.Pre_finite_inputs.Facts where
  slices_S16384x1408_S16384x768_0_0 := by decide
  bitsLt_bf16_f32 := by decide
  bcast_S_S16384x768 := by decide
  bcast_S_S3x16384x64 := by decide
  slices_S16384x1024_S16384x768_0_0 := by decide

variable [Cert.Pre_finite_inputs.Facts]

theorem inf_bits : Ideal.ofBits .f32 0x7F800000#32 = (⊤ : EReal) := by
  simp [Ideal.ofBits, Ideal.ieee]

theorem of_lt (x : EReal) (h : BitVec.ofBool (decide (FloatOps.absf (F := Ideal) (φ := .f32) x < Ideal.ofBits .f32 0x7F800000#32)) = 1#1) :
    Row.Fin' x := by
  refine Row.fin_of_abs_lt ?_
  by_contra hn
  replace h : BitVec.ofBool (decide (max x (-x) < Ideal.ofBits .f32 0x7F800000#32)) = 1#1 := h
  rw [inf_bits, decide_eq_false hn] at h
  exact absurd h (by decide)

variable (p : FVec Ideal S16384x1408 .bf16) (k v : FVec Ideal S3x16384x64 .bf16) (o : FVec Ideal S16384x256 .bf16)
  (g : FVec Ideal S16384x1024 .bf16)

theorem fin_p (h : (fn (F := Ideal) p k v o g).1 = fun _ => 1#1) (R : Fin 16384) (l : Fin 768) :
    Row.Fin' (p (ix2 R (⟨l, by omega⟩ : Fin 1408))) := by
  have e := congrFun h (ix2 R l)
  pointwise [fn] at e
  exact of_lt _ e

theorem fin_k (h : (fn (F := Ideal) p k v o g).2.1 = fun _ => 1#1) (t : Fin 3) (X : Fin 16384) (d : Fin 64) :
    Row.Fin' (k (ix3 t X d)) := by
  have e := congrFun h (ix3 t X d)
  pointwise [fn] at e
  exact of_lt _ e

theorem fin_v (h : (fn (F := Ideal) p k v o g).2.2.1 = fun _ => 1#1) (t : Fin 3) (X : Fin 16384) (d : Fin 64) :
    Row.Fin' (v (ix3 t X d)) := by
  have e := congrFun h (ix3 t X d)
  pointwise [fn] at e
  exact of_lt _ e

theorem fin_g (h : (fn (F := Ideal) p k v o g).2.2.2 = fun _ => 1#1) (R : Fin 16384) (l : Fin 768) :
    Row.Fin' (g (ix2 R (⟨l, by omega⟩ : Fin 1024))) := by
  have e := congrFun h (ix2 R l)
  pointwise [fn] at e
  exact of_lt _ e

end Cert.Finite

end
-- ==== Proof.Result.lean ====
/- The program's results after the lines that follow the launch. -/
module

public import proofs.«01_k».proof.Proof.Final

@[expose] public section

set_option maxRecDepth 16384

noncomputable section

open Idealize.ShloMosaic Idealize.ShloMosaic.TcCoe Idealize.SL.Sem

namespace Cert.KernelIdeal.Result

open Cert.KernelIdeal Cert.KernelIdeal.Gen Cert.KernelIdeal.Fold Facts

/-- The sum of the eight shares of the queries' gradient, cast. -/
def gather (x : FVec Ideal S8x16384x768 .f32) : FVec Ideal S16384x768 .bf16 :=
  truncf .bf16 (Host.reduceAdd x (constant S_ .f32 0x00000000#32) reducesTo_S8x16384x768_S16384x768_d0 h_S_) bitsLt_bf16_f32

theorem gather_apply (x) (R : Fin 16384) (l : Fin 768) : gather x (ix2 R l) = ∑ j : Fin 8, x (ix3 j R l) := by
  pointwise [gather]

variable (m : (ℓ : Loc nD τ sig) → Buf (Elt Ideal) ℓ) (c : Dev nD)

theorem tail_q : Pipeline.afterTail₀ cfgs (dats m) 0 (V0 m) [hostOps1] c main_v27 = gather ((dats m 0 c).arrAt 6 (cfgs 0).N) := by
  unfold Pipeline.afterTail₀
  rw [List.flatten_cons, List.flatten_nil, List.append_nil]
  after_results
  rw [show Pipeline.withArrays (cfgs 0).spec c (V0 m c) (fun w => (dats m 0 c).arrAt w (cfgs 0).N) (Proc.tc.devRef main_v25_0)
      = (dats m 0 c).arrAt 6 (cfgs 0).N from Pipeline.withArrays_arr (cfgs 0).spec winFacts0.arr_inj c (V0 m c) _ 6]
  rfl

end Cert.KernelIdeal.Result

end
-- ==== Proof.Algebra.lean ====
/- The results of the two programs are the same numbers, for real arguments. -/
module

public import proofs.«01_k».proof.Proof.Equation
public import proofs.«01_k».proof.Proof.Finite
public import proofs.«01_k».proof.Proof.Result

@[expose] public section

set_option maxRecDepth 16384

noncomputable section

open Idealize.ShloMosaic Idealize.ShloMosaic.TcCoe Idealize.SL.Sem

namespace Cert.Algebra

open Cert.KernelIdeal Cert.KernelIdeal.Gen Cert.KernelIdeal.Fold Cert.Grad Cert.KernelIdeal.Result

variable [Cert.Pre_finite_inputs.Facts] (m : (ℓ : Loc nD τ sig) → Buf (Elt Ideal) ℓ) (c : Dev nD)

/-- The arguments' elements as real numbers. -/
theorem reals (h : Cert.Pre_KernelIdeal_finite_inputs m) : ∃ (q g : Fin 3 → Fin 4 → Fin 16384 → Fin 64 → ℝ) (k v : Fin 3 → Fin 16384 → Fin 64 → ℝ),
    (∀ t h R d, aQ m c t h R d = (q t h R d : EReal)) ∧ (∀ t X d, aK m c t X d = (k t X d : EReal))
      ∧ (∀ t X d, aV m c t X d = (v t X d : EReal)) ∧ (∀ t h R d, aG m c t h R d = (g t h R d : EReal)) := by
  obtain ⟨hp, hk, hv, hg⟩ := h c
  have ep : ∀ t h R d, Row.Fin' (aQ m c t h R d) := fun t h R d => by
    unfold aQ; rw [arg0_at]
    exact Finite.fin_p _ _ _ _ _ hp R ⟨t * 256 + (64 * h + d), by omega⟩
  have ek : ∀ t X d, Row.Fin' (aK m c t X d) := fun t X d => by
    unfold aK; rw [arg1_at]
    exact Finite.fin_k _ _ _ _ _ hk t X d
  have ev : ∀ t X d, Row.Fin' (aV m c t X d) := fun t X d => by
    unfold aV; rw [arg2_at]
    exact Finite.fin_v _ _ _ _ _ hv t X d
  have eg : ∀ t h R d, Row.Fin' (aG m c t h R d) := fun t h R d => by
    unfold aG; rw [arg4_at]
    exact Finite.fin_g _ _ _ _ _ hg R ⟨t * 256 + (64 * h + d), by omega⟩
  choose q hq using ep
  choose k hk using ek
  choose v hv using ev
  choose g hg using eg
  exact ⟨q, g, k, v, hq, hk, hv, hg⟩

variable (h : Cert.Pre_KernelIdeal_finite_inputs m)

include h in
/-- The gradient of the queries. -/
theorem same_q : gather ((dats m 0 c).arrAt 6 (cfgs 0).N)
    = Cert.ReferenceIdeal.Read.val_main_v74 (F := Ideal) (m ((c : Thread nD τ).loc main_arg0)) (m ((c : Thread nD τ).loc main_arg1))
      (m ((c : Thread nD τ).loc main_arg2)) (m ((c : Thread nD τ).loc main_arg4)) := by
  obtain ⟨q, g, k, v, hP, hK, hV, hG⟩ := reals m c h
  funext y
  obtain ⟨R, l, rfl⟩ : ∃ (R : Fin 16384) (l : Fin 768), y = ix2 R l := ⟨y 0, y 1, by funext a; match a with | ⟨0, _⟩ => rfl | ⟨1, _⟩ => rfl⟩
  have hl := l.isLt
  have e : l = ⟨(⟨l / 256, by omega⟩ : Fin 3) * 256 + (64 * (⟨l % 256 / 64, by omega⟩ : Fin 4) + (⟨l % 64, by omega⟩ : Fin 64)), by
    simp only []; omega⟩ := Fin.ext (by simp only []; omega)
  rw [gather_apply, final_q]
  refine (ker_dq q g k v m c hP hK hV hG ⟨l / 256, by omega⟩ ⟨l % 256 / 64, by omega⟩ R ⟨l % 64, by omega⟩).trans ?_
  refine (ref_dq q g k v _ _ _ _ (fun t h R d => (arg0_at m c R _).symm.trans (hP t h R d)) (fun t X d => (arg1_at m c t X d).symm.trans (hK t X d))
    (fun t X d => (arg2_at m c t X d).symm.trans (hV t X d)) (fun t h R d => (arg4_at m c R _).symm.trans (hG t h R d)) _ _ _ _).symm.trans ?_
  exact congrArg _ (congrArg (ix2 R) e.symm)

include h in
/-- The gradient of the keys. -/
theorem same_k : (dats m 0 c).arrAt 7 (cfgs 0).N
    = Cert.ReferenceIdeal.Read.val_main_v76 (F := Ideal) (m ((c : Thread nD τ).loc main_arg0)) (m ((c : Thread nD τ).loc main_arg1))
      (m ((c : Thread nD τ).loc main_arg2)) (m ((c : Thread nD τ).loc main_arg4)) := by
  obtain ⟨q, g, k, v, hP, hK, hV, hG⟩ := reals m c h
  refine (final_k m c).trans ?_
  funext y
  obtain ⟨t, X, d, rfl⟩ : ∃ (t : Fin 3) (X : Fin 16384) (d : Fin 64), y = ix3 t X d :=
    ⟨y 0, y 1, y 2, by funext a; match a with | ⟨0, _⟩ => rfl | ⟨1, _⟩ => rfl | ⟨2, _⟩ => rfl⟩
  refine (ker_dk q g k v m c hP hK hV hG t X d).trans ?_
  exact (ref_dk q g k v _ _ _ _ (fun t h R d => (arg0_at m c R _).symm.trans (hP t h R d)) (fun t X d => (arg1_at m c t X d).symm.trans (hK t X d))
    (fun t X d => (arg2_at m c t X d).symm.trans (hV t X d)) (fun t h R d => (arg4_at m c R _).symm.trans (hG t h R d)) _ _ _).symm

include h in
/-- The gradient of the values. -/
theorem same_v : (dats m 0 c).arrAt 8 (cfgs 0).N
    = Cert.ReferenceIdeal.Read.val_main_v78 (F := Ideal) (m ((c : Thread nD τ).loc main_arg0)) (m ((c : Thread nD τ).loc main_arg1))
      (m ((c : Thread nD τ).loc main_arg4)) := by
  obtain ⟨q, g, k, v, hP, hK, hV, hG⟩ := reals m c h
  refine (final_v m c).trans ?_
  funext y
  obtain ⟨t, X, d, rfl⟩ : ∃ (t : Fin 3) (X : Fin 16384) (d : Fin 64), y = ix3 t X d :=
    ⟨y 0, y 1, y 2, by funext a; match a with | ⟨0, _⟩ => rfl | ⟨1, _⟩ => rfl | ⟨2, _⟩ => rfl⟩
  refine (ker_dv q g k m c hP hK hG t X d).trans ?_
  exact (ref_dv q g k _ _ _ (fun t h R d => (arg0_at m c R _).symm.trans (hP t h R d)) (fun t X d => (arg1_at m c t X d).symm.trans (hK t X d))
    (fun t h R d => (arg4_at m c R _).symm.trans (hG t h R d)) _ _ _).symm

end Cert.Algebra

end
-- ==== Proof.Norm.lean ====
/- The root-mean-square norm of one row and its derivative: real arithmetic, and its reading in the extended reals where every
   element is a real number. -/
module

public import proofs.«01_k».proof.Proof.Row

@[expose] public section

noncomputable section

open Idealize.ShloMosaic

namespace Cert.Norm

/-- What is added to the mean square. -/
def eps : ℝ := 8796093 / 2 ^ 43

theorem eps_pos : 0 < eps := by unfold eps; norm_num

theorem eps_bits : Ideal.ofBits .f32 0x358637BD#32 = (eps : EReal) := by
  simp [Ideal.ofBits, Ideal.ieee]; rw [← EReal.coe_mul, EReal.coe_eq_coe_iff]; unfold eps; norm_num

theorem len_bits : Ideal.ofBits .f32 0x44800000#32 = ((1024 : ℝ) : EReal) := by
  simp [Ideal.ofBits, Ideal.ieee]; rw [← EReal.coe_mul, EReal.coe_eq_coe_iff]; norm_num

theorem half_bits : Ideal.ofBits .f32 0xBF000000#32 = ((-(1 / 2) : ℝ) : EReal) := by
  simp [Ideal.ofBits, Ideal.ieee]; rw [← EReal.coe_mul, EReal.coe_eq_coe_iff]; norm_num

/-- The mean square of a row, with `eps` added. -/
def ms (x : Fin 1024 → ℝ) : ℝ := (∑ j, x j * x j) * (1 / 1024) + eps

/-- The inverse of its root. -/
def inv (x : Fin 1024 → ℝ) : ℝ := (Real.sqrt (ms x))⁻¹

theorem ms_pos (x : Fin 1024 → ℝ) : 0 < ms x :=
  add_pos_of_nonneg_of_pos (mul_nonneg (Finset.sum_nonneg fun j _ => mul_self_nonneg _) (by norm_num)) eps_pos

/-- The derivative of the norm of `x` with gain `g`, at the cotangent `d`. -/
def back (d g x : Fin 1024 → ℝ) (j : Fin 1024) : ℝ :=
  inv x * (d j * g j - x j * inv x * ((∑ i, d i * g i * (x i * inv x)) * (1 / 1024)))

theorem div_len (a : ℝ) : Ideal.div (a : EReal) (Ideal.ofBits .f32 0x44800000#32) = ((a * (1 / 1024) : ℝ) : EReal) := by
  rw [len_bits, Ideal.div_coe (by norm_num), ← EReal.coe_mul]

/-- The mean square in the extended reals. -/
def mean (x : Fin 1024 → EReal) : EReal :=
  Ideal.div (∑ j, x j * x j) (Ideal.ofBits .f32 0x44800000#32) + Ideal.ofBits .f32 0x358637BD#32

/-- The derivative as the kernel computes it, in the extended reals. -/
def kback (d g x : Fin 1024 → EReal) (j : Fin 1024) : EReal :=
  Ideal.rsqrt (mean x) * (d j * g j - x j * Ideal.rsqrt (mean x)
    * Ideal.div (∑ i, d i * g i * (x i * Ideal.rsqrt (mean x))) (Ideal.ofBits .f32 0x44800000#32))

/-- The same derivative by the rules of the product, the root and the quotient. -/
def rback (d g x : Fin 1024 → EReal) (j : Fin 1024) : EReal :=
  Ideal.div ((∑ i, x i * (d i * g i)) * (Ideal.ofBits .f32 0xBF000000#32 * Ideal.div (Ideal.rsqrt (mean x)) (mean x)))
    (Ideal.ofBits .f32 0x44800000#32)

variable (d g x : Fin 1024 → ℝ)

theorem mean_coe : mean (fun j => (x j : EReal)) = (ms x : EReal) := by
  unfold mean ms
  simp only [← EReal.coe_mul, Row.coe_sum]
  rw [div_len, eps_bits, ← EReal.coe_add]

theorem rsqrt_coe : Ideal.rsqrt (mean (fun j => (x j : EReal))) = (inv x : EReal) := by
  rw [mean_coe, Ideal.rsqrt_coe, if_neg (ms_pos x).le.not_gt, if_neg (ms_pos x).ne']; rfl

theorem kback_coe (j : Fin 1024) : kback (fun j => (d j : EReal)) (fun j => (g j : EReal)) (fun j => (x j : EReal)) j = (back d g x j : EReal) := by
  unfold kback
  simp only [rsqrt_coe, ← EReal.coe_mul, Row.coe_sum, div_len, ← EReal.coe_sub]; rfl

theorem inv_sq : inv x * inv x = 1 / ms x := by
  unfold inv; rw [← mul_inv, Real.mul_self_sqrt (ms_pos x).le, one_div]

theorem rback_coe (j : Fin 1024) : rback (fun j => (d j : EReal)) (fun j => (g j : EReal)) (fun j => (x j : EReal)) j
    = (((∑ i, x i * (d i * g i)) * (-(1 / 2) * (inv x * (inv x * inv x))) * (1 / 1024) : ℝ) : EReal) := by
  unfold rback
  rw [rsqrt_coe]
  simp only [mean_coe, Ideal.div_coe (ms_pos x).ne', half_bits, ← EReal.coe_mul, Row.coe_sum, div_len, inv_sq]

/-- The two agree at real numbers, whatever is added before. -/
theorem back_eq (e : ℝ) (j : Fin 1024) :
    (e + d j * g j * inv x
      + x j * ((∑ i, x i * (d i * g i)) * (-(1 / 2) * (inv x * (inv x * inv x))) * (1 / 1024))
      + x j * ((∑ i, x i * (d i * g i)) * (-(1 / 2) * (inv x * (inv x * inv x))) * (1 / 1024)))
      = e + back d g x j := by
  have h : ∑ i, d i * g i * (x i * inv x) = (∑ i, x i * (d i * g i)) * inv x := by
    rw [Finset.sum_mul]; exact Finset.sum_congr rfl fun i _ => by ring
  unfold back
  rw [h]
  ring

/-! The same at any extended reals. -/

/-- A nonnegative real factor goes into a sum. -/
theorem sum_mul_real {ι : Type} (s : Finset ι) (f : ι → EReal) {r : ℝ} (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- Twice a real multiple. -/
theorem twice (S : EReal) (a : ℝ) : S * (a : EReal) + S * (a : EReal) = S * ((2 * a : ℝ) : EReal) := by
  rcases lt_trichotomy a 0 with h | h | h
  · have h2 : 2 * a < 0 := by linarith
    induction S with
    | coe s => rw [← EReal.coe_mul, ← EReal.coe_add, ← EReal.coe_mul, EReal.coe_eq_coe_iff]; ring
    | bot => rw [EReal.bot_mul_coe_of_neg h, EReal.bot_mul_coe_of_neg h2]; rfl
    | top => rw [EReal.top_mul_coe_of_neg h, EReal.top_mul_coe_of_neg h2]; rfl
  · subst h; simp
  · have h2 : 0 < 2 * a := by linarith
    induction S with
    | coe s => rw [← EReal.coe_mul, ← EReal.coe_add, ← EReal.coe_mul, EReal.coe_eq_coe_iff]; ring
    | bot => rw [EReal.bot_mul_coe_of_pos h, EReal.bot_mul_coe_of_pos h2]; rfl
    | top => rw [EReal.top_mul_coe_of_pos h, EReal.top_mul_coe_of_pos h2]; rfl

theorem div_len' (a : EReal) : Ideal.div a (Ideal.ofBits .f32 0x44800000#32) = a * ((1 / 1024 : ℝ) : EReal) := by
  rw [len_bits, Ideal.div_coe (by norm_num)]

theorem sq_nonneg' (a : EReal) : 0 ≤ a * a := by
  induction a with
  | coe r => rw [← EReal.coe_mul]; exact_mod_cast mul_self_nonneg r
  | bot => rw [EReal.bot_mul_bot]; exact le_top
  | top => rw [EReal.top_mul_top]; exact le_top

/-- The mean square of a row with an element that is not a real number. -/
theorem mean_top (x : Fin 1024 → EReal) (i : Fin 1024) (h : ¬Row.Fin' (x i)) : mean x = ⊤ := by
  have hi : x i * x i = ⊤ := by
    generalize x i = a at h
    induction a with
    | coe r => exact absurd (Row.Fin'.coe r) h
    | bot => exact EReal.bot_mul_bot
    | top => exact EReal.top_mul_top
  have hs : ∑ j, x j * x j = ⊤ := top_le_iff.mp (hi ▸ Finset.single_le_sum (fun j _ => sq_nonneg' (x j)) (Finset.mem_univ i))
  unfold mean
  rw [hs, div_len', EReal.top_mul_coe_of_pos (by norm_num), eps_bits, EReal.top_add_coe]

/-- The kernel's form and that of the rules agree at any extended reals: the norm's factor is either zero or a positive
    real number. -/
theorem kback_eq (d g x : Fin 1024 → EReal) (e : EReal) (j : Fin 1024) :
    e + kback d g x j = e + d j * g j * Ideal.rsqrt (mean x) + x j * rback d g x 0 + rback d g x 0 * x j := by
  by_cases h : ∀ i, Row.Fin' (x i)
  · choose y hy using h
    obtain rfl : x = fun i => (y i : EReal) := funext hy
    have hp : 0 < inv y := inv_pos.mpr (Real.sqrt_pos.mpr (ms_pos y))
    have h1 : ∑ i, d i * g i * ((y i : EReal) * (inv y : EReal)) = (∑ i, (y i : EReal) * (d i * g i)) * (inv y : EReal) := by
      rw [sum_mul_real _ _ hp.le]
      exact Finset.sum_congr rfl fun i _ => by rw [← mul_assoc, mul_comm (d i * g i)]
    have hm : Ideal.ofBits .f32 0xBF000000#32 * Ideal.div (inv y : EReal) (ms y : EReal)
        = ((-(1 / 2) * (inv y * (1 / ms y)) : ℝ) : EReal) := by
      rw [half_bits, Ideal.div_coe (ms_pos y).ne', ← EReal.coe_mul, ← EReal.coe_mul]
    unfold kback rback
    simp only [rsqrt_coe]
    rw [h1, mean_coe, hm, div_len', div_len']
    generalize ∑ i, (y i : EReal) * (d i * g i) = S
    generalize d j * g j = a
    rw [EReal.mul_sub_of_nonneg_of_ne_top (by exact_mod_cast hp.le) (EReal.coe_ne_top _), mul_comm _ a, sub_eq_add_neg]
    have hk : (inv y : EReal) * ((y j : EReal) * (inv y : EReal) * (S * (inv y : EReal) * ((1 / 1024 : ℝ) : EReal)))
        = S * ((inv y * (y j * inv y * (inv y * (1 / 1024))) : ℝ) : EReal) := by
      simp only [EReal.coe_mul]; ac_rfl
    have hr : (y j : EReal) * (S * ((-(1 / 2) * (inv y * (1 / ms y)) : ℝ) : EReal) * ((1 / 1024 : ℝ) : EReal))
        = S * ((y j * (-(1 / 2) * (inv y * (1 / ms y)) * (1 / 1024)) : ℝ) : EReal) := by
      rw [EReal.coe_mul (y j), EReal.coe_mul (-(1 / 2) * (inv y * (1 / ms y)))]; ac_rfl
    rw [mul_comm _ (y j : EReal), hk, hr, add_assoc (e + _), twice, ← add_assoc, ← mul_neg, ← EReal.coe_neg]
    refine congrArg (fun z : ℝ => e + a * (inv y : EReal) + S * (z : EReal)) ?_
    rw [← inv_sq]
    ring
  · obtain ⟨i, hi⟩ := not_forall.mp h
    unfold kback rback
    simp only [mean_top x i hi, div_len', Ideal.rsqrt_top]
    simp [Ideal.div]

end Cert.Norm

end
-- ==== Proof.DownPoint.lean ====
/- What the body of the backward pass through the second product, its norm and the gate leaves at one grid point, as two chains
   of rows over the point's blocks. -/
module

public import proofs.«01_k».proof.Proof.Gen.Kernel2Ideal.Frame
public import proofs.«01_k».proof.Proof.Norm
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.Kernel2Ideal.Point

open Cert.Kernel2Ideal Cert.Kernel2Ideal.Gen Facts

theorem inb_wide (b : Fin 2) : ∀ a, (![256 * b.val, 0] : Fin 2 → Nat) a + (![256, 1024] : Fin 2 → Nat) a ≤ S512x1024.size a := by
  revert b; decide
theorem inb_half (q : Fin 4) : ∀ a, (![256 * (q.val / 2), 2816 * (q.val % 2)] : Fin 2 → Nat) a + (![256, 2816] : Fin 2 → Nat) a ≤ S512x5632.size a := by
  revert q; decide

/-- The rows of chain `b` in a block of the layer's width. -/
def wide (X : FVec Ideal S512x1024 .f32) (b : Fin 2) : FVec Ideal S256x1024 .f32 :=
  View.ld (Val := Elt Ideal) (S := S512x1024) (e' := .f32) X (Rect.unit (s := S512x1024) ![256 * b.val, 0] ![256, 1024] (inb_wide b))

/-- The same rows of the product. -/
def prod (X : FVec Ideal S512x1024 .bf16) (b : Fin 2) : FVec Ideal S256x1024 .bf16 :=
  View.ld (Val := Elt Ideal) (S := S512x1024) (e' := .bf16) X (Rect.unit (s := S512x1024) ![256 * b.val, 0] ![256, 1024] (inb_wide b))

/-- Quarter `q` of a block of the gate and the values: chain `q / 2`, the gate's half or the values'. -/
def half (X : FVec Ideal S512x5632 .bf16) (q : Fin 4) : FVec Ideal S256x2816 .bf16 :=
  View.ld (Val := Elt Ideal) (S := S512x5632) (e' := .bf16) X
    (Rect.unit (s := S512x5632) ![256 * (q.val / 2), 2816 * (q.val % 2)] ![256, 2816] (inb_half q))

/-- The gradient of the product, a chain's rows. -/
def rowF (e : FVec Ideal S256x1024 .f32) (f : FVec Ideal S256x1024 .bf16) (g : FVec Ideal S1x1024 .f32) : FVec Ideal S256x1024 .bf16 :=
  k0_pay14 e (k0_pay10 f) g

/-- The gradient of the gated values, a chain's rows. -/
def rowA (e : FVec Ideal S256x1024 .f32) (f : FVec Ideal S256x1024 .bf16) (g : FVec Ideal S1x1024 .f32) (w : FVec Ideal S2816x1024 .bf16) :
    FVec Ideal S256x2816 .f32 :=
  k0_pay16 e (k0_pay10 f) g w

/-- The gradient of the gate. -/
def gateG (a : FVec Ideal S256x2816 .f32) (p u : FVec Ideal S256x2816 .bf16) : FVec Ideal S256x2816 .bf16 :=
  k0_pay1 (k0_pay25 a u) (k0_pay26 p)

/-- The gradient of the values. -/
def gateU (a : FVec Ideal S256x2816 .f32) (p : FVec Ideal S256x2816 .bf16) : FVec Ideal S256x2816 .bf16 :=
  k0_pay2 a (k0_pay23 p) (k0_pay24 p)

/-- The block of the product's gradient: each chain's rows stored at their place. -/
def allF (e : FVec Ideal S512x1024 .f32) (f : FVec Ideal S512x1024 .bf16) (g : FVec Ideal S1x1024 .f32) : FVec Ideal S512x1024 .bf16 :=
  View.canon (Val := Elt Ideal) (e := .bf16) (List.ofFn fun b : Fin 2 =>
    (⟨Rect.unit ![256 * b.rev.val, 0] ![256, 1024] (inb_wide b.rev),
      rowF (wide e b.rev) (prod f b.rev) g⟩ : View.Piece (Elt Ideal) S512x1024 .bf16))

/-- A quarter of the block of the gradient of the gate and the values. -/
def quarter (e : FVec Ideal S512x1024 .f32) (w : FVec Ideal S2816x1024 .bf16) (p : FVec Ideal S512x5632 .bf16) (f : FVec Ideal S512x1024 .bf16)
    (g : FVec Ideal S1x1024 .f32) (q : Fin 4) : FVec Ideal S256x2816 .bf16 :=
  match q with
  | 0 => gateG (rowA (wide e 0) (prod f 0) g w) (half p 0) (half p 1)
  | 1 => gateU (rowA (wide e 0) (prod f 0) g w) (half p 0)
  | 2 => gateG (rowA (wide e 1) (prod f 1) g w) (half p 2) (half p 3)
  | 3 => gateU (rowA (wide e 1) (prod f 1) g w) (half p 2)

/-- The block of the gradient of the gate and the values: each quarter stored at its place. -/
def allP (e : FVec Ideal S512x1024 .f32) (w : FVec Ideal S2816x1024 .bf16) (p : FVec Ideal S512x5632 .bf16) (f : FVec Ideal S512x1024 .bf16)
    (g : FVec Ideal S1x1024 .f32) : FVec Ideal S512x5632 .bf16 :=
  View.canon (Val := Elt Ideal) (e := .bf16) (List.ofFn fun q : Fin 4 =>
    (⟨Rect.unit ![256 * (q.rev.val / 2), 2816 * (q.rev.val % 2)] ![256, 2816] (inb_half q.rev),
      quarter e w p f g q.rev⟩ : View.Piece (Elt Ideal) S512x5632 .bf16))

/-- The gradient of the gain with the point's two chains added. -/
def addG (e : FVec Ideal S512x1024 .f32) (f : FVec Ideal S512x1024 .bf16) (a : FVec Ideal S1x1024 .f32) : FVec Ideal S1x1024 .f32 :=
  k0_pay4 (k0_pay13 (wide e 0) (k0_pay10 (prod f 0))) (k0_pay13 (wide e 1) (k0_pay10 (prod f 1))) a

variable (m : (ℓ : Loc nD τ sig) → Buf (Elt Ideal) ℓ)

theorem df_A (c : Dev nD) (t : Fin cfg0.N) (h0 : t.val % 32 = 0) :
    (outsAt0 m c t.val t.isLt).1 = allF (iblk m c 0 t) (iblk m c 3 t) (iblk m c 4 t) := by
  rw [outsAt0_A m c t h0]; frame_out
  generalize iblk m c 0 t = x0; generalize iblk m c 1 t = x1; generalize iblk m c 2 t = x2; generalize iblk m c 3 t = x3
  generalize iblk m c 4 t = x4
  rfl

theorem df_B (c : Dev nD) (t : Fin cfg0.N) (h0 : ¬t.val % 32 = 0) :
    (outsAt0 m c t.val t.isLt).1 = allF (iblk m c 0 t) (iblk m c 3 t) (iblk m c 4 t) := by
  rw [outsAt0_B m c t h0]; frame_out
  generalize iblk m c 0 t = x0; generalize iblk m c 1 t = x1; generalize iblk m c 2 t = x2; generalize iblk m c 3 t = x3
  generalize iblk m c 4 t = x4
  rfl

theorem dp_A (c : Dev nD) (t : Fin cfg0.N) (h0 : t.val % 32 = 0) :
    (outsAt0 m c t.val t.isLt).2.1 = allP (iblk m c 0 t) (iblk m c 1 t) (iblk m c 2 t) (iblk m c 3 t) (iblk m c 4 t) := by
  rw [outsAt0_A m c t h0]; frame_out
  generalize iblk m c 0 t = x0; generalize iblk m c 1 t = x1; generalize iblk m c 2 t = x2; generalize iblk m c 3 t = x3
  generalize iblk m c 4 t = x4
  rfl

theorem dp_B (c : Dev nD) (t : Fin cfg0.N) (h0 : ¬t.val % 32 = 0) :
    (outsAt0 m c t.val t.isLt).2.1 = allP (iblk m c 0 t) (iblk m c 1 t) (iblk m c 2 t) (iblk m c 3 t) (iblk m c 4 t) := by
  rw [outsAt0_B m c t h0]; frame_out
  generalize iblk m c 0 t = x0; generalize iblk m c 1 t = x1; generalize iblk m c 2 t = x2; generalize iblk m c 3 t = x3
  generalize iblk m c 4 t = x4
  rfl

theorem dg_A (c : Dev nD) (t : Fin cfg0.N) (h0 : t.val % 32 = 0) :
    (outsAt0 m c t.val t.isLt).2.2 = addG (iblk m c 0 t) (iblk m c 3 t) (constant (F := Ideal) S1x1024 .f32 0x00000000#32) := by
  rw [outsAt0_A m c t h0]; frame_out
  generalize iblk m c 0 t = x0; generalize iblk m c 1 t = x1; generalize iblk m c 2 t = x2; generalize iblk m c 3 t = x3
  generalize iblk m c 4 t = x4
  rfl

theorem dg_B (c : Dev nD) (t : Fin cfg0.N) (h0 : ¬t.val % 32 = 0) :
    (outsAt0 m c t.val t.isLt).2.2 = addG (iblk m c 0 t) (iblk m c 3 t)
      (outsAt0 m c (t.val - 1) (Nat.lt_of_le_of_lt (Nat.sub_le _ _) t.isLt)).2.2 := by
  rw [outsAt0_B m c t h0]; frame_out
  generalize iblk m c 0 t = x0; generalize iblk m c 1 t = x1; generalize iblk m c 2 t = x2; generalize iblk m c 3 t = x3
  generalize iblk m c 4 t = x4
  generalize (outsAt0 m c (t.val - 1) (Nat.lt_of_le_of_lt (Nat.sub_le _ _) t.isLt)).2.2 = a
  rfl

end Cert.Kernel2Ideal.Point

end
-- ==== Proof.Gate.lean ====
/- The logistic function and the derivative of the gate, in the extended reals at real numbers. -/
module

public import proofs.«01_k».proof.Proof.Row

@[expose] public section

noncomputable section

open Idealize.ShloMosaic

namespace Cert.Gate

theorem one_bits : Ideal.ofBits .f32 0x3F800000#32 = ((1 : ℝ) : EReal) := by
  simp [Ideal.ofBits, Ideal.ieee]; rw [← EReal.coe_mul, ← EReal.coe_one, EReal.coe_eq_coe_iff]; norm_num

theorem zero_bits : Ideal.ofBits .f32 0x00000000#32 = ((0 : ℝ) : EReal) := by
  simp [Ideal.ofBits, Ideal.ieee]

/-- The logistic function over the real numbers. -/
def sigR (x : ℝ) : ℝ := 1 / (1 + Real.exp (-x))

/-- In the extended reals, with the negation a subtraction from zero. -/
def sigK (x : EReal) : EReal :=
  Ideal.div (Ideal.ofBits .f32 0x3F800000#32) (Ideal.ofBits .f32 0x3F800000#32 + Ideal.exp (Ideal.ofBits .f32 0x00000000#32 - x))

/-- In the extended reals. -/
def sig (x : EReal) : EReal :=
  Ideal.div (Ideal.ofBits .f32 0x3F800000#32) (Ideal.ofBits .f32 0x3F800000#32 + Ideal.exp (-x))

theorem pos (x : ℝ) : (1 + Real.exp (-x)) ≠ 0 := (add_pos one_pos (Real.exp_pos _)).ne'

theorem sig_coe (x : ℝ) : sig (x : EReal) = (sigR x : EReal) := by
  unfold sig sigR
  rw [one_bits, ← EReal.coe_neg, Ideal.exp_coe, ← EReal.coe_add, Ideal.div_coe (pos x), ← EReal.coe_mul, one_mul]

theorem sigK_coe (x : ℝ) : sigK (x : EReal) = (sigR x : EReal) := by
  unfold sigK sigR
  rw [one_bits, zero_bits, ← EReal.coe_sub, zero_sub, Ideal.exp_coe, ← EReal.coe_add, Ideal.div_coe (pos x), ← EReal.coe_mul, one_mul]

end Cert.Gate

end
-- ==== Proof.DownFold.lean ====
/- The three results of the backward pass through the gate, the second product and its norm at an index, over the arrays that
   the launch takes. -/
module

public import proofs.«01_k».proof.Proof.DownPoint
public import proofs.«01_k».proof.Proof.Gate

@[expose] public section

set_option maxRecDepth 16384

noncomputable section

open Idealize.ShloMosaic Idealize.ShloMosaic.TcCoe Idealize.SL.Sem

namespace Cert.Kernel2Ideal.Fold

open Cert.Kernel2Ideal Cert.Kernel2Ideal.Gen Cert.Kernel2Ideal.Point Facts

/-- Point `t` is the block of rows `t`. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![0, 0] :=
  (by decide +kernel : ∀ t : Fin grid0.N, _)

theorem cast_apply (f : FVec Ideal S256x1024 .bf16) (r : Fin 256) (j : Fin 1024) : k0_pay10 (F := Ideal) f (ix2 r j) = f (ix2 r j) := by
  pointwise [k0_pay10]

theorem inv_apply (x : FVec Ideal S256x1024 .f32) (r : Fin 256) (z : Fin 1) :
    k0_pay11 (F := Ideal) x (ix2 r z) = Ideal.rsqrt (Norm.mean fun j => x (ix2 r j)) := by
  unfold Norm.mean
  pointwise [k0_pay11]

theorem norm_apply (e x : FVec Ideal S256x1024 .f32) (g : FVec Ideal S1x1024 .f32) (r : Fin 256) (j : Fin 1024) :
    k0_pay14 (F := Ideal) e x g (ix2 r j) = Norm.kback (fun j => e (ix2 r j)) (fun j => g (ix2 0 j)) (fun j => x (ix2 r j)) j := by
  unfold Norm.kback
  simp only [← inv_apply x r 0]
  pointwise [k0_pay14, k0_pay12]

theorem rowF_apply (e : FVec Ideal S256x1024 .f32) (f : FVec Ideal S256x1024 .bf16) (g : FVec Ideal S1x1024 .f32) (r : Fin 256) (j : Fin 1024) :
    rowF e f g (ix2 r j) = Norm.kback (fun j => e (ix2 r j)) (fun j => g (ix2 0 j)) (fun j => f (ix2 r j)) j := by
  unfold rowF
  rw [norm_apply]
  simp only [cast_apply]

theorem rowA_apply (e : FVec Ideal S256x1024 .f32) (f : FVec Ideal S256x1024 .bf16) (g : FVec Ideal S1x1024 .f32) (w : FVec Ideal S2816x1024 .bf16)
    (r : Fin 256) (k : Fin 2816) : rowA e f g w (ix2 r k) = ∑ j : Fin 1024, rowF e f g (ix2 r j) * w (ix2 k j) := by
  unfold rowA rowF
  generalize k0_pay10 (F := Ideal) f = x
  pointwise [k0_pay16]

theorem gain_apply (e x : FVec Ideal S256x1024 .f32) (z : Fin 1) (j : Fin 1024) : k0_pay13 (F := Ideal) e x (ix2 z j)
      = ∑ r : Fin 256, e (ix2 r j) * (x (ix2 r j) * Ideal.rsqrt (Norm.mean fun j => x (ix2 r j))) := by
  simp only [← inv_apply x _ 0]
  pointwise [k0_pay13, k0_pay12]

theorem add_apply (u v a : FVec Ideal S1x1024 .f32) (z : Fin 1) (j : Fin 1024) :
    k0_pay4 (F := Ideal) u v a (ix2 z j) = a (ix2 z j) + (u (ix2 z j) + v (ix2 z j)) := by
  pointwise [k0_pay4]

theorem sig_apply (p : FVec Ideal S256x2816 .bf16) (r : Fin 256) (k : Fin 2816) : k0_pay24 (F := Ideal) p (ix2 r k) = Gate.sigK (p (ix2 r k)) := by
  unfold Gate.sigK
  pointwise [k0_pay24, k0_pay23]

/-- The gradient of the gate at one element, as the kernel computes it. -/
def gateK (a p u : EReal) : EReal :=
  a * u * (Gate.sigK p * (Ideal.ofBits .f32 0x3F800000#32 + p * (Ideal.ofBits .f32 0x3F800000#32 - Gate.sigK p)))

theorem gateG_apply (a : FVec Ideal S256x2816 .f32) (p u : FVec Ideal S256x2816 .bf16) (r : Fin 256) (k : Fin 2816) :
    gateG a p u (ix2 r k) = gateK (a (ix2 r k)) (p (ix2 r k)) (u (ix2 r k)) := by
  unfold gateG gateK
  simp only [← sig_apply]
  pointwise [k0_pay1, k0_pay25, k0_pay26, k0_pay23]

theorem gateU_apply (a : FVec Ideal S256x2816 .f32) (p : FVec Ideal S256x2816 .bf16) (r : Fin 256) (k : Fin 2816) :
    gateU a p (ix2 r k) = a (ix2 r k) * (p (ix2 r k) * Gate.sigK (p (ix2 r k))) := by
  unfold gateU
  simp only [← sig_apply]
  pointwise [k0_pay2, k0_pay23]

theorem wide_apply (X : FVec Ideal S512x1024 .f32) (b : Fin 2) (r : Fin 256) (k : Fin 1024) :
    wide X b (ix2 r k) = X (ix2 ⟨256 * b.val + r, by omega⟩ k) := by
  unfold wide
  refine View.ld_unit_apply_of (Val := Elt Ideal) (e := .f32) (S := S512x1024) X ![256 * b.val, 0] ![256, 1024] (inb_wide b) (ix2 r k) _ fun a => ?_
  fin_cases a
  · rfl
  · exact (Nat.zero_add _).symm

theorem prod_apply (X : FVec Ideal S512x1024 .bf16) (b : Fin 2) (r : Fin 256) (k : Fin 1024) :
    prod X b (ix2 r k) = X (ix2 ⟨256 * b.val + r, by omega⟩ k) := by
  unfold prod
  refine View.ld_unit_apply_of (Val := Elt Ideal) (e := .bf16) (S := S512x1024) X ![256 * b.val, 0] ![256, 1024] (inb_wide b) (ix2 r k) _ fun a => ?_
  fin_cases a
  · rfl
  · exact (Nat.zero_add _).symm

theorem half_apply (X : FVec Ideal S512x5632 .bf16) (q : Fin 4) (r : Fin 256) (k : Fin 2816) :
    half X q (ix2 r k) = X (ix2 ⟨256 * (q.val / 2) + r, by omega⟩ ⟨2816 * (q.val % 2) + k, by omega⟩) := by
  unfold half
  refine View.ld_unit_apply_of (Val := Elt Ideal) (e := .bf16) (S := S512x5632) X ![256 * (q.val / 2), 2816 * (q.val % 2)] ![256, 2816] (inb_half q)
    (ix2 r k) _ fun a => ?_
  fin_cases a <;> rfl

theorem zero_at (y : S1x1024.Idx) : constant (F := Ideal) S1x1024 .f32 0x00000000#32 y = (0 : EReal) := by
  rw [constant_apply]; simp [Ideal.ofBits, Ideal.ieee]

/-- The block of the product's gradient at an index: of the chain that stores there. -/
theorem allF_apply (e f g) (b : Fin 2) (r : Fin 256) (j : Fin 1024) (y : S512x1024.Idx)
    (h0 : (y 0 : ℕ) = 256 * b.val + r) (h1 : (y 1 : ℕ) = j) : allF e f g y = rowF (wide e b) (prod f b) g (ix2 r j) := by
  have hr := r.isLt; have hj := j.isLt; have hb := b.isLt
  unfold allF
  refine View.canon_ofFn_unit_eq_of_forall (Val := Elt Ideal) (S := S512x1024) (e := .bf16) (fun b : Fin 2 => ![256 * b.rev.val, 0]) ![256, 1024]
    (fun b => inb_wide b.rev) (fun b => rowF (wide e b.rev) (prod f b.rev) g) y _
    ⟨b.rev, fun a => ?_⟩ fun q z hz => ?_
  · rw [Fin.rev_rev]
    fin_cases a
    · exact ⟨by show 256 * b.val ≤ (y 0 : ℕ); omega, by show (y 0 : ℕ) < 256 * b.val + 256; omega⟩
    · exact ⟨Nat.zero_le _, by show (y 1 : ℕ) < 0 + 1024; omega⟩
  · have e0 : (y 0 : ℕ) = 256 * q.rev.val + (z 0 : ℕ) := hz 0
    have e1 : (y 1 : ℕ) = 0 + (z 1 : ℕ) := hz 1
    have l0 : (z 0 : ℕ) < 256 := (z 0).isLt
    have hrev := q.rev.isLt
    have he : q.rev = b := Fin.ext (by omega)
    rw [he] at e0 ⊢
    refine congrArg (rowF (wide e b) (prod f b) g) (funext fun a => Fin.ext ?_)
    fin_cases a
    · show (z 0 : ℕ) = r; omega
    · show (z 1 : ℕ) = j; omega

/-- The block of the gradient of the gate and the values at an index: of the quarter that stores there. -/
theorem allP_apply (e w p f g) (b : Fin 4) (r : Fin 256) (k : Fin 2816) (y : S512x5632.Idx)
    (h0 : (y 0 : ℕ) = 256 * (b.val / 2) + r) (h1 : (y 1 : ℕ) = 2816 * (b.val % 2) + k) : allP e w p f g y = quarter e w p f g b (ix2 r k) := by
  have hr := r.isLt; have hj := k.isLt; have hb := b.isLt
  unfold allP
  refine View.canon_ofFn_unit_eq_of_forall (Val := Elt Ideal) (S := S512x5632) (e := .bf16)
    (fun q : Fin 4 => ![256 * (q.rev.val / 2), 2816 * (q.rev.val % 2)]) ![256, 2816]
    (fun q => inb_half q.rev) (fun q => quarter e w p f g q.rev) y _
    ⟨b.rev, fun a => ?_⟩ fun q z hz => ?_
  · rw [Fin.rev_rev]
    fin_cases a
    · exact ⟨by show 256 * (b.val / 2) ≤ (y 0 : ℕ); omega, by show (y 0 : ℕ) < 256 * (b.val / 2) + 256; omega⟩
    · exact ⟨by show 2816 * (b.val % 2) ≤ (y 1 : ℕ); omega, by show (y 1 : ℕ) < 2816 * (b.val % 2) + 2816; omega⟩
  · have e0 : (y 0 : ℕ) = 256 * (q.rev.val / 2) + (z 0 : ℕ) := hz 0
    have e1 : (y 1 : ℕ) = 2816 * (q.rev.val % 2) + (z 1 : ℕ) := hz 1
    have l0 : (z 0 : ℕ) < 256 := (z 0).isLt
    have l1 : (z 1 : ℕ) < 2816 := (z 1).isLt
    have hrev := q.rev.isLt
    have he : q.rev = b := Fin.ext (by omega)
    rw [he] at e0 e1 ⊢
    refine congrArg (quarter e w p f g b) (funext fun a => Fin.ext ?_)
    fin_cases a
    · show (z 0 : ℕ) = r; omega
    · show (z 1 : ℕ) = k; omega

variable (m : (ℓ : Loc nD τ sig) → Buf (Elt Ideal) ℓ) (c : Dev nD)

/-- The arrays that the launch takes. -/
def aE (R : Fin 16384) (j : Fin 1024) : EReal := V m c main_arg3 (ix2 R j)
def aW (k : Fin 2816) (j : Fin 1024) : EReal := V m c main_v6 (ix2 k j)
def aP (R : Fin 16384) (k : Fin 5632) : EReal := V m c main_v7 (ix2 R k)
def aF (R : Fin 16384) (j : Fin 1024) : EReal := V m c main_v5 (ix2 R j)
def aG (j : Fin 1024) : EReal := V m c main_v8 (ix2 0 j)

/-- The gradient of the product, row `R`. -/
def grad (R : Fin 16384) (j : Fin 1024) : EReal := Norm.kback (aE m c R) (aG m c) (aF m c R) j

/-- The gradient of the gated values, row `R`. -/
def act (R : Fin 16384) (k : Fin 2816) : EReal := ∑ j : Fin 1024, grad m c R j * aW m c k j

/-- Column `k` of the gate's half, and of the values'. -/
abbrev lo (k : Fin 2816) : Fin 5632 := ⟨k, by omega⟩
abbrev hi (k : Fin 2816) : Fin 5632 := ⟨2816 + k, by omega⟩

/-- The gradient of the gate and of the values. -/
def gate (R : Fin 16384) (k : Fin 2816) : EReal := gateK (act m c R k) (aP m c R (lo k)) (aP m c R (hi k))
def vals (R : Fin 16384) (k : Fin 2816) : EReal := act m c R k * (aP m c R (lo k) * Gate.sigK (aP m c R (lo k)))

/-- Row `r` of chain `b` of block `t`. -/
abbrev row (t : Fin 32) (b : Fin 2) (r : Fin 256) : Fin 16384 := ⟨t * 512 + (256 * b + r), by omega⟩

theorem e_at (t : Fin cfg0.N) (b : Fin 2) (r : Fin 256) (k : Fin 1024) (R : Fin 16384) (hR : (R : ℕ) = t.val * 512 + (256 * b.val + r)) :
    wide (iblk m c 0 t) b (ix2 r k) = aE m c R k := by
  rw [wide_apply]
  unfold iblk aE
  generalize V m c = A
  blk_ext [idx t]

theorem w_at (t : Fin cfg0.N) (k : Fin 2816) (j : Fin 1024) : iblk m c 1 t (ix2 k j) = aW m c k j := by
  unfold iblk aW
  generalize V m c = A
  blk_ext [idx t]

theorem p_at (t : Fin cfg0.N) (q : Fin 4) (r : Fin 256) (k : Fin 2816) (R : Fin 16384) (K : Fin 5632)
    (hR : (R : ℕ) = t.val * 512 + (256 * (q.val / 2) + r)) (hK : (K : ℕ) = 2816 * (q.val % 2) + k) :
    half (iblk m c 2 t) q (ix2 r k) = aP m c R K := by
  rw [half_apply]
  unfold iblk aP
  generalize V m c = A
  blk_ext [idx t]

theorem f_at (t : Fin cfg0.N) (b : Fin 2) (r : Fin 256) (k : Fin 1024) (R : Fin 16384) (hR : (R : ℕ) = t.val * 512 + (256 * b.val + r)) :
    prod (iblk m c 3 t) b (ix2 r k) = aF m c R k := by
  rw [prod_apply]
  unfold iblk aF
  generalize V m c = A
  blk_ext [idx t]

theorem g_at (t : Fin cfg0.N) (j : Fin 1024) : iblk m c 4 t (ix2 0 j) = aG m c j := by
  unfold iblk aG
  generalize V m c = A
  blk_ext [idx t]

theorem grad_at (t : Fin cfg0.N) (b : Fin 2) (r : Fin 256) (j : Fin 1024) (R : Fin 16384) (hR : (R : ℕ) = t.val * 512 + (256 * b.val + r)) :
    rowF (wide (iblk m c 0 t) b) (prod (iblk m c 3 t) b) (iblk m c 4 t) (ix2 r j) = grad m c R j := by
  rw [rowF_apply]
  unfold grad
  simp only [e_at m c t b r _ R hR, f_at m c t b r _ R hR, g_at m c t]

theorem act_at (t : Fin cfg0.N) (b : Fin 2) (r : Fin 256) (k : Fin 2816) (R : Fin 16384) (hR : (R : ℕ) = t.val * 512 + (256 * b.val + r)) :
    rowA (wide (iblk m c 0 t) b) (prod (iblk m c 3 t) b) (iblk m c 4 t) (iblk m c 1 t) (ix2 r k) = act m c R k := by
  rw [rowA_apply]
  exact Finset.sum_congr rfl fun j _ => by rw [grad_at m c t b r j R hR, w_at]

/-- What a point adds to the gradient of the gain. -/
def part (t : Fin 32) (j : Fin 1024) : EReal :=
  (∑ r : Fin 256, aE m c (row t 0 r) j * (aF m c (row t 0 r) j * Ideal.rsqrt (Norm.mean (aF m c (row t 0 r)))))
    + ∑ r : Fin 256, aE m c (row t 1 r) j * (aF m c (row t 1 r) j * Ideal.rsqrt (Norm.mean (aF m c (row t 1 r))))

theorem addG_at (t : Fin cfg0.N) (a) (y : S1x1024.Idx) : addG (iblk m c 0 t) (iblk m c 3 t) a y = a y + part m c t (y 1) := by
  obtain ⟨j, rfl⟩ : ∃ j : Fin 1024, y = ix2 (0 : Fin 1) j := ⟨y 1, by
    funext q
    match q with
    | ⟨0, _⟩ => exact Subsingleton.elim (α := Fin 1) _ _
    | ⟨1, _⟩ => rfl⟩
  show addG (iblk m c 0 t) (iblk m c 3 t) a (ix2 0 j) = a (ix2 0 j) + part m c t j
  unfold addG part
  rw [add_apply, gain_apply, gain_apply]
  have h : ∀ b : Fin 2, (∑ r : Fin 256, wide (iblk m c 0 t) b (ix2 r j)
        * (k0_pay10 (F := Ideal) (prod (iblk m c 3 t) b) (ix2 r j)
          * Ideal.rsqrt (Norm.mean fun j => k0_pay10 (F := Ideal) (prod (iblk m c 3 t) b) (ix2 r j))))
      = ∑ r : Fin 256, aE m c (row t b r) j * (aF m c (row t b r) j * Ideal.rsqrt (Norm.mean (aF m c (row t b r)))) := fun b =>
    Finset.sum_congr rfl fun r _ => by
      simp only [cast_apply]
      rw [e_at m c t b r j (row t b r) rfl]
      simp only [f_at m c t b r _ (row t b r) rfl]
  rw [h 0, h 1]

theorem step_zero (t : Fin cfg0.N) (h0 : t.val % 32 = 0) (y : S1x1024.Idx) :
    ((outsAt0 m c t.val t.isLt).2.2 y : EReal) = 0 + part m c t (y 1) := by
  rw [dg_A m c t h0, addG_at, zero_at]

theorem step (t : Fin cfg0.N) (h0 : ¬t.val % 32 = 0) (y : S1x1024.Idx) :
    ((outsAt0 m c t.val t.isLt).2.2 y : EReal)
      = (outsAt0 m c (t.val - 1) (Nat.lt_of_le_of_lt (Nat.sub_le _ _) t.isLt)).2.2 y + part m c t (y 1) := by
  rw [dg_B m c t h0]
  generalize (outsAt0 m c (t.val - 1) (Nat.lt_of_le_of_lt (Nat.sub_le _ _) t.isLt)).2.2 = a
  rw [addG_at]

theorem acc (t : Fin cfg0.N) (hf : t.val % 32 = 32 - 1) (y : S1x1024.Idx) :
    ((outsAt0 m c t.val t.isLt).2.2 y : EReal) = ∑ s : Fin 32, part m c s (y 1) := by
  have e := Pipeline.eq_sum_fin_of_reset_step_apply_of_flush (N := cfg0.N) (M := EReal) (fun n h y => ((outsAt0 m c n h).2.2 y : EReal)) 32 (fun _ => 0)
    (fun t y => part m c t (y 1)) (step_zero m c) (step m c) t hf y
  refine e.trans ?_
  rw [zero_add]
  have ht : t.val < 32 := t.isLt
  refine Finset.sum_congr rfl fun s _ => congrArg (fun s => part m c s (y 1)) (Fin.ext ?_)
  show 32 * (t.val / 32) + s.val = s.val
  omega

/-- The gradient of the gain. -/
theorem final_g : (dats m 0 c).arrAt 7 (cfgs 0).N = fun y : S1x1024.Idx => ∑ s : Fin 32, part m c s (y 1) := by
  refine (dats m 0 c).arrAt_eq_of_covers 7 _ (by decide +kernel) fun t hf y => ?_
  have h31 := (flush0_7 t).mp hf
  blk_simp
  rw [after0_7]
  refine (acc m c t h31 y).trans (Finset.sum_congr rfl fun s _ => congrArg _ ?_)
  apply Fin.ext; blk_simp [idx t]

/-- The block of the product's gradient that a point leaves. -/
theorem df_at (t : Fin cfg0.N) : (outsAt0 m c t.val t.isLt).1 = allF (iblk m c 0 t) (iblk m c 3 t) (iblk m c 4 t) := by
  by_cases h0 : t.val % 32 = 0
  · exact df_A m c t h0
  · exact df_B m c t h0

/-- The block of the gradient of the gate and the values that a point leaves. -/
theorem dp_at (t : Fin cfg0.N) : (outsAt0 m c t.val t.isLt).2.1
    = allP (iblk m c 0 t) (iblk m c 1 t) (iblk m c 2 t) (iblk m c 3 t) (iblk m c 4 t) := by
  by_cases h0 : t.val % 32 = 0
  · exact dp_A m c t h0
  · exact dp_B m c t h0

theorem f_point (t : Fin cfg0.N) (y : S512x1024.Idx) (R : Fin 16384) (j : Fin 1024) (hR : (R : ℕ) = t.val * 512 + (y 0 : ℕ)) (hj : (y 1 : ℕ) = j) :
    allF (iblk m c 0 t) (iblk m c 3 t) (iblk m c 4 t) y = grad m c R j := by
  have hy : (y 0 : ℕ) < 512 := (y 0).isLt
  obtain ⟨b, hb⟩ : ∃ b : Fin 2, (b : ℕ) = (y 0 : ℕ) / 256 := ⟨⟨(y 0 : ℕ) / 256, by omega⟩, rfl⟩
  obtain ⟨r, hr⟩ : ∃ r : Fin 256, (r : ℕ) = (y 0 : ℕ) % 256 := ⟨⟨(y 0 : ℕ) % 256, by omega⟩, rfl⟩
  rw [allF_apply _ _ _ b r j y (by omega) hj]
  exact grad_at m c t b r j R (by omega)

/-- The gradient of the gate and the values, as one array. -/
def both (R : Fin 16384) (K : Fin 5632) : EReal :=
  if h : (K : ℕ) < 2816 then gate m c R ⟨K, h⟩ else vals m c R ⟨K - 2816, by omega⟩

theorem gate_quarter (t : Fin cfg0.N) (b : Fin 2) (q q' : Fin 4) (hq : (q : ℕ) = 2 * b) (hq' : (q' : ℕ) = 2 * b + 1) (r : Fin 256) (k : Fin 2816)
    (R : Fin 16384) (hR : (R : ℕ) = t.val * 512 + (256 * b.val + r)) :
    gateG (rowA (wide (iblk m c 0 t) b) (prod (iblk m c 3 t) b) (iblk m c 4 t) (iblk m c 1 t)) (half (iblk m c 2 t) q) (half (iblk m c 2 t) q') (ix2 r k)
      = gate m c R k := by
  rw [gateG_apply, act_at m c t b r k R hR, p_at m c t q r k R (lo k) (by omega) (by show (k : ℕ) = _; omega),
    p_at m c t q' r k R (hi k) (by omega) (by show 2816 + (k : ℕ) = _; omega)]
  rfl

theorem vals_quarter (t : Fin cfg0.N) (b : Fin 2) (q : Fin 4) (hq : (q : ℕ) = 2 * b) (r : Fin 256) (k : Fin 2816)
    (R : Fin 16384) (hR : (R : ℕ) = t.val * 512 + (256 * b.val + r)) :
    gateU (rowA (wide (iblk m c 0 t) b) (prod (iblk m c 3 t) b) (iblk m c 4 t) (iblk m c 1 t)) (half (iblk m c 2 t) q) (ix2 r k) = vals m c R k := by
  rw [gateU_apply, act_at m c t b r k R hR, p_at m c t q r k R (lo k) (by omega) (by show (k : ℕ) = _; omega)]
  rfl

theorem p_point (t : Fin cfg0.N) (y : S512x5632.Idx) (R : Fin 16384) (K : Fin 5632) (hR : (R : ℕ) = t.val * 512 + (y 0 : ℕ)) (hK : (y 1 : ℕ) = K) :
    allP (iblk m c 0 t) (iblk m c 1 t) (iblk m c 2 t) (iblk m c 3 t) (iblk m c 4 t) y = both m c R K := by
  have hy : (y 0 : ℕ) < 512 := (y 0).isLt
  have hz : (y 1 : ℕ) < 5632 := (y 1).isLt
  obtain ⟨r, hr⟩ : ∃ r : Fin 256, (r : ℕ) = (y 0 : ℕ) % 256 := ⟨⟨(y 0 : ℕ) % 256, by omega⟩, rfl⟩
  unfold both
  by_cases hc : (K : ℕ) < 2816
  · rw [dif_pos hc]
    by_cases hb : (y 0 : ℕ) < 256
    · rw [allP_apply _ _ _ _ _ 0 r ⟨K, hc⟩ y (by show _ = 256 * (0 / 2) + (r : ℕ); omega) (by show _ = 2816 * (0 % 2) + (K : ℕ); omega)]
      exact gate_quarter m c t 0 0 1 rfl rfl r _ R (by show _ = _ + (256 * 0 + (r : ℕ)); omega)
    · rw [allP_apply _ _ _ _ _ 2 r ⟨K, hc⟩ y (by show _ = 256 * (2 / 2) + (r : ℕ); omega) (by show _ = 2816 * (2 % 2) + (K : ℕ); omega)]
      exact gate_quarter m c t 1 2 3 rfl rfl r _ R (by show _ = _ + (256 * 1 + (r : ℕ)); omega)
  · rw [dif_neg hc]
    by_cases hb : (y 0 : ℕ) < 256
    · rw [allP_apply _ _ _ _ _ 1 r ⟨K - 2816, by omega⟩ y (by show _ = 256 * (1 / 2) + (r : ℕ); omega) (by show _ = 2816 * (1 % 2) + ((K : ℕ) - 2816); omega)]
      exact vals_quarter m c t 0 0 rfl r _ R (by show _ = _ + (256 * 0 + (r : ℕ)); omega)
    · rw [allP_apply _ _ _ _ _ 3 r ⟨K - 2816, by omega⟩ y (by show _ = 256 * (3 / 2) + (r : ℕ); omega) (by show _ = 2816 * (3 % 2) + ((K : ℕ) - 2816); omega)]
      exact vals_quarter m c t 1 2 rfl r _ R (by show _ = _ + (256 * 1 + (r : ℕ)); omega)

/-- The gradient of the product. -/
theorem final_f : (dats m 0 c).arrAt 5 (cfgs 0).N = fun y : S16384x1024.Idx => grad m c (y 0) (y 1) := by
  refine (dats m 0 c).arrAt_eq_of_covers 5 _ (by decide +kernel) fun t hf y => ?_
  blk_simp
  rw [after0_5, df_at m c t]
  refine f_point m c t y _ _ ?_ ?_
  all_goals (blk_simp [idx t] <;> (try dsimp only) <;> omega)

/-- The gradient of the gate and the values. -/
theorem final_p : (dats m 0 c).arrAt 6 (cfgs 0).N = fun y : S16384x5632.Idx => both m c (y 0) (y 1) := by
  refine (dats m 0 c).arrAt_eq_of_covers 6 _ (by decide +kernel) fun t hf y => ?_
  blk_simp
  rw [after0_6, dp_at m c t]
  refine p_point m c t y _ _ ?_ ?_
  all_goals (blk_simp [idx t] <;> (try dsimp only) <;> omega)

end Cert.Kernel2Ideal.Fold

end
-- ==== Proof.DownRef.lean ====
/- The reference of the backward pass through the gate, the second product and its norm, read at an index. -/
module

public import proofs.«01_k».proof.Proof.Gen.Reference2Ideal.Read
public import proofs.«01_k».proof.Proof.Norm
public import proofs.«01_k».proof.Proof.Gate
public import Idealize.ShloMosaic.Lib.Pipeline.ValueKit

@[expose] public section

set_option maxRecDepth 16384

noncomputable section

open Idealize.ShloMosaic Idealize.ShloMosaic.TcCoe Idealize.SL.Sem

namespace Cert.Reference2Ideal.At

open Cert.Reference2Ideal Cert.Reference2Ideal.Read

variable (p : FVec Ideal S16384x5632 .f32) (w : FVec Ideal S2816x1024 .f32) (g : FVec Ideal S1024 .f32) (e : FVec Ideal S16384x1024 .f32)

/-- Column `k` of the gate's half, and of the values'. -/
abbrev lo (k : Fin 2816) : Fin 5632 := ⟨k, by omega⟩
abbrev hi (k : Fin 2816) : Fin 5632 := ⟨2816 + k, by omega⟩

/-- The second product, row `R`. -/
def prod (R : Fin 16384) (j : Fin 1024) : EReal :=
  ∑ k : Fin 2816, p (ix2 R (lo k)) * Gate.sig (p (ix2 R (lo k))) * p (ix2 R (hi k)) * w (ix2 k j)

/-- The part of the norm's derivative along its row. -/
def along (R : Fin 16384) : EReal := Norm.rback (fun j => e (ix2 R j)) (fun j => g (ix1 j)) (prod p w R) 0

/-- The gradient of the product. -/
def grad (R : Fin 16384) (j : Fin 1024) : EReal :=
  e (ix2 R j) * g (ix1 j) * Ideal.rsqrt (Norm.mean (prod p w R)) + prod p w R j * along p w g e R + along p w g e R * prod p w R j

/-- The gradient of the gated values. -/
def act (R : Fin 16384) (k : Fin 2816) : EReal := ∑ j : Fin 1024, grad p w g e R j * w (ix2 k j)

theorem gate_at (R : Fin 16384) (k : Fin 2816) : val_main_v0 (F := Ideal) p (ix2 R k) = p (ix2 R (lo k)) := by
  pointwise [val_main_v0]

theorem value_at (R : Fin 16384) (k : Fin 2816) : val_main_v2 (F := Ideal) p (ix2 R k) = p (ix2 R (hi k)) := by
  pointwise [val_main_v2]

theorem sig_at (R : Fin 16384) (k : Fin 2816) : val_main_v1_2 (F := Ideal) p (ix2 R k) = Gate.sig (p (ix2 R (lo k))) := by
  rw [← gate_at p R k]
  unfold Gate.sig
  pointwise [val_main_v1_2, val_main_call0_v4, val_main_call0_v3, val_main_call0_v2, val_main_call0_v1, val_main_call0_v0, val_main_call0_cst, val_main_call0_cst_0]

theorem dsig_at (R : Fin 16384) (k : Fin 2816) : val_main_v1_1 (F := Ideal) p (ix2 R k)
    = Gate.sig (p (ix2 R (lo k))) * (Ideal.ofBits .f32 0x3F800000#32 - Gate.sig (p (ix2 R (lo k)))) := by
  rw [← sig_at]
  pointwise [val_main_v1_1, val_main_call0_v7, val_main_call0_v6, val_main_call0_cst_1]

theorem silu_at (R : Fin 16384) (k : Fin 2816) : val_main_v1_0 (F := Ideal) p (ix2 R k) = p (ix2 R (lo k)) * Gate.sig (p (ix2 R (lo k))) := by
  rw [← sig_at, ← gate_at p R k]
  pointwise [val_main_v1_0]

theorem prod_at (R : Fin 16384) (j : Fin 1024) : val_main_v4 (F := Ideal) p w (ix2 R j) = prod p w R j := by
  unfold prod
  simp only [← silu_at, ← value_at]
  pointwise [val_main_v4, val_main_v3]

theorem mean_at (R : Fin 16384) (z : Fin 1) : val_main_v11 (F := Ideal) p w (ix2 R z) = Norm.mean (prod p w R) := by
  unfold Norm.mean
  simp only [← prod_at]
  pointwise [val_main_v11, val_main_v10, val_main_v9, val_main_v8, val_main_v7, val_main_v6, val_main_v5, val_main_cst, val_main_cst_0, val_main_cst_1]

theorem inv_at (R : Fin 16384) (z : Fin 1) : val_main_v12 (F := Ideal) p w (ix2 R z) = Ideal.rsqrt (Norm.mean (prod p w R)) := by
  rw [← mean_at p w R z]; pointwise [val_main_v12]

theorem part_at (R : Fin 16384) (z : Fin 1) : val_main_v34 (F := Ideal) p w g e (ix2 R z) = along p w g e R := by
  unfold along Norm.rback
  rw [← mean_at p w R 0]
  simp only [← prod_at]
  pointwise [val_main_v34, val_main_v33, val_main_v32, val_main_v29, val_main_v28, val_main_v27, val_main_v25, val_main_v24, val_main_v18, val_main_v15, val_main_v14,
    val_main_v13, val_main_v12, val_main_cst_2, val_main_cst_5, val_main_cst_6]
  rw [Subsingleton.elim z 0]

theorem unit_at (R : Fin 16384) : val_main_v35 (F := Ideal) p w g e (ix1 R) = val_main_v34 (F := Ideal) p w g e (ix2 R 0) := by
  pointwise [val_main_v35, val_main_cst_7]
  exact Fin.sum_univ_one _

theorem grad_at (R : Fin 16384) (j : Fin 1024) : val_main_v40 (F := Ideal) p w g e (ix2 R j) = grad p w g e R j := by
  unfold grad
  rw [← part_at p w g e R 0, ← inv_at p w R 0, ← prod_at, ← unit_at]
  pointwise [val_main_v40, val_main_v39, val_main_v38, val_main_v37, val_main_v36, val_main_v31, val_main_v30, val_main_v25, val_main_v24, val_main_v18]

/-- The first result. -/
theorem df_at (R : Fin 16384) (j : Fin 1024) : val_main_v41 (F := Ideal) p w g e (ix2 R j) = grad p w g e R j := by
  rw [← grad_at]
  pointwise [val_main_v41]

theorem act_at (R : Fin 16384) (k : Fin 2816) : val_main_v42 (F := Ideal) p w g e (ix2 R k) = act p w g e R k := by
  unfold act
  simp only [← grad_at]
  pointwise [val_main_v42]

/-- The gradient of the values. -/
theorem up_at (R : Fin 16384) (k : Fin 2816) : val_main_v43 (F := Ideal) p w g e (ix2 R k)
    = p (ix2 R (lo k)) * Gate.sig (p (ix2 R (lo k))) * act p w g e R k := by
  rw [← silu_at, ← act_at]
  pointwise [val_main_v43]

/-- The gradient of the gate. -/
theorem down_at (R : Fin 16384) (k : Fin 2816) : val_main_v46 (F := Ideal) p w g e (ix2 R k)
    = act p w g e R k * p (ix2 R (hi k)) * Gate.sig (p (ix2 R (lo k)))
      + p (ix2 R (lo k)) * (act p w g e R k * p (ix2 R (hi k)))
        * (Gate.sig (p (ix2 R (lo k))) * (Ideal.ofBits .f32 0x3F800000#32 - Gate.sig (p (ix2 R (lo k))))) := by
  rw [← dsig_at, ← sig_at, ← act_at, ← value_at p R k, ← gate_at p R k]
  pointwise [val_main_v46, val_main_call1_v2, val_main_call1_v1, val_main_call1_v0, val_main_v44]

theorem zero_at (y : S_.Idx) : val_main_cst_8 (F := Ideal) y = (0 : EReal) := by
  unfold val_main_cst_8; rw [constant_apply]; simp [Ideal.ofBits, Ideal.ieee]
theorem zero_at' (y : S_.Idx) : val_main_cst_9 (F := Ideal) y = (0 : EReal) := by
  unfold val_main_cst_9; rw [constant_apply]; simp [Ideal.ofBits, Ideal.ieee]

theorem pad_up_lo (R : Fin 16384) (k : Fin 2816) : val_main_v45 (F := Ideal) p w g e (ix2 R (lo k)) = (0 : EReal) := by
  unfold val_main_v45 pad
  rw [dif_neg]
  · exact zero_at _
  · intro h
    have := h 1
    simp at this
    omega

theorem pad_up_hi (R : Fin 16384) (k : Fin 2816) : val_main_v45 (F := Ideal) p w g e (ix2 R (hi k)) = val_main_v43 (F := Ideal) p w g e (ix2 R k) := by
  unfold val_main_v45 pad
  rw [dif_pos]
  · congr 1
    funext a
    match a with
    | ⟨0, _⟩ => apply Fin.ext; simp
    | ⟨1, _⟩ => apply Fin.ext; simp
  · intro a
    match a with
    | ⟨0, _⟩ => simp; exact Nat.mod_one _
    | ⟨1, _⟩ => simp; exact Nat.mod_one _

theorem pad_down_lo (R : Fin 16384) (k : Fin 2816) : val_main_v47 (F := Ideal) p w g e (ix2 R (lo k)) = val_main_v46 (F := Ideal) p w g e (ix2 R k) := by
  unfold val_main_v47 pad
  rw [dif_pos]
  · congr 1
    funext a
    match a with
    | ⟨0, _⟩ => apply Fin.ext; simp
    | ⟨1, _⟩ => apply Fin.ext; simp
  · intro a
    match a with
    | ⟨0, _⟩ => simp; exact Nat.mod_one _
    | ⟨1, _⟩ => simp; exact Nat.mod_one _

theorem pad_down_hi (R : Fin 16384) (k : Fin 2816) : val_main_v47 (F := Ideal) p w g e (ix2 R (hi k)) = (0 : EReal) := by
  unfold val_main_v47 pad
  rw [dif_neg]
  · exact zero_at' _
  · intro h
    have := h 1
    simp at this

/-- The second result, the gate's half. -/
theorem lo_at (R : Fin 16384) (k : Fin 2816) : val_main_v49 (F := Ideal) p w g e (ix2 R (lo k))
    = act p w g e R k * p (ix2 R (hi k)) * Gate.sig (p (ix2 R (lo k)))
      + p (ix2 R (lo k)) * (act p w g e R k * p (ix2 R (hi k)))
        * (Gate.sig (p (ix2 R (lo k))) * (Ideal.ofBits .f32 0x3F800000#32 - Gate.sig (p (ix2 R (lo k))))) := by
  rw [← down_at, ← pad_down_lo]
  refine Eq.trans ?_ ((congrArg (· + val_main_v47 (F := Ideal) p w g e (ix2 R (lo k))) (pad_up_lo p w g e R k)).trans (zero_add _))
  rfl

/-- The second result, the values' half. -/
theorem hi_at (R : Fin 16384) (k : Fin 2816) : val_main_v49 (F := Ideal) p w g e (ix2 R (hi k))
    = p (ix2 R (lo k)) * Gate.sig (p (ix2 R (lo k))) * act p w g e R k := by
  rw [← up_at, ← pad_up_hi]
  refine Eq.trans ?_ ((congrArg (val_main_v45 (F := Ideal) p w g e (ix2 R (hi k)) + ·) (pad_down_hi p w g e R k)).trans (add_zero _))
  rfl

/-- The gradient of the gain. -/
theorem dg_at (z : Fin 1) (j : Fin 1024) : val_main_v50 (F := Ideal) p w e (ix2 z j)
    = ∑ R : Fin 16384, prod p w R j * Ideal.rsqrt (Norm.mean (prod p w R)) * e (ix2 R j) := by
  simp only [← prod_at, ← inv_at p w _ 0]
  pointwise [val_main_v50, val_main_v26, val_main_v23, val_main_v22, val_main_v21, val_main_v17, val_main_v16, val_main_cst_3, val_main_cst_4]
  exact Fin.sum_univ_one _

end Cert.Reference2Ideal.At

end
-- ==== Proof.DownAlgebra.lean ====
/- The backward pass through the gate, the second product and its norm: the results of the two programs are the same numbers,
   for real arguments. -/
module

public import proofs.«01_k».proof.Defs
public import proofs.«01_k».proof.Proof.DownFold
public import proofs.«01_k».proof.Proof.DownRef

@[expose] public section

set_option maxRecDepth 16384

noncomputable section

open Idealize.ShloMosaic Idealize.ShloMosaic.TcCoe Idealize.SL.Sem

namespace Cert.DownAlgebra

section Finite

open Cert.Pre_finite2

/-- The shape relations that the predicate's operations take. -/
theorem facts : Cert.Pre_finite2.Facts where
  bcast_S_S16384x5632 := by decide
  bcast_S_S2816x1024 := by decide
  bcast_S_S1024 := by decide
  bcast_S_S16384x1024 := by decide

theorem of_lt (x : EReal) (h : BitVec.ofBool (decide (FloatOps.absf (F := Ideal) (φ := .f32) x < Ideal.ofBits .f32 0x7F800000#32)) = 1#1) :
    Row.Fin' x := by
  refine Row.fin_of_abs_lt ?_
  by_contra hn
  replace h : BitVec.ofBool (decide (max x (-x) < Ideal.ofBits .f32 0x7F800000#32)) = 1#1 := h
  rw [show Ideal.ofBits .f32 0x7F800000#32 = (⊤ : EReal) by simp [Ideal.ofBits, Ideal.ieee], decide_eq_false hn] at h
  exact absurd h (by decide)

variable [Cert.Pre_finite2.Facts] (p : FVec Ideal S16384x5632 .f32) (w : FVec Ideal S2816x1024 .f32) (g : FVec Ideal S1024 .f32)
  (e : FVec Ideal S16384x1024 .f32)

theorem fin_p (h : (fn (F := Ideal) p w g e).1 = fun _ => 1#1) (R : Fin 16384) (k : Fin 5632) : Row.Fin' (p (ix2 R k)) := by
  have e := congrFun h (ix2 R k)
  pointwise [fn] at e
  exact of_lt _ e

theorem fin_w (h : (fn (F := Ideal) p w g e).2.1 = fun _ => 1#1) (k : Fin 2816) (j : Fin 1024) : Row.Fin' (w (ix2 k j)) := by
  have e := congrFun h (ix2 k j)
  pointwise [fn] at e
  exact of_lt _ e

theorem fin_g (h : (fn (F := Ideal) p w g e).2.2.1 = fun _ => 1#1) (j : Fin 1024) : Row.Fin' (g (ix1 j)) := by
  have e := congrFun h (ix1 j)
  pointwise [fn] at e
  exact of_lt _ e

theorem fin_e (h : (fn (F := Ideal) p w g e).2.2.2 = fun _ => 1#1) (R : Fin 16384) (j : Fin 1024) : Row.Fin' (e (ix2 R j)) := by
  have e := congrFun h (ix2 R j)
  pointwise [fn] at e
  exact of_lt _ e

end Finite

open Cert.Kernel2Ideal Cert.Kernel2Ideal.Gen Cert.Kernel2Ideal.Fold

variable (m : (ℓ : Loc nD τ sig) → Buf (Elt Ideal) ℓ) (c : Dev nD)

theorem V_e (R : Fin 16384) (j : Fin 1024) : aE m c R j = m ((c : Thread nD τ).loc main_arg3) (ix2 R j) := by
  unfold aE V
  simp only [hostOps0, hostOps0_1, hostOps0_2, List.flatten_cons, List.flatten_nil, List.append_nil, List.cons_append, List.nil_append]
  after_results
theorem V_w (k : Fin 2816) (j : Fin 1024) : aW m c k j = m ((c : Thread nD τ).loc main_arg1) (ix2 k j) := by
  unfold aW V
  simp only [hostOps0, hostOps0_1, hostOps0_2, List.flatten_cons, List.flatten_nil, List.append_nil, List.cons_append, List.nil_append]
  after_results; pointwise []
theorem V_p (R : Fin 16384) (k : Fin 5632) : aP m c R k = m ((c : Thread nD τ).loc main_arg0) (ix2 R k) := by
  unfold aP V
  simp only [hostOps0, hostOps0_1, hostOps0_2, List.flatten_cons, List.flatten_nil, List.append_nil, List.cons_append, List.nil_append]
  after_results; pointwise []
theorem V_g (j : Fin 1024) : aG m c j = m ((c : Thread nD τ).loc main_arg2) (ix1 j) := by
  unfold aG V
  simp only [hostOps0, hostOps0_1, hostOps0_2, List.flatten_cons, List.flatten_nil, List.append_nil, List.cons_append, List.nil_append]
  after_results; pointwise []

open Cert.Kernel2Ideal.Facts in
/-- The product as the lines before the launch compute it. -/
def hostF (p : FVec Ideal S16384x5632 .f32) (w : FVec Ideal S2816x1024 .f32) : FVec Ideal S16384x1024 .bf16 :=
  truncf .bf16 (Host.dotGeneral dot_S16384x2816_S2816x1024_S16384x1024_1_0_0_1_n_n none
    (mulf
      (mulf (extractStridedSlice S16384x2816 ![0, 0] p slices_S16384x5632_S16384x2816_0_0)
        (Host.divf (broadcastInDim S16384x2816 ![] bcast_S_S16384x2816 (constant (F := Ideal) S_ .f32 0x3F800000#32))
          (addf (broadcastInDim S16384x2816 ![] bcast_S_S16384x2816 (constant (F := Ideal) S_ .f32 0x3F800000#32))
            (Host.exp (Host.negf (extractStridedSlice S16384x2816 ![0, 0] p slices_S16384x5632_S16384x2816_0_0))))))
      (extractStridedSlice S16384x2816 ![0, 2816] p slices_S16384x5632_S16384x2816_0_2816))
    w) bitsLt_bf16_f32

theorem V_host : V m c main_v5 = hostF (m ((c : Thread nD τ).loc main_arg0)) (m ((c : Thread nD τ).loc main_arg1)) := by
  unfold V
  simp only [hostOps0, hostOps0_1, hostOps0_2, List.flatten_cons, List.flatten_nil, List.append_nil, List.cons_append, List.nil_append]
  after_results
  rfl

/-- The product that the launch takes is the reference's. -/
theorem V_f (R : Fin 16384) (j : Fin 1024) : aF m c R j
    = Cert.Reference2Ideal.At.prod (m ((c : Thread nD τ).loc main_arg0)) (m ((c : Thread nD τ).loc main_arg1)) R j := by
  unfold aF Cert.Reference2Ideal.At.prod Gate.sig
  rw [V_host]
  pointwise [hostF]

/-- The product, its gradient and the gated values' over the real numbers. -/
def rprod (p : Fin 16384 → Fin 5632 → ℝ) (w : Fin 2816 → Fin 1024 → ℝ) (R : Fin 16384) (j : Fin 1024) : ℝ :=
  ∑ k, p R (lo k) * Gate.sigR (p R (lo k)) * p R (hi k) * w k j
def rgrad (p : Fin 16384 → Fin 5632 → ℝ) (w : Fin 2816 → Fin 1024 → ℝ) (g : Fin 1024 → ℝ) (e : Fin 16384 → Fin 1024 → ℝ)
    (R : Fin 16384) (j : Fin 1024) : ℝ := Norm.back (e R) g (rprod p w R) j
def ract (p : Fin 16384 → Fin 5632 → ℝ) (w : Fin 2816 → Fin 1024 → ℝ) (g : Fin 1024 → ℝ) (e : Fin 16384 → Fin 1024 → ℝ)
    (R : Fin 16384) (k : Fin 2816) : ℝ := ∑ j, rgrad p w g e R j * w k j

/-- The rows in the order of the blocks and chains are all the rows. -/
theorem sum_rows (F : Fin 16384 → ℝ) :
    ∑ t : Fin 32, ((∑ r : Fin 256, F (row t 0 r)) + ∑ r : Fin 256, F (row t 1 r)) = ∑ R, F R := by
  rw [← Fin.sum_mul_add_fin (L := 16384) 32 512 F]
  refine Finset.sum_congr rfl fun t _ => ?_
  rw [← Fin.sum_mul_add_fin (L := 512) 2 256 (fun s => F ⟨t * 512 + s, by omega⟩), Fin.sum_univ_two]
  refine congrArg₂ (· + ·) (Finset.sum_congr rfl fun r _ => congrArg F (Fin.ext ?_)) (Finset.sum_congr rfl fun r _ => congrArg F (Fin.ext ?_))
  · simp
  · simp

section Ref

variable (P : FVec Ideal S16384x5632 .f32) (W : FVec Ideal S2816x1024 .f32) (G : FVec Ideal S1024 .f32) (E : FVec Ideal S16384x1024 .f32)
  (p : Fin 16384 → Fin 5632 → ℝ) (w : Fin 2816 → Fin 1024 → ℝ) (g : Fin 1024 → ℝ) (e : Fin 16384 → Fin 1024 → ℝ)
  (hP : ∀ R k, P (ix2 R k) = (p R k : EReal)) (hW : ∀ k j, W (ix2 k j) = (w k j : EReal)) (hG : ∀ j, G (ix1 j) = (g j : EReal))
  (hE : ∀ R j, E (ix2 R j) = (e R j : EReal))

include hP hW in
theorem ref_prod (R : Fin 16384) : Cert.Reference2Ideal.At.prod P W R = fun j => (rprod p w R j : EReal) := by
  funext j
  unfold Cert.Reference2Ideal.At.prod
  simp only [hP, hW, Gate.sig_coe, ← EReal.coe_mul, Row.coe_sum]; rfl

include hP hW hG hE in
theorem ref_grad (R : Fin 16384) (j : Fin 1024) : Cert.Reference2Ideal.At.grad P W G E R j = (rgrad p w g e R j : EReal) := by
  unfold Cert.Reference2Ideal.At.grad Cert.Reference2Ideal.At.along
  rw [ref_prod P W p w hP hW]
  simp only [hG, hE]
  rw [Norm.rback_coe, Norm.rsqrt_coe]
  simp only [← EReal.coe_mul, ← EReal.coe_add]
  rw [EReal.coe_eq_coe_iff]
  unfold rgrad
  rw [← zero_add (Norm.back _ _ _ _), ← Norm.back_eq]
  ring

include hP hW hG hE in
theorem ref_act (R : Fin 16384) (k : Fin 2816) : Cert.Reference2Ideal.At.act P W G E R k = (ract p w g e R k : EReal) := by
  unfold Cert.Reference2Ideal.At.act
  simp only [ref_grad P W G E p w g e hP hW hG hE, hW, ← EReal.coe_mul, Row.coe_sum]; rfl

end Ref

section Ker

variable (p : Fin 16384 → Fin 5632 → ℝ) (w : Fin 2816 → Fin 1024 → ℝ) (g : Fin 1024 → ℝ) (e : Fin 16384 → Fin 1024 → ℝ)
  (hP : ∀ R k, m ((c : Thread nD τ).loc main_arg0) (ix2 R k) = (p R k : EReal)) (hW : ∀ k j, m ((c : Thread nD τ).loc main_arg1) (ix2 k j) = (w k j : EReal))
  (hG : ∀ j, m ((c : Thread nD τ).loc main_arg2) (ix1 j) = (g j : EReal)) (hE : ∀ R j, m ((c : Thread nD τ).loc main_arg3) (ix2 R j) = (e R j : EReal))

include hP hW in
theorem ker_f (R : Fin 16384) : aF m c R = fun j => (rprod p w R j : EReal) :=
  (funext fun j => V_f m c R j).trans (ref_prod _ _ p w hP hW R)

include hP hW hG hE in
theorem ker_grad (R : Fin 16384) (j : Fin 1024) : grad m c R j = (rgrad p w g e R j : EReal) := by
  unfold grad
  rw [ker_f m c p w hP hW, show aG m c = fun j => (g j : EReal) from funext fun j => (V_g m c j).trans (hG j),
    show aE m c R = fun j => (e R j : EReal) from funext fun j => (V_e m c R j).trans (hE R j), Norm.kback_coe]
  rfl

include hP hW hG hE in
theorem ker_act (R : Fin 16384) (k : Fin 2816) : act m c R k = (ract p w g e R k : EReal) := by
  unfold act
  simp only [ker_grad m c p w g e hP hW hG hE, V_w, hW, ← EReal.coe_mul, Row.coe_sum]; rfl

include hP hW hE in
theorem ker_g (j : Fin 1024) : ∑ t : Fin 32, part m c t j = ((∑ R, e R j * (rprod p w R j * Norm.inv (rprod p w R)) : ℝ) : EReal) := by
  unfold part
  simp only [ker_f m c p w hP hW, V_e, hE, Norm.rsqrt_coe, ← EReal.coe_mul, Row.coe_sum, ← EReal.coe_add]
  rw [EReal.coe_eq_coe_iff]
  exact sum_rows fun R => e R j * (rprod p w R j * Norm.inv (rprod p w R))

end Ker

variable [Cert.Pre_finite2.Facts]

/-- The arguments' elements as real numbers. -/
theorem reals (h : Cert.Pre_Kernel2Ideal_finite2 m) : ∃ (p : Fin 16384 → Fin 5632 → ℝ) (w : Fin 2816 → Fin 1024 → ℝ) (g : Fin 1024 → ℝ)
    (e : Fin 16384 → Fin 1024 → ℝ),
    (∀ R k, m ((c : Thread nD τ).loc main_arg0) (ix2 R k) = (p R k : EReal)) ∧ (∀ k j, m ((c : Thread nD τ).loc main_arg1) (ix2 k j) = (w k j : EReal))
      ∧ (∀ j, m ((c : Thread nD τ).loc main_arg2) (ix1 j) = (g j : EReal)) ∧ (∀ R j, m ((c : Thread nD τ).loc main_arg3) (ix2 R j) = (e R j : EReal)) := by
  obtain ⟨hp, hw, hg, he⟩ := h c
  choose p hP using fin_p _ _ _ _ hp
  choose w hW using fin_w _ _ _ _ hw
  choose g hG using fin_g _ _ _ _ hg
  choose e hE using fin_e _ _ _ _ he
  exact ⟨p, w, g, e, hP, hW, hG, hE⟩

variable (h : Cert.Pre_Kernel2Ideal_finite2 m)

include h in
/-- The gradient of the product. -/
theorem same_f : (dats m 0 c).arrAt 5 (cfgs 0).N
    = Cert.Reference2Ideal.Read.val_main_v41 (F := Ideal) (m ((c : Thread nD τ).loc main_arg0)) (m ((c : Thread nD τ).loc main_arg1))
      (m ((c : Thread nD τ).loc main_arg2)) (m ((c : Thread nD τ).loc main_arg3)) := by
  obtain ⟨p, w, g, e, hP, hW, hG, hE⟩ := reals m c h
  refine (final_f m c).trans ?_
  funext y
  obtain ⟨R, j, rfl⟩ : ∃ (R : Fin 16384) (j : Fin 1024), y = ix2 R j := ⟨y 0, y 1, by funext a; match a with | ⟨0, _⟩ => rfl | ⟨1, _⟩ => rfl⟩
  refine (ker_grad m c p w g e hP hW hG hE R j).trans ?_
  exact (ref_grad _ _ _ _ p w g e hP hW hG hE R j).symm.trans (Cert.Reference2Ideal.At.df_at _ _ _ _ R j).symm

include h in
/-- The gradient of the gate and the values. -/
theorem same_p : (dats m 0 c).arrAt 6 (cfgs 0).N
    = Cert.Reference2Ideal.Read.val_main_v49 (F := Ideal) (m ((c : Thread nD τ).loc main_arg0)) (m ((c : Thread nD τ).loc main_arg1))
      (m ((c : Thread nD τ).loc main_arg2)) (m ((c : Thread nD τ).loc main_arg3)) := by
  obtain ⟨p, w, g, e, hP, hW, hG, hE⟩ := reals m c h
  refine (final_p m c).trans ?_
  funext y
  obtain ⟨R, K, rfl⟩ : ∃ (R : Fin 16384) (K : Fin 5632), y = ix2 R K := ⟨y 0, y 1, by funext a; match a with | ⟨0, _⟩ => rfl | ⟨1, _⟩ => rfl⟩
  show both m c R K = _
  unfold both
  by_cases hc : (K : ℕ) < 2816
  · rw [dif_pos hc]
    obtain ⟨k, hk⟩ : ∃ k : Fin 2816, k = ⟨K, hc⟩ := ⟨_, rfl⟩
    have hK : K = Cert.Reference2Ideal.At.lo k := by rw [hk]
    rw [← hk, hK]
    refine Eq.trans ?_ (Cert.Reference2Ideal.At.lo_at _ _ _ _ R k).symm
    rw [ref_act _ _ _ _ p w g e hP hW hG hE]
    unfold gate gateK
    simp only [ker_act m c p w g e hP hW hG hE, V_p, hP, Gate.sig_coe, Gate.sigK_coe, Gate.one_bits, ← EReal.coe_mul, ← EReal.coe_sub, ← EReal.coe_add]
    rw [EReal.coe_eq_coe_iff]
    ring
  · rw [dif_neg hc]
    obtain ⟨k, hk⟩ : ∃ k : Fin 2816, k = ⟨K - 2816, by omega⟩ := ⟨_, rfl⟩
    have hK : K = Cert.Reference2Ideal.At.hi k := by rw [hk]; apply Fin.ext; show (K : ℕ) = 2816 + ((K : ℕ) - 2816); omega
    rw [← hk, hK]
    refine Eq.trans ?_ (Cert.Reference2Ideal.At.hi_at _ _ _ _ R k).symm
    rw [ref_act _ _ _ _ p w g e hP hW hG hE]
    unfold vals
    simp only [ker_act m c p w g e hP hW hG hE, V_p, hP, Gate.sig_coe, Gate.sigK_coe, ← EReal.coe_mul]
    rw [EReal.coe_eq_coe_iff]
    ring

include h in
/-- The gradient of the gain. -/
theorem same_g : (dats m 0 c).arrAt 7 (cfgs 0).N
    = Cert.Reference2Ideal.Read.val_main_v50 (F := Ideal) (m ((c : Thread nD τ).loc main_arg0)) (m ((c : Thread nD τ).loc main_arg1))
      (m ((c : Thread nD τ).loc main_arg3)) := by
  obtain ⟨p, w, g, e, hP, hW, hG, hE⟩ := reals m c h
  refine (final_g m c).trans ?_
  funext y
  obtain ⟨z, j, rfl⟩ : ∃ (z : Fin 1) (j : Fin 1024), y = ix2 z j := ⟨y 0, y 1, by funext a; match a with | ⟨0, _⟩ => rfl | ⟨1, _⟩ => rfl⟩
  refine (ker_g m c p w e hP hW hE j).trans ?_
  refine Eq.trans ?_ (Cert.Reference2Ideal.At.dg_at _ _ _ z j).symm
  simp only [ref_prod _ _ p w hP hW, hE, Norm.rsqrt_coe, ← EReal.coe_mul, Row.coe_sum]
  rw [EReal.coe_eq_coe_iff]
  exact Finset.sum_congr rfl fun R _ => by ring

end Cert.DownAlgebra

end
-- ==== Proof.UpPoint.lean ====
/- What the body of the backward pass through the first product leaves at one grid point, as two chains of rows over the
   point's blocks. -/
module

public import proofs.«01_k».proof.Proof.Gen.Kernel3Ideal.Frame
public import proofs.«01_k».proof.Proof.Norm
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.Kernel3Ideal.Point

open Cert.Kernel3Ideal Cert.Kernel3Ideal.Gen Facts

theorem inb_deep (b : Fin 2) : ∀ a, (![256 * b.val, 0] : Fin 2 → Nat) a + (![256, 5632] : Fin 2 → Nat) a ≤ S512x5632.size a := by
  revert b; decide
theorem inb_wide (b : Fin 2) : ∀ a, (![256 * b.val, 0] : Fin 2 → Nat) a + (![256, 1024] : Fin 2 → Nat) a ≤ S512x1024.size a := by
  revert b; decide

/-- The rows of chain `b` in a block of the product's cotangent. -/
def deep (X : FVec Ideal S512x5632 .bf16) (b : Fin 2) : FVec Ideal S256x5632 .bf16 :=
  View.ld (Val := Elt Ideal) (S := S512x5632) (e' := .bf16) X (Rect.unit (s := S512x5632) ![256 * b.val, 0] ![256, 5632] (inb_deep b))

/-- The rows of chain `b` in a block of the layer's width. -/
def wide (X : FVec Ideal S512x1024 .f32) (b : Fin 2) : FVec Ideal S256x1024 .f32 :=
  View.ld (Val := Elt Ideal) (S := S512x1024) (e' := .f32) X (Rect.unit (s := S512x1024) ![256 * b.val, 0] ![256, 1024] (inb_wide b))

/-- The gradient of a chain's rows. -/
def rowX (d : FVec Ideal S256x5632 .bf16) (w : FVec Ideal S1024x5632 .bf16) (x : FVec Ideal S256x1024 .f32) (g : FVec Ideal S1x1024 .f32)
    (e : FVec Ideal S256x1024 .f32) : FVec Ideal S256x1024 .f32 :=
  k0_pay12 (k0_pay2 d w) x g e

/-- The block of the gradient: each chain's rows stored at their place. -/
def allX (d : FVec Ideal S512x5632 .bf16) (w : FVec Ideal S1024x5632 .bf16) (x : FVec Ideal S512x1024 .f32) (g : FVec Ideal S1x1024 .f32)
    (e : FVec Ideal S512x1024 .f32) : FVec Ideal S512x1024 .f32 :=
  View.canon (Val := Elt Ideal) (e := .f32) (List.ofFn fun b : Fin 2 =>
    (⟨Rect.unit ![256 * b.rev.val, 0] ![256, 1024] (inb_wide b.rev),
      rowX (deep d b.rev) w (wide x b.rev) g (wide e b.rev)⟩ : View.Piece (Elt Ideal) S512x1024 .f32))

/-- The gradient of the gain with the point's two chains added. -/
def addG (d : FVec Ideal S512x5632 .bf16) (w : FVec Ideal S1024x5632 .bf16) (x : FVec Ideal S512x1024 .f32) (a : FVec Ideal S1x1024 .f32) :
    FVec Ideal S1x1024 .f32 :=
  k0_pay1 (k0_pay11 (k0_pay2 (deep d 0) w) (wide x 0)) (k0_pay11 (k0_pay2 (deep d 1) w) (wide x 1)) a

variable (m : (ℓ : Loc nD τ sig) → Buf (Elt Ideal) ℓ)

theorem dx_A (c : Dev nD) (t : Fin cfg0.N) (h0 : t.val % 32 = 0) :
    (outsAt0 m c t.val t.isLt).1 = allX (iblk m c 0 t) (iblk m c 1 t) (iblk m c 2 t) (iblk m c 3 t) (iblk m c 4 t) := by
  rw [outsAt0_A m c t h0]; frame_out
  generalize iblk m c 0 t = x0; generalize iblk m c 1 t = x1; generalize iblk m c 2 t = x2; generalize iblk m c 3 t = x3
  generalize iblk m c 4 t = x4
  rfl

theorem dx_B (c : Dev nD) (t : Fin cfg0.N) (h0 : ¬t.val % 32 = 0) :
    (outsAt0 m c t.val t.isLt).1 = allX (iblk m c 0 t) (iblk m c 1 t) (iblk m c 2 t) (iblk m c 3 t) (iblk m c 4 t) := by
  rw [outsAt0_B m c t h0]; frame_out
  generalize iblk m c 0 t = x0; generalize iblk m c 1 t = x1; generalize iblk m c 2 t = x2; generalize iblk m c 3 t = x3
  generalize iblk m c 4 t = x4
  rfl

theorem dg_A (c : Dev nD) (t : Fin cfg0.N) (h0 : t.val % 32 = 0) :
    (outsAt0 m c t.val t.isLt).2 = addG (iblk m c 0 t) (iblk m c 1 t) (iblk m c 2 t) (constant (F := Ideal) S1x1024 .f32 0x00000000#32) := by
  rw [outsAt0_A m c t h0]; frame_out
  generalize iblk m c 0 t = x0; generalize iblk m c 1 t = x1; generalize iblk m c 2 t = x2; generalize iblk m c 3 t = x3
  generalize iblk m c 4 t = x4
  rfl

theorem dg_B (c : Dev nD) (t : Fin cfg0.N) (h0 : ¬t.val % 32 = 0) :
    (outsAt0 m c t.val t.isLt).2 = addG (iblk m c 0 t) (iblk m c 1 t) (iblk m c 2 t)
      (outsAt0 m c (t.val - 1) (Nat.lt_of_le_of_lt (Nat.sub_le _ _) t.isLt)).2 := by
  rw [outsAt0_B m c t h0]; frame_out
  generalize iblk m c 0 t = x0; generalize iblk m c 1 t = x1; generalize iblk m c 2 t = x2; generalize iblk m c 3 t = x3
  generalize iblk m c 4 t = x4
  generalize (outsAt0 m c (t.val - 1) (Nat.lt_of_le_of_lt (Nat.sub_le _ _) t.isLt)).2 = a
  rfl

end Cert.Kernel3Ideal.Point

end
-- ==== Proof.UpFold.lean ====
/- The two results of the backward pass through the first product at an index, over the arrays that the launch takes. -/
module

public import proofs.«01_k».proof.Proof.UpPoint

@[expose] public section

set_option maxRecDepth 16384

noncomputable section

open Idealize.ShloMosaic Idealize.ShloMosaic.TcCoe Idealize.SL.Sem

namespace Cert.Kernel3Ideal.Fold

open Cert.Kernel3Ideal Cert.Kernel3Ideal.Gen Cert.Kernel3Ideal.Point Facts

/-- Point `t` is the block of rows `t`. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

theorem mm_apply (d : FVec Ideal S256x5632 .bf16) (w : FVec Ideal S1024x5632 .bf16) (r : Fin 256) (j : Fin 1024) :
    k0_pay2 (F := Ideal) d w (ix2 r j) = ∑ k : Fin 5632, d (ix2 r k) * w (ix2 j k) := by
  pointwise [k0_pay2]

theorem inv_apply (x : FVec Ideal S256x1024 .f32) (r : Fin 256) (z : Fin 1) :
    k0_pay9 (F := Ideal) x (ix2 r z) = Ideal.rsqrt (Norm.mean fun j => x (ix2 r j)) := by
  unfold Norm.mean
  pointwise [k0_pay9]

theorem row_apply (D : FVec Ideal S256x1024 .f32) (x : FVec Ideal S256x1024 .f32) (g : FVec Ideal S1x1024 .f32) (e : FVec Ideal S256x1024 .f32)
    (r : Fin 256) (j : Fin 1024) : k0_pay12 (F := Ideal) D x g e (ix2 r j)
      = e (ix2 r j) + Norm.kback (fun j => D (ix2 r j)) (fun j => g (ix2 0 j)) (fun j => x (ix2 r j)) j := by
  unfold Norm.kback
  simp only [← inv_apply x r 0]
  pointwise [k0_pay12, k0_pay10]

theorem gain_apply (D x : FVec Ideal S256x1024 .f32) (z : Fin 1) (j : Fin 1024) : k0_pay11 (F := Ideal) D x (ix2 z j)
      = ∑ r : Fin 256, D (ix2 r j) * (x (ix2 r j) * Ideal.rsqrt (Norm.mean fun j => x (ix2 r j))) := by
  simp only [← inv_apply x _ 0]
  pointwise [k0_pay11, k0_pay10]

theorem add_apply (u v a : FVec Ideal S1x1024 .f32) (z : Fin 1) (j : Fin 1024) :
    k0_pay1 (F := Ideal) u v a (ix2 z j) = a (ix2 z j) + (u (ix2 z j) + v (ix2 z j)) := by
  pointwise [k0_pay1]

theorem deep_apply (X : FVec Ideal S512x5632 .bf16) (b : Fin 2) (r : Fin 256) (k : Fin 5632) :
    deep X b (ix2 r k) = X (ix2 ⟨256 * b.val + r, by omega⟩ k) := by
  unfold deep
  refine View.ld_unit_apply_of (Val := Elt Ideal) (e := .bf16) (S := S512x5632) X ![256 * b.val, 0] ![256, 5632] (inb_deep b) (ix2 r k) _ fun a => ?_
  fin_cases a
  · rfl
  · exact (Nat.zero_add _).symm

theorem wide_apply (X : FVec Ideal S512x1024 .f32) (b : Fin 2) (r : Fin 256) (k : Fin 1024) :
    wide X b (ix2 r k) = X (ix2 ⟨256 * b.val + r, by omega⟩ k) := by
  unfold wide
  refine View.ld_unit_apply_of (Val := Elt Ideal) (e := .f32) (S := S512x1024) X ![256 * b.val, 0] ![256, 1024] (inb_wide b) (ix2 r k) _ fun a => ?_
  fin_cases a
  · rfl
  · exact (Nat.zero_add _).symm

theorem zero_at (y : S1x1024.Idx) : constant (F := Ideal) S1x1024 .f32 0x00000000#32 y = (0 : EReal) := by
  rw [constant_apply]; simp [Ideal.ofBits, Ideal.ieee]

/-- The block of the gradient at an index: of the chain that stores there. -/
theorem allX_apply (d w x g e) (b : Fin 2) (r : Fin 256) (j : Fin 1024) (y : S512x1024.Idx)
    (h0 : (y 0 : ℕ) = 256 * b.val + r) (h1 : (y 1 : ℕ) = j) : allX d w x g e y
    = rowX (deep d b) w (wide x b) g (wide e b) (ix2 r j) := by
  have hr := r.isLt; have hj := j.isLt; have hb := b.isLt
  unfold allX
  refine View.canon_ofFn_unit_eq_of_forall (Val := Elt Ideal) (S := S512x1024) (e := .f32) (fun b : Fin 2 => ![256 * b.rev.val, 0]) ![256, 1024]
    (fun b => inb_wide b.rev) (fun b => rowX (deep d b.rev) w (wide x b.rev) g (wide e b.rev)) y _
    ⟨b.rev, fun a => ?_⟩ fun q z hz => ?_
  · rw [Fin.rev_rev]
    fin_cases a
    · exact ⟨by show 256 * b.val ≤ (y 0 : ℕ); omega, by show (y 0 : ℕ) < 256 * b.val + 256; omega⟩
    · exact ⟨Nat.zero_le _, by show (y 1 : ℕ) < 0 + 1024; omega⟩
  · have e0 : (y 0 : ℕ) = 256 * q.rev.val + (z 0 : ℕ) := hz 0
    have e1 : (y 1 : ℕ) = 0 + (z 1 : ℕ) := hz 1
    have l0 : (z 0 : ℕ) < 256 := (z 0).isLt
    have hrev := q.rev.isLt
    have he : q.rev = b := Fin.ext (by omega)
    rw [he] at e0 ⊢
    refine congrArg (rowX (deep d b) w (wide x b) g (wide e b)) (funext fun a => Fin.ext ?_)
    fin_cases a
    · show (z 0 : ℕ) = r; omega
    · show (z 1 : ℕ) = j; omega

variable (m : (ℓ : Loc nD τ sig) → Buf (Elt Ideal) ℓ) (c : Dev nD)

/-- The arrays that the launch takes. -/
def aD (R : Fin 16384) (k : Fin 5632) : EReal := V m c main_v0 (ix2 R k)
def aW (j : Fin 1024) (k : Fin 5632) : EReal := V m c main_v1 (ix2 j k)
def aX (R : Fin 16384) (j : Fin 1024) : EReal := V m c main_arg0 (ix2 R j)
def aG (j : Fin 1024) : EReal := V m c main_v2 (ix2 0 j)
def aE (R : Fin 16384) (j : Fin 1024) : EReal := V m c main_arg3 (ix2 R j)

/-- The cotangent of the norm, row `R`. -/
def cot (R : Fin 16384) (j : Fin 1024) : EReal := ∑ k : Fin 5632, aD m c R k * aW m c j k

/-- Row `r` of chain `b` of block `t`. -/
abbrev row (t : Fin 32) (b : Fin 2) (r : Fin 256) : Fin 16384 := ⟨t * 512 + (256 * b + r), by omega⟩

theorem d_at (t : Fin cfg0.N) (b : Fin 2) (r : Fin 256) (k : Fin 5632) (R : Fin 16384) (hR : (R : ℕ) = t.val * 512 + (256 * b.val + r)) :
    deep (iblk m c 0 t) b (ix2 r k) = aD m c R k := by
  rw [deep_apply]
  unfold iblk aD
  generalize V m c = A
  blk_ext [idx t]

theorem w_at (t : Fin cfg0.N) (j : Fin 1024) (k : Fin 5632) : iblk m c 1 t (ix2 j k) = aW m c j k := by
  unfold iblk aW
  generalize V m c = A
  blk_ext [idx t]

theorem x_at (t : Fin cfg0.N) (b : Fin 2) (r : Fin 256) (k : Fin 1024) (R : Fin 16384) (hR : (R : ℕ) = t.val * 512 + (256 * b.val + r)) :
    wide (iblk m c 2 t) b (ix2 r k) = aX m c R k := by
  rw [wide_apply]
  unfold iblk aX
  generalize V m c = A
  blk_ext [idx t]

theorem g_at (t : Fin cfg0.N) (j : Fin 1024) : iblk m c 3 t (ix2 0 j) = aG m c j := by
  unfold iblk aG
  generalize V m c = A
  blk_ext [idx t]

theorem e_at (t : Fin cfg0.N) (b : Fin 2) (r : Fin 256) (k : Fin 1024) (R : Fin 16384) (hR : (R : ℕ) = t.val * 512 + (256 * b.val + r)) :
    wide (iblk m c 4 t) b (ix2 r k) = aE m c R k := by
  rw [wide_apply]
  unfold iblk aE
  generalize V m c = A
  blk_ext [idx t]

theorem cot_at (t : Fin cfg0.N) (b : Fin 2) (r : Fin 256) (j : Fin 1024) (R : Fin 16384) (hR : (R : ℕ) = t.val * 512 + (256 * b.val + r)) :
    k0_pay2 (F := Ideal) (deep (iblk m c 0 t) b) (iblk m c 1 t) (ix2 r j) = cot m c R j := by
  rw [mm_apply]
  exact Finset.sum_congr rfl fun k _ => by rw [d_at m c t b r k R hR, w_at]

/-- What a point adds to the gradient of the gain. -/
def part (t : Fin 32) (j : Fin 1024) : EReal :=
  (∑ r : Fin 256, cot m c (row t 0 r) j * (aX m c (row t 0 r) j * Ideal.rsqrt (Norm.mean (aX m c (row t 0 r)))))
    + ∑ r : Fin 256, cot m c (row t 1 r) j * (aX m c (row t 1 r) j * Ideal.rsqrt (Norm.mean (aX m c (row t 1 r))))

theorem addG_at (t : Fin cfg0.N) (a) (y : S1x1024.Idx) : addG (iblk m c 0 t) (iblk m c 1 t) (iblk m c 2 t) a y = a y + part m c t (y 1) := by
  obtain ⟨j, rfl⟩ : ∃ j : Fin 1024, y = ix2 (0 : Fin 1) j := ⟨y 1, by
    funext q
    match q with
    | ⟨0, _⟩ => exact Subsingleton.elim (α := Fin 1) _ _
    | ⟨1, _⟩ => rfl⟩
  show addG (iblk m c 0 t) (iblk m c 1 t) (iblk m c 2 t) a (ix2 0 j) = a (ix2 0 j) + part m c t j
  unfold addG part
  rw [add_apply, gain_apply, gain_apply]
  have h : ∀ b : Fin 2, (∑ r : Fin 256, k0_pay2 (F := Ideal) (deep (iblk m c 0 t) b) (iblk m c 1 t) (ix2 r j)
        * (wide (iblk m c 2 t) b (ix2 r j) * Ideal.rsqrt (Norm.mean fun j => wide (iblk m c 2 t) b (ix2 r j))))
      = ∑ r : Fin 256, cot m c (row t b r) j * (aX m c (row t b r) j * Ideal.rsqrt (Norm.mean (aX m c (row t b r)))) := fun b =>
    Finset.sum_congr rfl fun r _ => by
      rw [cot_at m c t b r j (row t b r) rfl]
      simp only [x_at m c t b r _ (row t b r) rfl]
  rw [h 0, h 1]

theorem step_zero (t : Fin cfg0.N) (h0 : t.val % 32 = 0) (y : S1x1024.Idx) :
    ((outsAt0 m c t.val t.isLt).2 y : EReal) = 0 + part m c t (y 1) := by
  rw [dg_A m c t h0, addG_at, zero_at]

theorem step (t : Fin cfg0.N) (h0 : ¬t.val % 32 = 0) (y : S1x1024.Idx) :
    ((outsAt0 m c t.val t.isLt).2 y : EReal)
      = (outsAt0 m c (t.val - 1) (Nat.lt_of_le_of_lt (Nat.sub_le _ _) t.isLt)).2 y + part m c t (y 1) := by
  rw [dg_B m c t h0]
  generalize (outsAt0 m c (t.val - 1) (Nat.lt_of_le_of_lt (Nat.sub_le _ _) t.isLt)).2 = a
  rw [addG_at]

theorem acc (t : Fin cfg0.N) (hf : t.val % 32 = 32 - 1) (y : S1x1024.Idx) :
    ((outsAt0 m c t.val t.isLt).2 y : EReal) = ∑ s : Fin 32, part m c s (y 1) := by
  have e := Pipeline.eq_sum_fin_of_reset_step_apply_of_flush (N := cfg0.N) (M := EReal) (fun n h y => ((outsAt0 m c n h).2 y : EReal)) 32 (fun _ => 0)
    (fun t y => part m c t (y 1)) (step_zero m c) (step m c) t hf y
  refine e.trans ?_
  rw [zero_add]
  have ht : t.val < 32 := t.isLt
  refine Finset.sum_congr rfl fun s _ => congrArg (fun s => part m c s (y 1)) (Fin.ext ?_)
  show 32 * (t.val / 32) + s.val = s.val
  omega

/-- The gradient of the gain. -/
theorem final_g : (dats m 0 c).arrAt 6 (cfgs 0).N = fun y : S1x1024.Idx => ∑ s : Fin 32, part m c s (y 1) := by
  refine (dats m 0 c).arrAt_eq_of_covers 6 _ (by decide +kernel) fun t hf y => ?_
  have h31 := (flush0_6 t).mp hf
  blk_simp
  rw [after0_6]
  refine (acc m c t h31 y).trans (Finset.sum_congr rfl fun s _ => congrArg _ ?_)
  apply Fin.ext; blk_simp [idx t]

/-- The block of the gradient of the input that a point leaves. -/
theorem dx_at (t : Fin cfg0.N) : (outsAt0 m c t.val t.isLt).1
    = allX (iblk m c 0 t) (iblk m c 1 t) (iblk m c 2 t) (iblk m c 3 t) (iblk m c 4 t) := by
  by_cases h0 : t.val % 32 = 0
  · exact dx_A m c t h0
  · exact dx_B m c t h0

theorem x_point (t : Fin cfg0.N) (y : S512x1024.Idx) (R : Fin 16384) (j : Fin 1024) (hR : (R : ℕ) = t.val * 512 + (y 0 : ℕ)) (hj : (y 1 : ℕ) = j) :
    allX (iblk m c 0 t) (iblk m c 1 t) (iblk m c 2 t) (iblk m c 3 t) (iblk m c 4 t) y
      = aE m c R j + Norm.kback (cot m c R) (aG m c) (aX m c R) j := by
  have hy : (y 0 : ℕ) < 512 := (y 0).isLt
  obtain ⟨b, hb⟩ : ∃ b : Fin 2, (b : ℕ) = (y 0 : ℕ) / 256 := ⟨⟨(y 0 : ℕ) / 256, by omega⟩, rfl⟩
  obtain ⟨r, hr⟩ : ∃ r : Fin 256, (r : ℕ) = (y 0 : ℕ) % 256 := ⟨⟨(y 0 : ℕ) % 256, by omega⟩, rfl⟩
  have eR : (R : ℕ) = t.val * 512 + (256 * b.val + r) := by omega
  rw [allX_apply _ _ _ _ _ b r j y (by omega) hj]
  unfold rowX
  rw [row_apply, e_at m c t b r j R eR]
  simp only [cot_at m c t b r _ R eR, x_at m c t b r _ R eR, g_at m c t]

/-- The gradient of the layer's input. -/
theorem final_x : (dats m 0 c).arrAt 5 (cfgs 0).N = fun y : S16384x1024.Idx =>
    aE m c (y 0) (y 1) + Norm.kback (cot m c (y 0)) (aG m c) (aX m c (y 0)) (y 1) := by
  refine (dats m 0 c).arrAt_eq_of_covers 5 _ (by decide +kernel) fun t hf y => ?_
  blk_simp
  rw [after0_5, dx_at m c t]
  refine x_point m c t y _ _ ?_ ?_
  all_goals (blk_simp [idx t] <;> (try dsimp only) <;> omega)

end Cert.Kernel3Ideal.Fold

end
-- ==== Proof.UpRef.lean ====
/- The reference of the backward pass through the first product and its norm, read at an index. -/
module

public import proofs.«01_k».proof.Proof.Gen.Reference3Ideal.Read
public import proofs.«01_k».proof.Proof.Norm
public import Idealize.ShloMosaic.Lib.Pipeline.ValueKit

@[expose] public section

set_option maxRecDepth 16384

noncomputable section

open Idealize.ShloMosaic Idealize.ShloMosaic.TcCoe Idealize.SL.Sem

namespace Cert.Reference3Ideal.At

open Cert.Reference3Ideal Cert.Reference3Ideal.Read

variable (x : FVec Ideal S16384x1024 .f32) (w : FVec Ideal S1024x5632 .f32) (g : FVec Ideal S1024 .f32) (e : FVec Ideal S16384x1024 .f32)
  (d : FVec Ideal S16384x5632 .f32)

/-- The cotangent of the norm, row `R`. -/
def cot (R : Fin 16384) (j : Fin 1024) : EReal := ∑ k : Fin 5632, d (ix2 R k) * w (ix2 j k)

theorem cot_at (R : Fin 16384) (j : Fin 1024) : val_main_v17 (F := Ideal) w d (ix2 R j) = cot w d R j := by
  pointwise [val_main_v17, cot]

theorem mean_at (R : Fin 16384) (z : Fin 1) : val_main_v6 (F := Ideal) x (ix2 R z) = Norm.mean fun j => x (ix2 R j) := by
  pointwise [val_main_v6, val_main_v5, val_main_v4, val_main_v3, val_main_v2, val_main_v1, val_main_v0, val_main_cst, val_main_cst_0, val_main_cst_1, Norm.mean]

theorem inv_at (R : Fin 16384) (z : Fin 1) : val_main_v7 (F := Ideal) x (ix2 R z) = Ideal.rsqrt (Norm.mean fun j => x (ix2 R j)) := by
  rw [← mean_at x R z]; pointwise [val_main_v7]

theorem part_at (R : Fin 16384) (z : Fin 1) : val_main_v32 (F := Ideal) x w g d (ix2 R z)
    = Norm.rback (cot w d R) (fun j => g (ix1 j)) (fun j => x (ix2 R j)) 0 := by
  unfold Norm.rback
  rw [← mean_at x R 0]
  simp only [← cot_at]
  pointwise [val_main_v32, val_main_v31, val_main_v30, val_main_v26, val_main_v25, val_main_v24, val_main_v22, val_main_v21, val_main_v13, val_main_v10, val_main_v9,
    val_main_v8, val_main_v7, val_main_cst_2, val_main_cst_5, val_main_cst_6]
  rw [Subsingleton.elim z 0]

theorem unit_at (R : Fin 16384) : val_main_v33 (F := Ideal) x w g d (ix1 R) = val_main_v32 (F := Ideal) x w g d (ix2 R 0) := by
  pointwise [val_main_v33, val_main_cst_7]
  exact Fin.sum_univ_one _

/-- The gradient of the layer's input. -/
theorem dx_at (R : Fin 16384) (j : Fin 1024) : val_main_v38 (F := Ideal) x w g e d (ix2 R j)
    = e (ix2 R j) + cot w d R j * g (ix1 j) * Ideal.rsqrt (Norm.mean fun j => x (ix2 R j))
      + x (ix2 R j) * Norm.rback (cot w d R) (fun j => g (ix1 j)) (fun j => x (ix2 R j)) 0
      + Norm.rback (cot w d R) (fun j => g (ix1 j)) (fun j => x (ix2 R j)) 0 * x (ix2 R j) := by
  rw [← part_at x w g d R 0, ← cot_at, ← inv_at x R 0, ← unit_at]
  pointwise [val_main_v38, val_main_v37, val_main_v36, val_main_v35, val_main_v34, val_main_v29, val_main_v28, val_main_v27, val_main_v22, val_main_v21, val_main_v13]

/-- The gradient of the gain. -/
theorem dg_at (z : Fin 1) (j : Fin 1024) : val_main_v39 (F := Ideal) x w d (ix2 z j)
    = ∑ R : Fin 16384, x (ix2 R j) * Ideal.rsqrt (Norm.mean fun j => x (ix2 R j)) * cot w d R j := by
  simp only [← cot_at, ← inv_at x _ 0]
  pointwise [val_main_v39, val_main_v23, val_main_v20, val_main_v19, val_main_v18, val_main_v12, val_main_v11, val_main_cst_3, val_main_cst_4]
  exact Fin.sum_univ_one _

end Cert.Reference3Ideal.At

end
-- ==== Proof.UpAlgebra.lean ====
/- The backward pass through the first product: the results of the two programs are the same, for any arguments. -/
module

public import proofs.«01_k».proof.Defs
public import proofs.«01_k».proof.Proof.UpFold
public import proofs.«01_k».proof.Proof.UpRef

@[expose] public section

set_option maxRecDepth 16384

noncomputable section

open Idealize.ShloMosaic Idealize.ShloMosaic.TcCoe Idealize.SL.Sem

namespace Cert.UpAlgebra

open Cert.Kernel3Ideal Cert.Kernel3Ideal.Gen Cert.Kernel3Ideal.Fold

variable (m : (ℓ : Loc nD τ sig) → Buf (Elt Ideal) ℓ) (c : Dev nD)

theorem V_d (R : Fin 16384) (k : Fin 5632) : aD m c R k = m ((c : Thread nD τ).loc main_arg4) (ix2 R k) := by
  unfold aD V; after_results; pointwise []
theorem V_w (j : Fin 1024) (k : Fin 5632) : aW m c j k = m ((c : Thread nD τ).loc main_arg1) (ix2 j k) := by
  unfold aW V; after_results; pointwise []
theorem V_x (R : Fin 16384) (j : Fin 1024) : aX m c R j = m ((c : Thread nD τ).loc main_arg0) (ix2 R j) := by
  unfold aX V; after_results
theorem V_g (j : Fin 1024) : aG m c j = m ((c : Thread nD τ).loc main_arg2) (ix1 j) := by
  unfold aG V; after_results; pointwise []
theorem V_e (R : Fin 16384) (j : Fin 1024) : aE m c R j = m ((c : Thread nD τ).loc main_arg3) (ix2 R j) := by
  unfold aE V; after_results

/-- The cotangent of the norm is the reference's. -/
theorem V_cot (R : Fin 16384) : cot m c R
    = Cert.Reference3Ideal.At.cot (m ((c : Thread nD τ).loc main_arg1)) (m ((c : Thread nD τ).loc main_arg4)) R := by
  funext j
  unfold cot Cert.Reference3Ideal.At.cot
  simp only [V_d, V_w]

/-- The rows in the order of the blocks and chains are all the rows. -/
theorem sum_rows (F : Fin 16384 → EReal) :
    ∑ t : Fin 32, ((∑ r : Fin 256, F (row t 0 r)) + ∑ r : Fin 256, F (row t 1 r)) = ∑ R, F R := by
  rw [← Fin.sum_mul_add_fin (L := 16384) 32 512 F]
  refine Finset.sum_congr rfl fun t _ => ?_
  rw [← Fin.sum_mul_add_fin (L := 512) 2 256 (fun s => F ⟨t * 512 + s, by omega⟩), Fin.sum_univ_two]
  refine congrArg₂ (· + ·) (Finset.sum_congr rfl fun r _ => congrArg F (Fin.ext ?_)) (Finset.sum_congr rfl fun r _ => congrArg F (Fin.ext ?_))
  · simp
  · simp

/-- The gradient of the layer's input. -/
theorem same_x : (dats m 0 c).arrAt 5 (cfgs 0).N
    = Cert.Reference3Ideal.Read.val_main_v38 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  refine (final_x m c).trans ?_
  funext y
  obtain ⟨R, j, rfl⟩ : ∃ (R : Fin 16384) (j : Fin 1024), y = ix2 R j := ⟨y 0, y 1, by funext a; match a with | ⟨0, _⟩ => rfl | ⟨1, _⟩ => rfl⟩
  refine Eq.trans ?_ (Cert.Reference3Ideal.At.dx_at _ _ _ _ _ R j).symm
  show aE m c R j + Norm.kback (cot m c R) (aG m c) (aX m c R) j = _
  rw [Norm.kback_eq, V_cot, V_e, V_x, V_g, show aG m c = fun j => m ((c : Thread nD τ).loc main_arg2) (ix1 j) from funext (V_g m c),
    show aX m c R = fun j => m ((c : Thread nD τ).loc main_arg0) (ix2 R j) from funext (V_x m c R)]

/-- The gradient of the gain. -/
theorem same_g : (dats m 0 c).arrAt 6 (cfgs 0).N
    = Cert.Reference3Ideal.Read.val_main_v39 (F := Ideal) (m ((c : Thread nD τ).loc main_arg0)) (m ((c : Thread nD τ).loc main_arg1))
      (m ((c : Thread nD τ).loc main_arg4)) := by
  refine (final_g m c).trans ?_
  funext y
  obtain ⟨z, j, rfl⟩ : ∃ (z : Fin 1) (j : Fin 1024), y = ix2 z j := ⟨y 0, y 1, by funext a; match a with | ⟨0, _⟩ => rfl | ⟨1, _⟩ => rfl⟩
  refine Eq.trans ?_ (Cert.Reference3Ideal.At.dg_at _ _ _ z j).symm
  show ∑ t : Fin 32, part m c t j = _
  unfold part
  refine (sum_rows fun R => cot m c R j * (aX m c R j * Ideal.rsqrt (Norm.mean (aX m c R)))).trans (Finset.sum_congr rfl fun R _ => ?_)
  rw [show aX m c R = fun j => m ((c : Thread nD τ).loc main_arg0) (ix2 R j) from funext (V_x m c R), V_cot, mul_comm]

end Cert.UpAlgebra

end
-- ==== Proof.DownWeight.lean ====
/- The gradient of the second product's weight at an index: the sum over all the tokens, which the grid points add up block by block, is the reference's. -/
module

public import proofs.«01_k».proof.Proof.Gen.Kernel5Ideal.Value
public import proofs.«01_k».proof.Proof.Gen.Reference5Ideal.Read
public import Idealize.ShloMosaic.Lib.Pipeline.ValueKit

@[expose] public section

set_option maxRecDepth 16384

noncomputable section

open Idealize.ShloMosaic Idealize.ShloMosaic.TcCoe Idealize.SL.Sem

namespace Cert.DownWeight

open Cert.Kernel5Ideal Cert.Kernel5Ideal.Gen Facts

/-- Point `t` takes the block of tokens `t % 8`, and its run `t / 8` a block of columns. -/
theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

/-- One point adds the product of its blocks over their tokens. -/
theorem step_apply (a : FVec Ideal S1408x1024 .f32) (u : FVec Ideal S2048x1408 .bf16) (v : FVec Ideal S2048x1024 .bf16) (i : Fin 1408) (j : Fin 1024) :
    k0_pay2 (F := Ideal) a u v (ix2 i j) = a (ix2 i j) + ∑ r : Fin 2048, u (ix2 r i) * v (ix2 r j) := by
  pointwise [k0_pay2]

theorem zero_apply (y : S1408x1024.Idx) : k0_pay1 (F := Ideal) y = (0 : EReal) := by
  show Ideal.ofBits .f32 0x00000000#32 = 0
  simp [Ideal.ofBits, Ideal.ieee]

variable (m : (ℓ : Loc nD τ sig) → Buf (Elt Ideal) ℓ) (c : Dev nD)

/-- The arrays that the launch takes. -/
def aH (R : Fin 16384) (i : Fin 2816) : EReal := V m c main_v4 (ix2 R i)
def aD (R : Fin 16384) (j : Fin 1024) : EReal := V m c main_v5 (ix2 R j)

/-- The term of token `R`. -/
def term (i : Fin 2816) (j : Fin 1024) (R : Fin 16384) : EReal := aH m c R i * aD m c R j

theorem h_at (t : Fin cfg0.N) (r : Fin 2048) (i : Fin 1408) (R : Fin 16384) (I : Fin 2816) (hR : (R : ℕ) = t.val % 8 * 2048 + r)
    (hI : (I : ℕ) = t.val / 8 * 1408 + i) : iblk m c 0 t (ix2 r i) = aH m c R I := by
  unfold iblk aH
  generalize V m c = A
  blk_ext [idx t]

theorem d_at (t : Fin cfg0.N) (r : Fin 2048) (j : Fin 1024) (R : Fin 16384) (J : Fin 1024) (hR : (R : ℕ) = t.val % 8 * 2048 + r)
    (hJ : (J : ℕ) = 0 + j) : iblk m c 1 t (ix2 r j) = aD m c R J := by
  unfold iblk aD
  generalize V m c = A
  blk_ext [idx t]

/-- What a point adds, of its two blocks. -/
def pair (u : FVec Ideal S2048x1408 .bf16) (v : FVec Ideal S2048x1024 .bf16) (y : S1408x1024.Idx) : EReal :=
  ∑ r : Fin 2048, u (ix2 r (y 0)) * v (ix2 r (y 1))

/-- What point `t` adds. -/
def part (t : Fin cfg0.N) (y : S1408x1024.Idx) : EReal := pair (iblk m c 0 t) (iblk m c 1 t) y

theorem add_part (t : Fin cfg0.N) (a : FVec Ideal S1408x1024 .f32) (y : S1408x1024.Idx) :
    k0_pay2 (F := Ideal) a (iblk m c 0 t) (iblk m c 1 t) y = a y + part m c t y := by
  obtain ⟨i, j, rfl⟩ : ∃ (i : Fin 1408) (j : Fin 1024), y = ix2 i j := ⟨y 0, y 1, by funext a; match a with | ⟨0, _⟩ => rfl | ⟨1, _⟩ => rfl⟩
  exact step_apply a _ _ i j

theorem step_zero (t : Fin cfg0.N) (h0 : t.val % 8 = 0) (y : S1408x1024.Idx) : (outsAt0 m c t.val t.isLt y : EReal) = 0 + part m c t y := by
  rw [outsAt0_A m c t h0, Value.out_A_2_eq, add_part, zero_apply]

theorem step (t : Fin cfg0.N) (h0 : ¬t.val % 8 = 0) (y : S1408x1024.Idx) : (outsAt0 m c t.val t.isLt y : EReal)
    = outsAt0 m c (t.val - 1) (Nat.lt_of_le_of_lt (Nat.sub_le _ _) t.isLt) y + part m c t y := by
  rw [outsAt0_B m c t h0, Value.out_B_2_eq, add_part]

/-- The last point of a run holds the sum over all the tokens. -/
theorem acc (t : Fin cfg0.N) (hf : t.val % 8 = 8 - 1) (y : S1408x1024.Idx) (I : Fin 2816) (J : Fin 1024)
    (hI : (I : ℕ) = t.val / 8 * 1408 + (y 0 : ℕ)) (hJ : (J : ℕ) = 0 + (y 1 : ℕ)) :
    (outsAt0 m c t.val t.isLt y : EReal) = ∑ R : Fin 16384, term m c I J R := by
  have e := Pipeline.eq_sum_fin_of_reset_step_apply_of_flush (N := cfg0.N) (M := EReal) (fun n h y => (outsAt0 m c n h y : EReal)) 8 (fun _ => 0)
    (part m c) (step_zero m c) (step m c) t hf y
  refine e.trans ?_
  rw [zero_add]
  have ht : t.val < 16 := t.isLt
  rw [← Fin.sum_mul_add_fin (L := 16384) 8 2048 (term m c I J)]
  refine Finset.sum_congr rfl fun s _ => ?_
  have hs := s.isLt
  unfold part pair
  refine Finset.sum_congr rfl fun r _ => ?_
  have hr := r.isLt
  have h1 : (8 * (t.val / 8) + s.val) % 8 = s.val := by omega
  have h2 : (8 * (t.val / 8) + s.val) / 8 = t.val / 8 := by omega
  unfold term
  rw [h_at m c _ r (y 0) ⟨s * 2048 + r, by omega⟩ I (by show _ = (8 * (t.val / 8) + s.val) % 8 * 2048 + r.val; rw [h1]) (by simp only [h2]; exact hI),
    d_at m c _ r (y 1) ⟨s * 2048 + r, by omega⟩ J (by show _ = (8 * (t.val / 8) + s.val) % 8 * 2048 + r.val; rw [h1]) hJ]

/-- The array after the last point. -/
theorem final : (dats m 0 c).arrAt 2 (cfgs 0).N = fun y : S2816x1024.Idx => ∑ R : Fin 16384, term m c (y 0) (y 1) R := by
  refine (dats m 0 c).arrAt_eq_of_covers 2 _ (by decide +kernel) fun t hf y => ?_
  have hl := (flush0_2 t).mp hf
  blk_simp
  rw [after0_2]
  refine acc m c t hl y _ _ ?_ ?_
  all_goals (blk_simp [idx t] <;> (try dsimp only) <;> omega)

/-- The reference's result at an index. -/
theorem ref_at (p : FVec Ideal S16384x5632 .f32) (d : FVec Ideal S16384x1024 .f32) (i : Fin 2816) (j : Fin 1024) :
    Cert.Reference5Ideal.Read.val_main_v6 (F := Ideal) p d (ix2 i j)
      = ∑ R : Fin 16384, d (ix2 R j) * Cert.Reference5Ideal.Read.val_main_v3 (F := Ideal) p (ix2 R i) := by
  generalize hv : Cert.Reference5Ideal.Read.val_main_v3 (F := Ideal) p = v
  pointwise [Cert.Reference5Ideal.Read.val_main_v6, Cert.Reference5Ideal.Read.val_main_v5, hv]

/-- The gated values that the launch takes are the reference's. -/
theorem V_h (R : Fin 16384) (i : Fin 2816) : aH m c R i = Cert.Reference5Ideal.Read.val_main_v3 (F := Ideal) (m ((c : Thread nD τ).loc main_arg0)) (ix2 R i) := by
  unfold aH V; simp only [hostOps0, hostOps0_1, hostOps0_2, List.flatten_cons, List.flatten_nil, List.append_nil, List.cons_append, List.nil_append]
  after_results
  rfl

theorem V_d (R : Fin 16384) (j : Fin 1024) : aD m c R j = m ((c : Thread nD τ).loc main_arg2) (ix2 R j) := by
  unfold aD V; simp only [hostOps0, hostOps0_1, hostOps0_2, List.flatten_cons, List.flatten_nil, List.append_nil, List.cons_append, List.nil_append]
  after_results
  rfl

/-- The two results are the same. -/
theorem same : (dats m 0 c).arrAt 2 (cfgs 0).N = Cert.Reference5Ideal.Read.val_main_v6 (F := Ideal) (m ((c : Thread nD τ).loc main_arg0)) (m ((c : Thread nD τ).loc main_arg2)) := by
  refine (final m c).trans ?_
  funext y
  obtain ⟨i, j, rfl⟩ : ∃ (i : Fin 2816) (j : Fin 1024), y = ix2 i j := ⟨y 0, y 1, by funext a; match a with | ⟨0, _⟩ => rfl | ⟨1, _⟩ => rfl⟩
  refine Eq.trans ?_ (ref_at _ _ i j).symm
  exact Finset.sum_congr rfl fun R _ => by
    show aH m c R i * aD m c R j = _
    rw [V_h, V_d, mul_comm]

end Cert.DownWeight

end
-- ==== Proof.UpWeight.lean ====
/- The gradient of the first product's weight at an index: the sum over all the tokens, which the grid points add up block by block, is the reference's. -/
module

public import proofs.«01_k».proof.Proof.Gen.Kernel4Ideal.Value
public import proofs.«01_k».proof.Proof.Gen.Reference4Ideal.Read
public import Idealize.ShloMosaic.Lib.Pipeline.ValueKit

@[expose] public section

set_option maxRecDepth 16384

noncomputable section

open Idealize.ShloMosaic Idealize.ShloMosaic.TcCoe Idealize.SL.Sem

namespace Cert.UpWeight

open Cert.Kernel4Ideal Cert.Kernel4Ideal.Gen Facts

/-- Point `t` takes the block of tokens `t % 16`, and its run `t / 16` a block of columns. -/
theorem idx : ∀ t : Fin cfg0.N, win0_0.index t = ![t.val % 16, 0] ∧ win0_1.index t = ![t.val % 16, t.val / 16] ∧ win0_2.index t = ![0, t.val / 16] :=
  (by decide +kernel : ∀ t : Fin grid0.N, _)

/-- One point adds the product of its blocks over their tokens. -/
theorem step_apply (a : FVec Ideal S1024x2816 .f32) (u : FVec Ideal S1024x1024 .bf16) (v : FVec Ideal S1024x2816 .bf16) (i : Fin 1024) (j : Fin 2816) :
    k0_pay2 (F := Ideal) a u v (ix2 i j) = a (ix2 i j) + ∑ r : Fin 1024, u (ix2 r i) * v (ix2 r j) := by
  pointwise [k0_pay2]

theorem zero_apply (y : S1024x2816.Idx) : k0_pay1 (F := Ideal) y = (0 : EReal) := by
  show Ideal.ofBits .f32 0x00000000#32 = 0
  simp [Ideal.ofBits, Ideal.ieee]

variable (m : (ℓ : Loc nD τ sig) → Buf (Elt Ideal) ℓ) (c : Dev nD)

/-- The arrays that the launch takes. -/
def aH (R : Fin 16384) (i : Fin 1024) : EReal := V m c main_v13 (ix2 R i)
def aD (R : Fin 16384) (j : Fin 5632) : EReal := V m c main_v14 (ix2 R j)

/-- The term of token `R`. -/
def term (i : Fin 1024) (j : Fin 5632) (R : Fin 16384) : EReal := aH m c R i * aD m c R j

theorem h_at (t : Fin cfg0.N) (r : Fin 1024) (i : Fin 1024) (R : Fin 16384) (I : Fin 1024) (hR : (R : ℕ) = t.val % 16 * 1024 + r)
    (hI : (I : ℕ) = 0 + i) : iblk m c 0 t (ix2 r i) = aH m c R I := by
  unfold iblk aH
  generalize V m c = A
  blk_ext [idx t]

theorem d_at (t : Fin cfg0.N) (r : Fin 1024) (j : Fin 2816) (R : Fin 16384) (J : Fin 5632) (hR : (R : ℕ) = t.val % 16 * 1024 + r)
    (hJ : (J : ℕ) = t.val / 16 * 2816 + j) : iblk m c 1 t (ix2 r j) = aD m c R J := by
  unfold iblk aD
  generalize V m c = A
  blk_ext [idx t]

/-- What a point adds, of its two blocks. -/
def pair (u : FVec Ideal S1024x1024 .bf16) (v : FVec Ideal S1024x2816 .bf16) (y : S1024x2816.Idx) : EReal :=
  ∑ r : Fin 1024, u (ix2 r (y 0)) * v (ix2 r (y 1))

/-- What point `t` adds. -/
def part (t : Fin cfg0.N) (y : S1024x2816.Idx) : EReal := pair (iblk m c 0 t) (iblk m c 1 t) y

theorem add_part (t : Fin cfg0.N) (a : FVec Ideal S1024x2816 .f32) (y : S1024x2816.Idx) :
    k0_pay2 (F := Ideal) a (iblk m c 0 t) (iblk m c 1 t) y = a y + part m c t y := by
  obtain ⟨i, j, rfl⟩ : ∃ (i : Fin 1024) (j : Fin 2816), y = ix2 i j := ⟨y 0, y 1, by funext a; match a with | ⟨0, _⟩ => rfl | ⟨1, _⟩ => rfl⟩
  exact step_apply a _ _ i j

theorem step_zero (t : Fin cfg0.N) (h0 : t.val % 16 = 0) (y : S1024x2816.Idx) : (outsAt0 m c t.val t.isLt y : EReal) = 0 + part m c t y := by
  rw [outsAt0_A m c t h0, Value.out_A_2_eq, add_part, zero_apply]

theorem step (t : Fin cfg0.N) (h0 : ¬t.val % 16 = 0) (y : S1024x2816.Idx) : (outsAt0 m c t.val t.isLt y : EReal)
    = outsAt0 m c (t.val - 1) (Nat.lt_of_le_of_lt (Nat.sub_le _ _) t.isLt) y + part m c t y := by
  rw [outsAt0_B m c t h0, Value.out_B_2_eq, add_part]

/-- The last point of a run holds the sum over all the tokens. -/
theorem acc (t : Fin cfg0.N) (hf : t.val % 16 = 16 - 1) (y : S1024x2816.Idx) (I : Fin 1024) (J : Fin 5632)
    (hI : (I : ℕ) = 0 + (y 0 : ℕ)) (hJ : (J : ℕ) = t.val / 16 * 2816 + (y 1 : ℕ)) :
    (outsAt0 m c t.val t.isLt y : EReal) = ∑ R : Fin 16384, term m c I J R := by
  have e := Pipeline.eq_sum_fin_of_reset_step_apply_of_flush (N := cfg0.N) (M := EReal) (fun n h y => (outsAt0 m c n h y : EReal)) 16 (fun _ => 0)
    (part m c) (step_zero m c) (step m c) t hf y
  refine e.trans ?_
  rw [zero_add]
  have ht : t.val < 32 := t.isLt
  rw [← Fin.sum_mul_add_fin (L := 16384) 16 1024 (term m c I J)]
  refine Finset.sum_congr rfl fun s _ => ?_
  have hs := s.isLt
  unfold part pair
  refine Finset.sum_congr rfl fun r _ => ?_
  have hr := r.isLt
  have h1 : (16 * (t.val / 16) + s.val) % 16 = s.val := by omega
  have h2 : (16 * (t.val / 16) + s.val) / 16 = t.val / 16 := by omega
  unfold term
  rw [h_at m c _ r (y 0) ⟨s * 1024 + r, by omega⟩ I (by show _ = (16 * (t.val / 16) + s.val) % 16 * 1024 + r.val; rw [h1]) hI,
    d_at m c _ r (y 1) ⟨s * 1024 + r, by omega⟩ J (by show _ = (16 * (t.val / 16) + s.val) % 16 * 1024 + r.val; rw [h1]) (by simp only [h2]; exact hJ)]

/-- The array after the last point. -/
theorem final : (dats m 0 c).arrAt 2 (cfgs 0).N = fun y : S1024x5632.Idx => ∑ R : Fin 16384, term m c (y 0) (y 1) R := by
  refine (dats m 0 c).arrAt_eq_of_covers 2 _ (by decide +kernel) fun t hf y => ?_
  have hl := (flush0_2 t).mp hf
  blk_simp
  rw [after0_2]
  refine acc m c t hl y _ _ ?_ ?_
  all_goals (blk_simp [idx t] <;> (try dsimp only) <;> omega)

/-- The reference's result at an index. -/
theorem ref_at (x : FVec Ideal S16384x1024 .f32) (g : FVec Ideal S1024 .f32) (d : FVec Ideal S16384x5632 .f32) (i : Fin 1024) (j : Fin 5632) :
    Cert.Reference4Ideal.Read.val_main_v15 (F := Ideal) x g d (ix2 i j)
      = ∑ R : Fin 16384, d (ix2 R j) * Cert.Reference4Ideal.Read.val_main_v12 (F := Ideal) x g (ix2 R i) := by
  generalize hv : Cert.Reference4Ideal.Read.val_main_v12 (F := Ideal) x g = v
  pointwise [Cert.Reference4Ideal.Read.val_main_v15, Cert.Reference4Ideal.Read.val_main_v14, hv]

/-- The normed input that the launch takes is the reference's. -/
theorem V_h (R : Fin 16384) (i : Fin 1024) : aH m c R i = Cert.Reference4Ideal.Read.val_main_v12 (F := Ideal) (m ((c : Thread nD τ).loc main_arg0)) (m ((c : Thread nD τ).loc main_arg2)) (ix2 R i) := by
  unfold aH V
  after_results
  rfl

theorem V_d (R : Fin 16384) (j : Fin 5632) : aD m c R j = m ((c : Thread nD τ).loc main_arg3) (ix2 R j) := by
  unfold aD V
  after_results
  rfl

/-- The two results are the same. -/
theorem same : (dats m 0 c).arrAt 2 (cfgs 0).N = Cert.Reference4Ideal.Read.val_main_v15 (F := Ideal) (m ((c : Thread nD τ).loc main_arg0)) (m ((c : Thread nD τ).loc main_arg2)) (m ((c : Thread nD τ).loc main_arg3)) := by
  refine (final m c).trans ?_
  funext y
  obtain ⟨i, j, rfl⟩ : ∃ (i : Fin 1024) (j : Fin 5632), y = ix2 i j := ⟨y 0, y 1, by funext a; match a with | ⟨0, _⟩ => rfl | ⟨1, _⟩ => rfl⟩
  refine Eq.trans ?_ (ref_at _ _ _ i j).symm
  exact Finset.sum_congr rfl fun R _ => by
    show aH m c R i * aD m c R j = _
    rw [V_h, V_d, mul_comm]

end Cert.UpWeight

end
-- ==== Proof.Forward.lean ====
/- The norm of a row, the gated value, and the rows of one chain within a block, as the forward pass of the feed-forward network has
   them, in the extended reals. -/
module

public import proofs.«01_k».proof.Proof.Norm
public import proofs.«01_k».proof.Proof.Gate
public import Idealize.ShloMosaic.Lib.Pipeline.ValueKit
public import Idealize.ShloMosaic.Lib.Pipeline.ReadBack

@[expose] public section

noncomputable section

open Idealize.ShloMosaic

namespace Cert.Forward

/-- The norm of the row `x` with gain `g`. -/
def norm (g x : Fin 1024 → EReal) (j : Fin 1024) : EReal := x j * Ideal.rsqrt (Norm.mean x) * g j

/-- The gated value, with the logistic function's negation a subtraction from zero. -/
def gated (a b : EReal) : EReal := a * Gate.sigK a * b

theorem sigK_eq (a : EReal) : Gate.sigK a = Gate.sig a := by
  unfold Gate.sigK Gate.sig
  rw [Gate.zero_bits, EReal.coe_zero, zero_sub]

/-- The index of a chain's element within the block. -/
theorem emb_row {H N o : ℕ} (inb : ∀ a, (![o, 0] : Fin 2 → ℕ) a + (![256, N] : Fin 2 → ℕ) a ≤ (⟨2, ![H, N]⟩ : Shape).size a)
    (r : Fin 256) (j : Fin N) (R : Fin H) (hR : (R : ℕ) = o + r) :
    (Rect.unit (s := ⟨2, ![H, N]⟩) ![o, 0] ![256, N] inb).emb (ix2 r j) = ix2 R j := by
  funext a
  refine Fin.ext ?_
  rw [Rect.emb_apply]
  fin_cases a
  · show o + 1 * (r : ℕ) = R; omega
  · show 0 + 1 * (j : ℕ) = j; omega

/-- A chain's element is the block's. -/
theorem ld_row {H N o : ℕ} {e : EltTy} (X : (⟨2, ![H, N]⟩ : Shape).Idx → Elt Ideal e)
    (inb : ∀ a, (![o, 0] : Fin 2 → ℕ) a + (![256, N] : Fin 2 → ℕ) a ≤ (⟨2, ![H, N]⟩ : Shape).size a)
    (r : Fin 256) (j : Fin N) (R : Fin H) (hR : (R : ℕ) = o + r) :
    View.ld (Val := Elt Ideal) X (Rect.unit (s := ⟨2, ![H, N]⟩) ![o, 0] ![256, N] inb) (ix2 r j) = X (ix2 R j) := by
  refine View.ld_unit_apply_of (Val := Elt Ideal) (e := e) (S := ⟨2, ![H, N]⟩) X ![o, 0] ![256, N] inb (ix2 r j) _ fun a => ?_
  fin_cases a
  · exact hR
  · exact (Nat.zero_add _).symm

/-- A whole block read is the block. -/
theorem ld_whole {H N : ℕ} {e : EltTy} (X : (⟨2, ![H, N]⟩ : Shape).Idx → Elt Ideal e)
    (inb : ∀ a, (![0, 0] : Fin 2 → ℕ) a + (![H, N] : Fin 2 → ℕ) a ≤ (⟨2, ![H, N]⟩ : Shape).size a) (r : Fin H) (j : Fin N) :
    View.ld (Val := Elt Ideal) X (Rect.unit (s := ⟨2, ![H, N]⟩) ![0, 0] ![H, N] inb) (ix2 r j) = X (ix2 r j) := by
  refine View.ld_unit_apply_of (Val := Elt Ideal) (e := e) (S := ⟨2, ![H, N]⟩) X ![0, 0] ![H, N] inb (ix2 r j) _ fun a => ?_
  fin_cases a
  · exact (Nat.zero_add _).symm
  · exact (Nat.zero_add _).symm

end Cert.Forward

end
-- ==== Proof.UpForward.lean ====
/- The forward pass of the norm, the first product and the gate: what one grid point leaves, the arrays after the last point, and
   the reference's results at an index, which are the same. -/
module

public import proofs.«01_k».proof.Proof.Gen.Kernel6Ideal.Value
public import proofs.«01_k».proof.Proof.Gen.Reference6Ideal.Read
public import proofs.«01_k».proof.Proof.Forward

@[expose] public section

set_option maxRecDepth 16384

noncomputable section

open Idealize.ShloMosaic Idealize.ShloMosaic.TcCoe Idealize.SL.Sem

namespace Cert.UpForward

open Cert.Kernel6Ideal Cert.Kernel6Ideal.Gen Cert.Forward Facts

/-- Point `t` is the block of rows `t`. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] :=
  (by decide +kernel : ∀ t : Fin grid0.N, _)

theorem norm_first (x : FVec Ideal S256x1024 .f32) (g : FVec Ideal S1x1024 .f32) (r : Fin 256) (j : Fin 1024) :
    k0_pay7 (F := Ideal) x g (ix2 r j) = Forward.norm (fun k => g (ix2 0 k)) (fun k => x (ix2 r k)) j := by
  unfold Forward.norm Norm.mean
  pointwise [k0_pay7]

theorem norm_second (x : FVec Ideal S256x1024 .f32) (g : FVec Ideal S1x1024 .f32) : k0_pay8 (F := Ideal) x g = k0_pay7 x g := rfl

theorem product (h : FVec Ideal S256x1024 .bf16) (w : FVec Ideal S1024x5632 .bf16) (r : Fin 256) (n : Fin 5632) :
    k0_pay2 (F := Ideal) h w (ix2 r n) = ∑ k : Fin 1024, h (ix2 r k) * w (ix2 k n) := by
  pointwise [k0_pay2]

theorem product_second (h : FVec Ideal S256x1024 .bf16) (w : FVec Ideal S1024x5632 .bf16) (r : Fin 256) (n : Fin 5632) :
    k0_pay5 (F := Ideal) h w (ix2 r n) = ∑ k : Fin 1024, h (ix2 r k) * w (ix2 k n) := by
  rw [← product]; pointwise [k0_pay5]

theorem gate (h : FVec Ideal S256x1024 .bf16) (w : FVec Ideal S1024x5632 .bf16) (r : Fin 256) (n : Fin 2816) :
    k0_pay6 (F := Ideal) h w (ix2 r n)
      = gated (k0_pay2 (F := Ideal) h w (ix2 r ⟨n, by omega⟩)) (k0_pay2 (F := Ideal) h w (ix2 r ⟨2816 + n, by omega⟩)) := by
  unfold gated Gate.sigK k0_pay6
  generalize k0_pay2 (F := Ideal) h w = A
  pointwise []

theorem product_first (h : FVec Ideal S256x1024 .bf16) (w : FVec Ideal S1024x5632 .bf16) :
    k0_pay3 (F := Ideal) h (k0_pay9 w) (constant (F := Ideal) S256x5632 .f32 0x00000000#32) = k0_pay5 (F := Ideal) h w := rfl

theorem gate_first (h : FVec Ideal S256x1024 .bf16) (w : FVec Ideal S1024x5632 .bf16) :
    k0_pay4 (F := Ideal) h (k0_pay9 w) (constant (F := Ideal) S256x5632 .f32 0x00000000#32) = k0_pay6 (F := Ideal) h w := rfl

/-! The blocks that a point leaves. -/

section Block

variable (x : FVec Ideal S512x1024 .f32) (w : FVec Ideal S1024x5632 .bf16) (g : FVec Ideal S1x1024 .f32)

/-- The normed row `R` of a block, the row of the product, and its gated values. -/
def bH (R : Fin 512) (j : Fin 1024) : EReal := Forward.norm (fun k => g (ix2 0 k)) (fun k => x (ix2 R k)) j
def bU (R : Fin 512) (n : Fin 5632) : EReal := ∑ k : Fin 1024, bH x g R k * w (ix2 k n)
def bA (R : Fin 512) (n : Fin 2816) : EReal := gated (bU x w g R ⟨n, by omega⟩) (bU x w g R ⟨2816 + n, by omega⟩)

theorem chain_norm (o : ℕ) (inb) (r : Fin 256) (j : Fin 1024) (R : Fin 512) (hR : (R : ℕ) = o + r) :
    k0_pay7 (F := Ideal) (View.ld (Val := Elt Ideal) x (Rect.unit (s := S512x1024) ![o, 0] S256x1024.size inb)) (View.ld (Val := Elt Ideal) g r0_1) (ix2 r j) = bH x g R j := by
  rw [norm_first]
  unfold bH
  congr 1
  · funext k; exact ld_whole (e := .f32) g _ 0 k
  · funext k; exact ld_row (e := .f32) x _ r k R hR

theorem chain_product (h : FVec Ideal S256x1024 .bf16) (r : Fin 256) (R : Fin 512) (hh : ∀ k, h (ix2 r k) = bH x g R k) (n : Fin 5632) :
    k0_pay2 (F := Ideal) h (View.ld (Val := Elt Ideal) w r0_3) (ix2 r n) = bU x w g R n := by
  rw [product]
  unfold bU
  exact Finset.sum_congr rfl fun k _ => congrArg₂ (· * ·) (hh k) (ld_whole (e := .bf16) w _ k n)

theorem point_norm (y : S512x1024.Idx) : out0_3 (F := Ideal) x w g y = bH x g (y 0) (y 1) := by
  unfold out0_3
  refine View.canon_apply_of_pieces (Val := Elt Ideal) (e := .bf16) (fun y : S512x1024.Idx => bH x g (y 0) (y 1)) _ (fun p hp z => ?_) y (cover0_3 _ _ y)
  simp only [List.mem_cons, List.not_mem_nil, or_false] at hp
  rcases hp with rfl | rfl
  · obtain ⟨r, j, rfl⟩ : ∃ (r : Fin 256) (j : Fin 1024), z = ix2 r j := ⟨z 0, z 1, by funext a; match a with | ⟨0, _⟩ => rfl | ⟨1, _⟩ => rfl⟩
    have e := emb_row (H := 512) (N := 1024) (o := 256) (by decide) r j ⟨256 + r, by omega⟩ rfl
    show k0_pay7 (F := Ideal) _ _ (ix2 r j) = _
    refine (chain_norm x g 256 _ r j ⟨256 + r, by omega⟩ rfl).trans ?_
    exact (congrArg (fun y : S512x1024.Idx => bH x g (y 0) (y 1)) e).symm
  · obtain ⟨r, j, rfl⟩ : ∃ (r : Fin 256) (j : Fin 1024), z = ix2 r j := ⟨z 0, z 1, by funext a; match a with | ⟨0, _⟩ => rfl | ⟨1, _⟩ => rfl⟩
    have e := emb_row (H := 512) (N := 1024) (o := 0) (by decide) r j ⟨r, by omega⟩ (Nat.zero_add _).symm
    refine (chain_norm x g 0 _ r j ⟨r, by omega⟩ (Nat.zero_add _).symm).trans ?_
    exact (congrArg (fun y : S512x1024.Idx => bH x g (y 0) (y 1)) e).symm

theorem point_product (y : S512x5632.Idx) : out0_4 (F := Ideal) x w g y = bU x w g (y 0) (y 1) := by
  unfold out0_4
  refine View.canon_apply_of_pieces (Val := Elt Ideal) (e := .bf16) (fun y : S512x5632.Idx => bU x w g (y 0) (y 1)) _ (fun p hp z => ?_) y (cover0_4 _ _ y)
  simp only [List.mem_cons, List.not_mem_nil, or_false] at hp
  rcases hp with rfl | rfl
  · obtain ⟨r, j, rfl⟩ : ∃ (r : Fin 256) (j : Fin 5632), z = ix2 r j := ⟨z 0, z 1, by funext a; match a with | ⟨0, _⟩ => rfl | ⟨1, _⟩ => rfl⟩
    have e := emb_row (H := 512) (N := 5632) (o := 256) (by decide) r j ⟨256 + r, by omega⟩ rfl
    refine (product_second _ _ r j).trans ((product _ _ r j).symm.trans ?_)
    refine (chain_product x w g _ r ⟨256 + r, by omega⟩ (fun k => chain_norm x g 256 _ r k ⟨256 + r, by omega⟩ rfl) j).trans ?_
    exact (congrArg (fun y : S512x5632.Idx => bU x w g (y 0) (y 1)) e).symm
  · obtain ⟨r, j, rfl⟩ : ∃ (r : Fin 256) (j : Fin 5632), z = ix2 r j := ⟨z 0, z 1, by funext a; match a with | ⟨0, _⟩ => rfl | ⟨1, _⟩ => rfl⟩
    have e := emb_row (H := 512) (N := 5632) (o := 0) (by decide) r j ⟨r, by omega⟩ (Nat.zero_add _).symm
    refine (congrFun (product_first _ _) (ix2 r j)).trans ((product_second _ _ r j).trans ((product _ _ r j).symm.trans ?_))
    refine (chain_product x w g _ r ⟨r, by omega⟩ (fun k => chain_norm x g 0 _ r k ⟨r, by omega⟩ (Nat.zero_add _).symm) j).trans ?_
    exact (congrArg (fun y : S512x5632.Idx => bU x w g (y 0) (y 1)) e).symm

theorem point_gate (y : S512x2816.Idx) : out0_5 (F := Ideal) x w g y = bA x w g (y 0) (y 1) := by
  unfold out0_5
  refine View.canon_apply_of_pieces (Val := Elt Ideal) (e := .bf16) (fun y : S512x2816.Idx => bA x w g (y 0) (y 1)) _ (fun p hp z => ?_) y (cover0_5 _ _ y)
  simp only [List.mem_cons, List.not_mem_nil, or_false] at hp
  rcases hp with rfl | rfl
  · obtain ⟨r, j, rfl⟩ : ∃ (r : Fin 256) (j : Fin 2816), z = ix2 r j := ⟨z 0, z 1, by funext a; match a with | ⟨0, _⟩ => rfl | ⟨1, _⟩ => rfl⟩
    have e := emb_row (H := 512) (N := 2816) (o := 256) (by decide) r j ⟨256 + r, by omega⟩ rfl
    have c := chain_product x w g _ r ⟨256 + r, by omega⟩ (fun k => chain_norm x g 256 inb_S512x1024_S256x1024_256_0 r k ⟨256 + r, by omega⟩ rfl)
    refine (gate _ _ r j).trans ((congrArg₂ gated (c _) (c _)).trans ?_)
    exact (congrArg (fun y : S512x2816.Idx => bA x w g (y 0) (y 1)) e).symm
  · obtain ⟨r, j, rfl⟩ : ∃ (r : Fin 256) (j : Fin 2816), z = ix2 r j := ⟨z 0, z 1, by funext a; match a with | ⟨0, _⟩ => rfl | ⟨1, _⟩ => rfl⟩
    have e := emb_row (H := 512) (N := 2816) (o := 0) (by decide) r j ⟨r, by omega⟩ (Nat.zero_add _).symm
    have c := chain_product x w g _ r ⟨r, by omega⟩ (fun k => chain_norm x g 0 inb_S512x1024_S256x1024_0_0 r k ⟨r, by omega⟩ (Nat.zero_add _).symm)
    refine (congrFun (gate_first _ _) (ix2 r j)).trans ((gate _ _ r j).trans ((congrArg₂ gated (c _) (c _)).trans ?_))
    exact (congrArg (fun y : S512x2816.Idx => bA x w g (y 0) (y 1)) e).symm

end Block

/-! The arrays. -/

variable (m : (ℓ : Loc nD τ sig) → Buf (Elt Ideal) ℓ) (c : Dev nD)

def aX (R : Fin 16384) (j : Fin 1024) : EReal := V m c main_arg0 (ix2 R j)
def aW (k : Fin 1024) (n : Fin 5632) : EReal := V m c main_v0 (ix2 k n)
def aG (j : Fin 1024) : EReal := V m c main_v1 (ix2 0 j)

def H (R : Fin 16384) (j : Fin 1024) : EReal := Forward.norm (aG m c) (aX m c R) j
def U (R : Fin 16384) (n : Fin 5632) : EReal := ∑ k : Fin 1024, H m c R k * aW m c k n
def A (R : Fin 16384) (n : Fin 2816) : EReal := gated (U m c R ⟨n, by omega⟩) (U m c R ⟨2816 + n, by omega⟩)

theorem x_at (t : Fin cfg0.N) (r : Fin 512) (k : Fin 1024) (R : Fin 16384) (hR : (R : ℕ) = t.val * 512 + r) : iblk m c 0 t (ix2 r k) = aX m c R k := by
  unfold iblk aX
  generalize V m c = A
  blk_ext [idx t]

theorem w_at (t : Fin cfg0.N) (k : Fin 1024) (n : Fin 5632) : iblk m c 1 t (ix2 k n) = aW m c k n := by
  unfold iblk aW
  generalize V m c = A
  blk_ext [idx t]

theorem g_at (t : Fin cfg0.N) (j : Fin 1024) : iblk m c 2 t (ix2 0 j) = aG m c j := by
  unfold iblk aG
  generalize V m c = A
  blk_ext [idx t]

theorem h_block (t : Fin cfg0.N) (r : Fin 512) (R : Fin 16384) (hR : (R : ℕ) = t.val * 512 + r) (j : Fin 1024) :
    bH (iblk m c 0 t) (iblk m c 2 t) r j = H m c R j := by
  unfold bH H
  simp only [x_at m c t r _ R hR, g_at m c t]

theorem u_block (t : Fin cfg0.N) (r : Fin 512) (R : Fin 16384) (hR : (R : ℕ) = t.val * 512 + r) (n : Fin 5632) :
    bU (iblk m c 0 t) (iblk m c 1 t) (iblk m c 2 t) r n = U m c R n := by
  unfold bU U
  exact Finset.sum_congr rfl fun k _ => congrArg₂ (· * ·) (h_block m c t r R hR k) (w_at m c t k n)

theorem a_block (t : Fin cfg0.N) (r : Fin 512) (R : Fin 16384) (hR : (R : ℕ) = t.val * 512 + r) (n : Fin 2816) :
    bA (iblk m c 0 t) (iblk m c 1 t) (iblk m c 2 t) r n = A m c R n :=
  congrArg₂ gated (u_block m c t r R hR _) (u_block m c t r R hR _)

theorem final_h : (dats m 0 c).arrAt 3 (cfgs 0).N = fun y : S16384x1024.Idx => H m c (y 0) (y 1) := by
  refine (dats m 0 c).arrAt_eq_of_covers 3 _ (by decide +kernel) fun t hf y => ?_
  blk_simp
  rw [after0_3, point_norm]
  refine (h_block m c t _ _ ?_ _).trans (congrArg _ (Fin.ext ?_))
  all_goals (blk_simp [idx t] <;> (try dsimp only) <;> omega)

theorem final_u : (dats m 0 c).arrAt 4 (cfgs 0).N = fun y : S16384x5632.Idx => U m c (y 0) (y 1) := by
  refine (dats m 0 c).arrAt_eq_of_covers 4 _ (by decide +kernel) fun t hf y => ?_
  blk_simp
  rw [after0_4, point_product]
  refine (u_block m c t _ _ ?_ _).trans (congrArg _ (Fin.ext ?_))
  all_goals (blk_simp [idx t] <;> (try dsimp only) <;> omega)

theorem final_a : (dats m 0 c).arrAt 5 (cfgs 0).N = fun y : S16384x2816.Idx => A m c (y 0) (y 1) := by
  refine (dats m 0 c).arrAt_eq_of_covers 5 _ (by decide +kernel) fun t hf y => ?_
  blk_simp
  rw [after0_5, point_gate]
  refine (a_block m c t _ _ ?_ _).trans (congrArg _ (Fin.ext ?_))
  all_goals (blk_simp [idx t] <;> (try dsimp only) <;> omega)

/-! The arguments of the launch and the reference at an index. -/

theorem V_x (R : Fin 16384) (j : Fin 1024) : aX m c R j = m ((c : Thread nD τ).loc main_arg0) (ix2 R j) := by
  unfold aX V; after_results
theorem V_w (k : Fin 1024) (n : Fin 5632) : aW m c k n = m ((c : Thread nD τ).loc main_arg1) (ix2 k n) := by
  unfold aW V; after_results; pointwise []
theorem V_g (j : Fin 1024) : aG m c j = m ((c : Thread nD τ).loc main_arg2) (ix1 j) := by
  unfold aG V; after_results; pointwise []

section Ref

open Cert.Reference6Ideal.Read

variable (x : FVec Ideal S16384x1024 .f32) (w : FVec Ideal S1024x5632 .f32) (g : FVec Ideal S1024 .f32)

theorem ref_mean (R : Fin 16384) (z : Fin 1) : val_main_v6 (F := Ideal) x (ix2 R z) = Norm.mean fun j => x (ix2 R j) := by
  pointwise [val_main_v6, val_main_v5, val_main_v4, val_main_v3, val_main_v2, val_main_v1, val_main_v0, val_main_cst, val_main_cst_0, val_main_cst_1, Norm.mean]

theorem ref_norm (R : Fin 16384) (j : Fin 1024) : val_main_v12 (F := Ideal) x g (ix2 R j) = Forward.norm (fun k => g (ix1 k)) (fun k => x (ix2 R k)) j := by
  unfold Forward.norm
  rw [← ref_mean x R 0]
  pointwise [val_main_v12, val_main_v11, val_main_v10, val_main_v9, val_main_v8, val_main_v7]

theorem ref_product (R : Fin 16384) (n : Fin 5632) : val_main_v13 (F := Ideal) x w g (ix2 R n)
    = ∑ k : Fin 1024, val_main_v12 (F := Ideal) x g (ix2 R k) * w (ix2 k n) := by
  generalize hv : val_main_v12 (F := Ideal) x g = v
  pointwise [val_main_v13, hv]

theorem ref_gate (R : Fin 16384) (n : Fin 2816) : val_main_v20 (F := Ideal) x w g (ix2 R n)
    = gated (val_main_v13 (F := Ideal) x w g (ix2 R ⟨n, by omega⟩)) (val_main_v13 (F := Ideal) x w g (ix2 R ⟨2816 + n, by omega⟩)) := by
  unfold gated
  rw [sigK_eq]
  unfold Gate.sig
  generalize hv : val_main_v13 (F := Ideal) x w g = v
  pointwise [val_main_v20, val_main_v19, val_main_v18, val_main_v17, val_main_v16, val_main_call0_v5, val_main_call0_v4, val_main_call0_v3, val_main_call0_v2,
    val_main_call0_v1, val_main_call0_v0, val_main_call0_cst, val_main_call0_cst_0, hv]

end Ref

theorem eq_h (R : Fin 16384) (j : Fin 1024) : H m c R j
    = Cert.Reference6Ideal.Read.val_main_v12 (F := Ideal) (m ((c : Thread nD τ).loc main_arg0)) (m ((c : Thread nD τ).loc main_arg2)) (ix2 R j) := by
  rw [ref_norm]
  unfold H
  rw [show aG m c = fun j => m ((c : Thread nD τ).loc main_arg2) (ix1 j) from funext (V_g m c),
    show aX m c R = fun j => m ((c : Thread nD τ).loc main_arg0) (ix2 R j) from funext (V_x m c R)]

theorem eq_u (R : Fin 16384) (n : Fin 5632) : U m c R n
    = Cert.Reference6Ideal.Read.val_main_v13 (F := Ideal) (m ((c : Thread nD τ).loc main_arg0)) (m ((c : Thread nD τ).loc main_arg1))
      (m ((c : Thread nD τ).loc main_arg2)) (ix2 R n) := by
  rw [ref_product]
  unfold U
  exact Finset.sum_congr rfl fun k _ => congrArg₂ (· * ·) (eq_h m c R k) (V_w m c k n)

/-- The normed rows. -/
theorem same_h : (dats m 0 c).arrAt 3 (cfgs 0).N
    = Cert.Reference6Ideal.Read.val_main_v14 (F := Ideal) (m ((c : Thread nD τ).loc main_arg0)) (m ((c : Thread nD τ).loc main_arg2)) := by
  refine (final_h m c).trans ?_
  funext y
  obtain ⟨R, j, rfl⟩ : ∃ (R : Fin 16384) (j : Fin 1024), y = ix2 R j := ⟨y 0, y 1, by funext a; match a with | ⟨0, _⟩ => rfl | ⟨1, _⟩ => rfl⟩
  exact eq_h m c R j

/-- Their product with the weight. -/
theorem same_u : (dats m 0 c).arrAt 4 (cfgs 0).N
    = Cert.Reference6Ideal.Read.val_main_v15 (F := Ideal) (m ((c : Thread nD τ).loc main_arg0)) (m ((c : Thread nD τ).loc main_arg1))
      (m ((c : Thread nD τ).loc main_arg2)) := by
  refine (final_u m c).trans ?_
  funext y
  obtain ⟨R, j, rfl⟩ : ∃ (R : Fin 16384) (j : Fin 5632), y = ix2 R j := ⟨y 0, y 1, by funext a; match a with | ⟨0, _⟩ => rfl | ⟨1, _⟩ => rfl⟩
  exact eq_u m c R j

/-- The gated values. -/
theorem same_a : (dats m 0 c).arrAt 5 (cfgs 0).N
    = Cert.Reference6Ideal.Read.val_main_v20 (F := Ideal) (m ((c : Thread nD τ).loc main_arg0)) (m ((c : Thread nD τ).loc main_arg1))
      (m ((c : Thread nD τ).loc main_arg2)) := by
  refine (final_a m c).trans ?_
  funext y
  obtain ⟨R, j, rfl⟩ : ∃ (R : Fin 16384) (j : Fin 2816), y = ix2 R j := ⟨y 0, y 1, by funext a; match a with | ⟨0, _⟩ => rfl | ⟨1, _⟩ => rfl⟩
  refine Eq.trans ?_ (ref_gate _ _ _ R j).symm
  exact congrArg₂ gated (eq_u m c R _) (eq_u m c R _)

end Cert.UpForward

end
-- ==== Proof.DownForward.lean ====
/- The forward pass of the second product, its norm and the addition to the layer's input: what one grid point leaves, the arrays
   after the last point, and the reference's results at an index, which are the same. -/
module

public import proofs.«01_k».proof.Proof.Gen.Kernel7Ideal.Value
public import proofs.«01_k».proof.Proof.Gen.Reference7Ideal.Read
public import proofs.«01_k».proof.Proof.Forward

@[expose] public section

set_option maxRecDepth 16384

noncomputable section

open Idealize.ShloMosaic Idealize.ShloMosaic.TcCoe Idealize.SL.Sem

namespace Cert.DownForward

open Cert.Kernel7Ideal Cert.Kernel7Ideal.Gen Cert.Forward Facts

/-- Point `t` is the block of rows `t`. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] :=
  (by decide +kernel : ∀ t : Fin grid0.N, _)

/-- The product of a chain, and its norm added to the chain's rows of the input. -/
theorem product (u : FVec Ideal S256x2816 .bf16) (w : FVec Ideal S2816x1024 .bf16) (r : Fin 256) (j : Fin 1024) :
    k0_pay6 (F := Ideal) u w (ix2 r j) = ∑ k : Fin 2816, u (ix2 r k) * w (ix2 k j) := by
  pointwise [k0_pay6]

theorem added (f : FVec Ideal S256x1024 .f32) (g : FVec Ideal S1x1024 .f32) (x : FVec Ideal S256x1024 .f32) (r : Fin 256) (j : Fin 1024) :
    k0_pay11 (F := Ideal) f g x (ix2 r j) = x (ix2 r j) + Forward.norm (fun k => g (ix2 0 k)) (fun k => f (ix2 r k)) j := by
  unfold Forward.norm Norm.mean
  pointwise [k0_pay11]

/-! The four chains compute the same of their rows. -/

section Chains

variable (u : FVec Ideal S256x2816 .bf16) (w : FVec Ideal S2816x1024 .bf16) (g : FVec Ideal S1x1024 .f32) (x : FVec Ideal S256x1024 .f32)

theorem product_first : k0_pay7 (F := Ideal) u w = k0_pay10 (k0_pay6 u w) := rfl
theorem product_third : k0_pay13 (F := Ideal) (k0_pay5 u) w = k0_pay10 (k0_pay6 u w) := rfl
theorem product_fourth : k0_pay2 (F := Ideal) (k0_pay12 u w) = k0_pay10 (k0_pay6 u w) := rfl
theorem added_first : k0_pay8 (F := Ideal) u w g x = k0_pay11 (k0_pay6 u w) g x := rfl
theorem added_third : k0_pay1 (F := Ideal) (k0_pay9 (k0_pay5 u) w) (k0_pay14 (k0_pay5 u) w) g x = k0_pay11 (k0_pay6 u w) g x := rfl
theorem added_fourth : k0_pay3 (F := Ideal) (k0_pay12 u w) g x = k0_pay11 (k0_pay6 u w) g x := rfl

end Chains

/-! The blocks that a point leaves. -/

section Block

variable (u : FVec Ideal S1024x2816 .bf16) (w : FVec Ideal S2816x1024 .bf16) (g : FVec Ideal S1x1024 .f32) (x : FVec Ideal S1024x1024 .f32)

/-- Row `R` of the product of a block, and the block's new rows. -/
def bF (R : Fin 1024) (j : Fin 1024) : EReal := ∑ k : Fin 2816, u (ix2 R k) * w (ix2 k j)
def bX (R : Fin 1024) (j : Fin 1024) : EReal := x (ix2 R j) + Forward.norm (fun k => g (ix2 0 k)) (bF u w R) j

theorem chain_product (o : ℕ) (inb) (r : Fin 256) (j : Fin 1024) (R : Fin 1024) (hR : (R : ℕ) = o + r) :
    k0_pay6 (F := Ideal) (View.ld (Val := Elt Ideal) u (Rect.unit (s := S1024x2816) ![o, 0] S256x2816.size inb)) (View.ld (Val := Elt Ideal) w r0_2) (ix2 r j)
      = bF u w R j := by
  rw [product]
  unfold bF
  exact Finset.sum_congr rfl fun k _ => congrArg₂ (· * ·) (ld_row (e := .bf16) u _ r k R hR) (ld_whole (e := .bf16) w _ k j)

theorem chain_added (o : ℕ) (inb) (inb') (r : Fin 256) (j : Fin 1024) (R : Fin 1024) (hR : (R : ℕ) = o + r) :
    k0_pay11 (F := Ideal)
        (k0_pay6 (F := Ideal) (View.ld (Val := Elt Ideal) u (Rect.unit (s := S1024x2816) ![o, 0] S256x2816.size inb)) (View.ld (Val := Elt Ideal) w r0_2))
        (View.ld (Val := Elt Ideal) g r0_5) (View.ld (Val := Elt Ideal) x (Rect.unit (s := S1024x1024) ![o, 0] S256x1024.size inb')) (ix2 r j)
      = bX u w g x R j := by
  rw [added]
  unfold bX
  refine congrArg₂ (· + ·) (ld_row (e := .f32) x _ r j R hR) ?_
  congr 1
  · funext k; exact ld_whole (e := .f32) g _ 0 k
  · funext k; exact chain_product u w o inb r k R hR

theorem point_product (y : S1024x1024.Idx) : out0_4 (F := Ideal) u w g x y = bF u w (y 0) (y 1) := by
  unfold out0_4
  refine View.canon_apply_of_pieces (Val := Elt Ideal) (e := .bf16) (fun y : S1024x1024.Idx => bF u w (y 0) (y 1)) _ (fun p hp z => ?_) y (cover0_4 _ _ _ _ y)
  simp only [List.mem_cons, List.not_mem_nil, or_false] at hp
  rcases hp with rfl | rfl | rfl | rfl
  · obtain ⟨r, j, rfl⟩ : ∃ (r : Fin 256) (j : Fin 1024), z = ix2 r j := ⟨z 0, z 1, by funext a; match a with | ⟨0, _⟩ => rfl | ⟨1, _⟩ => rfl⟩
    have e := emb_row (H := 1024) (N := 1024) (o := 768) (by decide) r j ⟨768 + r, by omega⟩ rfl
    refine ((congrFun (product_fourth _ _) (ix2 r j)).trans (chain_product u w 768 inb_S1024x2816_S256x2816_768_0 r j ⟨768 + r, by omega⟩ rfl)).trans ?_
    exact (congrArg (fun y : S1024x1024.Idx => bF u w (y 0) (y 1)) e).symm
  · obtain ⟨r, j, rfl⟩ : ∃ (r : Fin 256) (j : Fin 1024), z = ix2 r j := ⟨z 0, z 1, by funext a; match a with | ⟨0, _⟩ => rfl | ⟨1, _⟩ => rfl⟩
    have e := emb_row (H := 1024) (N := 1024) (o := 512) (by decide) r j ⟨512 + r, by omega⟩ rfl
    refine ((congrFun (product_third _ _) (ix2 r j)).trans (chain_product u w 512 inb_S1024x2816_S256x2816_512_0 r j ⟨512 + r, by omega⟩ rfl)).trans ?_
    exact (congrArg (fun y : S1024x1024.Idx => bF u w (y 0) (y 1)) e).symm
  · obtain ⟨r, j, rfl⟩ : ∃ (r : Fin 256) (j : Fin 1024), z = ix2 r j := ⟨z 0, z 1, by funext a; match a with | ⟨0, _⟩ => rfl | ⟨1, _⟩ => rfl⟩
    have e := emb_row (H := 1024) (N := 1024) (o := 256) (by decide) r j ⟨256 + r, by omega⟩ rfl
    refine (chain_product u w 256 inb_S1024x2816_S256x2816_256_0 r j ⟨256 + r, by omega⟩ rfl).trans ?_
    exact (congrArg (fun y : S1024x1024.Idx => bF u w (y 0) (y 1)) e).symm
  · obtain ⟨r, j, rfl⟩ : ∃ (r : Fin 256) (j : Fin 1024), z = ix2 r j := ⟨z 0, z 1, by funext a; match a with | ⟨0, _⟩ => rfl | ⟨1, _⟩ => rfl⟩
    have e := emb_row (H := 1024) (N := 1024) (o := 0) (by decide) r j ⟨0 + r, by omega⟩ rfl
    refine ((congrFun (product_first _ _) (ix2 r j)).trans (chain_product u w 0 inb_S1024x2816_S256x2816_0_0 r j ⟨0 + r, by omega⟩ rfl)).trans ?_
    exact (congrArg (fun y : S1024x1024.Idx => bF u w (y 0) (y 1)) e).symm

theorem point_added (y : S1024x1024.Idx) : out0_5 (F := Ideal) u w g x y = bX u w g x (y 0) (y 1) := by
  unfold out0_5
  refine View.canon_apply_of_pieces (Val := Elt Ideal) (e := .f32) (fun y : S1024x1024.Idx => bX u w g x (y 0) (y 1)) _ (fun p hp z => ?_) y (cover0_5 _ _ _ _ y)
  simp only [List.mem_cons, List.not_mem_nil, or_false] at hp
  rcases hp with rfl | rfl | rfl | rfl
  · obtain ⟨r, j, rfl⟩ : ∃ (r : Fin 256) (j : Fin 1024), z = ix2 r j := ⟨z 0, z 1, by funext a; match a with | ⟨0, _⟩ => rfl | ⟨1, _⟩ => rfl⟩
    have e := emb_row (H := 1024) (N := 1024) (o := 768) (by decide) r j ⟨768 + r, by omega⟩ rfl
    refine ((congrFun (added_fourth _ _ _ _) (ix2 r j)).trans (chain_added u w g x 768 inb_S1024x2816_S256x2816_768_0 inb_S1024x1024_S256x1024_768_0 r j ⟨768 + r, by omega⟩ rfl)).trans ?_
    exact (congrArg (fun y : S1024x1024.Idx => bX u w g x (y 0) (y 1)) e).symm
  · obtain ⟨r, j, rfl⟩ : ∃ (r : Fin 256) (j : Fin 1024), z = ix2 r j := ⟨z 0, z 1, by funext a; match a with | ⟨0, _⟩ => rfl | ⟨1, _⟩ => rfl⟩
    have e := emb_row (H := 1024) (N := 1024) (o := 512) (by decide) r j ⟨512 + r, by omega⟩ rfl
    refine ((congrFun (added_third _ _ _ _) (ix2 r j)).trans (chain_added u w g x 512 inb_S1024x2816_S256x2816_512_0 inb_S1024x1024_S256x1024_512_0 r j ⟨512 + r, by omega⟩ rfl)).trans ?_
    exact (congrArg (fun y : S1024x1024.Idx => bX u w g x (y 0) (y 1)) e).symm
  · obtain ⟨r, j, rfl⟩ : ∃ (r : Fin 256) (j : Fin 1024), z = ix2 r j := ⟨z 0, z 1, by funext a; match a with | ⟨0, _⟩ => rfl | ⟨1, _⟩ => rfl⟩
    have e := emb_row (H := 1024) (N := 1024) (o := 256) (by decide) r j ⟨256 + r, by omega⟩ rfl
    refine (chain_added u w g x 256 inb_S1024x2816_S256x2816_256_0 inb_S1024x1024_S256x1024_256_0 r j ⟨256 + r, by omega⟩ rfl).trans ?_
    exact (congrArg (fun y : S1024x1024.Idx => bX u w g x (y 0) (y 1)) e).symm
  · obtain ⟨r, j, rfl⟩ : ∃ (r : Fin 256) (j : Fin 1024), z = ix2 r j := ⟨z 0, z 1, by funext a; match a with | ⟨0, _⟩ => rfl | ⟨1, _⟩ => rfl⟩
    have e := emb_row (H := 1024) (N := 1024) (o := 0) (by decide) r j ⟨0 + r, by omega⟩ rfl
    refine ((congrFun (added_first _ _ _ _) (ix2 r j)).trans (chain_added u w g x 0 inb_S1024x2816_S256x2816_0_0 inb_S1024x1024_S256x1024_0_0 r j ⟨0 + r, by omega⟩ rfl)).trans ?_
    exact (congrArg (fun y : S1024x1024.Idx => bX u w g x (y 0) (y 1)) e).symm

end Block

/-! The arrays. -/

variable (m : (ℓ : Loc nD τ sig) → Buf (Elt Ideal) ℓ) (c : Dev nD)

def aU (R : Fin 16384) (k : Fin 2816) : EReal := V m c main_v4 (ix2 R k)
def aW (k : Fin 2816) (j : Fin 1024) : EReal := V m c main_v5 (ix2 k j)
def aG (j : Fin 1024) : EReal := V m c main_v6 (ix2 0 j)
def aX (R : Fin 16384) (j : Fin 1024) : EReal := V m c main_arg3 (ix2 R j)

def P (R : Fin 16384) (j : Fin 1024) : EReal := ∑ k : Fin 2816, aU m c R k * aW m c k j
def X (R : Fin 16384) (j : Fin 1024) : EReal := aX m c R j + Forward.norm (aG m c) (P m c R) j

theorem u_at (t : Fin cfg0.N) (r : Fin 1024) (k : Fin 2816) (R : Fin 16384) (hR : (R : ℕ) = t.val * 1024 + r) : iblk m c 0 t (ix2 r k) = aU m c R k := by
  unfold iblk aU
  generalize V m c = A
  blk_ext [idx t]

theorem w_at (t : Fin cfg0.N) (k : Fin 2816) (j : Fin 1024) : iblk m c 1 t (ix2 k j) = aW m c k j := by
  unfold iblk aW
  generalize V m c = A
  blk_ext [idx t]

theorem g_at (t : Fin cfg0.N) (j : Fin 1024) : iblk m c 2 t (ix2 0 j) = aG m c j := by
  unfold iblk aG
  generalize V m c = A
  blk_ext [idx t]

theorem x_at (t : Fin cfg0.N) (r : Fin 1024) (j : Fin 1024) (R : Fin 16384) (hR : (R : ℕ) = t.val * 1024 + r) : iblk m c 3 t (ix2 r j) = aX m c R j := by
  unfold iblk aX
  generalize V m c = A
  blk_ext [idx t]

theorem p_block (t : Fin cfg0.N) (r : Fin 1024) (R : Fin 16384) (hR : (R : ℕ) = t.val * 1024 + r) (j : Fin 1024) :
    bF (iblk m c 0 t) (iblk m c 1 t) r j = P m c R j := by
  unfold bF P
  exact Finset.sum_congr rfl fun k _ => congrArg₂ (· * ·) (u_at m c t r k R hR) (w_at m c t k j)

theorem x_block (t : Fin cfg0.N) (r : Fin 1024) (R : Fin 16384) (hR : (R : ℕ) = t.val * 1024 + r) (j : Fin 1024) :
    bX (iblk m c 0 t) (iblk m c 1 t) (iblk m c 2 t) (iblk m c 3 t) r j = X m c R j := by
  unfold bX X
  refine congrArg₂ (· + ·) (x_at m c t r j R hR) ?_
  congr 1
  · funext k; exact g_at m c t k
  · funext k; exact p_block m c t r R hR k

theorem final_p : (dats m 0 c).arrAt 4 (cfgs 0).N = fun y : S16384x1024.Idx => P m c (y 0) (y 1) := by
  refine (dats m 0 c).arrAt_eq_of_covers 4 _ (by decide +kernel) fun t hf y => ?_
  blk_simp
  rw [after0_4, point_product]
  refine (p_block m c t _ _ ?_ _).trans (congrArg _ (Fin.ext ?_))
  all_goals (blk_simp [idx t] <;> (try dsimp only) <;> omega)

theorem final_x : (dats m 0 c).arrAt 5 (cfgs 0).N = fun y : S16384x1024.Idx => X m c (y 0) (y 1) := by
  refine (dats m 0 c).arrAt_eq_of_covers 5 _ (by decide +kernel) fun t hf y => ?_
  blk_simp
  rw [after0_5, point_added]
  refine (x_block m c t _ _ ?_ _).trans (congrArg _ (Fin.ext ?_))
  all_goals (blk_simp [idx t] <;> (try dsimp only) <;> omega)

/-! The arguments of the launch and the reference at an index. -/

/-- The gated values that the launch takes are the reference's. -/
theorem V_u (R : Fin 16384) (k : Fin 2816) : aU m c R k = Cert.Reference7Ideal.Read.val_main_v3 (F := Ideal) (m ((c : Thread nD τ).loc main_arg0)) (ix2 R k) := by
  unfold aU V; simp only [hostOps0, hostOps0_1, hostOps0_2, List.flatten_cons, List.flatten_nil, List.append_nil, List.cons_append, List.nil_append]
  after_results
  rfl
theorem V_w (k : Fin 2816) (j : Fin 1024) : aW m c k j = m ((c : Thread nD τ).loc main_arg1) (ix2 k j) := by
  unfold aW V; simp only [hostOps0, hostOps0_1, hostOps0_2, List.flatten_cons, List.flatten_nil, List.append_nil, List.cons_append, List.nil_append]
  after_results
  rfl
theorem V_g (j : Fin 1024) : aG m c j = m ((c : Thread nD τ).loc main_arg2) (ix1 j) := by
  unfold aG V; simp only [hostOps0, hostOps0_1, hostOps0_2, List.flatten_cons, List.flatten_nil, List.append_nil, List.cons_append, List.nil_append]
  after_results
  pointwise []
theorem V_x (R : Fin 16384) (j : Fin 1024) : aX m c R j = m ((c : Thread nD τ).loc main_arg3) (ix2 R j) := congrFun (V_main_arg3 m c) _

section Ref

open Cert.Reference7Ideal.Read

variable (p : FVec Ideal S16384x5632 .f32) (w : FVec Ideal S2816x1024 .f32) (g : FVec Ideal S1024 .f32) (x : FVec Ideal S16384x1024 .f32)

theorem ref_product (R : Fin 16384) (j : Fin 1024) : val_main_v4 (F := Ideal) p w (ix2 R j)
    = ∑ k : Fin 2816, val_main_v3 (F := Ideal) p (ix2 R k) * w (ix2 k j) := by
  generalize hv : val_main_v3 (F := Ideal) p = v
  pointwise [val_main_v4, hv]

theorem ref_mean (R : Fin 16384) (z : Fin 1) : val_main_v12 (F := Ideal) p w (ix2 R z) = Norm.mean fun j => val_main_v4 (F := Ideal) p w (ix2 R j) := by
  generalize hv : val_main_v4 (F := Ideal) p w = v
  pointwise [val_main_v12, val_main_v11, val_main_v10, val_main_v9, val_main_v8, val_main_v7, val_main_v6, val_main_cst, val_main_cst_0, val_main_cst_1, Norm.mean, hv]

theorem ref_added (R : Fin 16384) (j : Fin 1024) : val_main_v19 (F := Ideal) p w g x (ix2 R j)
    = x (ix2 R j) + Forward.norm (fun k => g (ix1 k)) (fun k => val_main_v4 (F := Ideal) p w (ix2 R k)) j := by
  unfold Forward.norm
  rw [← ref_mean p w R 0]
  pointwise [val_main_v19, val_main_v18, val_main_v17, val_main_v16, val_main_v15, val_main_v14, val_main_v13]

end Ref

theorem eq_p (R : Fin 16384) (j : Fin 1024) : P m c R j
    = Cert.Reference7Ideal.Read.val_main_v4 (F := Ideal) (m ((c : Thread nD τ).loc main_arg0)) (m ((c : Thread nD τ).loc main_arg1)) (ix2 R j) := by
  rw [ref_product]
  unfold P
  exact Finset.sum_congr rfl fun k _ => congrArg₂ (· * ·) (V_u m c R k) (V_w m c k j)

/-- The product. -/
theorem same_p : (dats m 0 c).arrAt 4 (cfgs 0).N
    = Cert.Reference7Ideal.Read.val_main_v5 (F := Ideal) (m ((c : Thread nD τ).loc main_arg0)) (m ((c : Thread nD τ).loc main_arg1)) := by
  refine (final_p m c).trans ?_
  funext y
  obtain ⟨R, j, rfl⟩ : ∃ (R : Fin 16384) (j : Fin 1024), y = ix2 R j := ⟨y 0, y 1, by funext a; match a with | ⟨0, _⟩ => rfl | ⟨1, _⟩ => rfl⟩
  exact eq_p m c R j

/-- The layer's output. -/
theorem same_x : (dats m 0 c).arrAt 5 (cfgs 0).N
    = Cert.Reference7Ideal.Read.val_main_v19 (F := Ideal) (m ((c : Thread nD τ).loc main_arg0)) (m ((c : Thread nD τ).loc main_arg1))
      (m ((c : Thread nD τ).loc main_arg2)) (m ((c : Thread nD τ).loc main_arg3)) := by
  refine (final_x m c).trans ?_
  funext y
  obtain ⟨R, j, rfl⟩ : ∃ (R : Fin 16384) (j : Fin 1024), y = ix2 R j := ⟨y 0, y 1, by funext a; match a with | ⟨0, _⟩ => rfl | ⟨1, _⟩ => rfl⟩
  refine Eq.trans ?_ (ref_added _ _ _ _ R j).symm
  show aX m c R j + Forward.norm (aG m c) (P m c R) j = _
  rw [V_x, show aG m c = fun j => m ((c : Thread nD τ).loc main_arg2) (ix1 j) from funext (V_g m c),
    show P m c R = _ from funext (eq_p m c R)]

end Cert.DownForward

end
-- ==== Proof.InWeight.lean ====
/- The gradient of the input projection's weight at an index: the sum over all the tokens, which the grid points add up block by block, is the reference's. -/
module

public import proofs.«01_k».proof.Proof.Gen.Kernel8Ideal.Value
public import proofs.«01_k».proof.Proof.Gen.Reference8Ideal.Read
public import Idealize.ShloMosaic.Lib.Pipeline.ValueKit

@[expose] public section

set_option maxRecDepth 16384

noncomputable section

open Idealize.ShloMosaic Idealize.ShloMosaic.TcCoe Idealize.SL.Sem

namespace Cert.InWeight

open Cert.Kernel8Ideal Cert.Kernel8Ideal.Gen Facts

/-- Point `t` takes the block of tokens `t`. -/
theorem idx : ∀ t : Fin cfg0.N, win0_0.index t = ![t.val, 0] ∧ win0_1.index t = ![t.val, 0] ∧ win0_2.index t = ![0, 0] :=
  (by decide +kernel : ∀ t : Fin grid0.N, _)

/-- One point adds the product of its blocks over their tokens. -/
theorem step_apply (a : FVec Ideal S1024x1408 .f32) (u : FVec Ideal S2048x1024 .bf16) (v : FVec Ideal S2048x1408 .bf16) (i : Fin 1024) (j : Fin 1408) :
    k0_pay2 (F := Ideal) a u v (ix2 i j) = a (ix2 i j) + ∑ r : Fin 2048, u (ix2 r i) * v (ix2 r j) := by
  pointwise [k0_pay2]

theorem zero_apply (y : S1024x1408.Idx) : k0_pay1 (F := Ideal) y = (0 : EReal) := by
  show Ideal.ofBits .f32 0x00000000#32 = 0
  simp [Ideal.ofBits, Ideal.ieee]

variable (m : (ℓ : Loc nD τ sig) → Buf (Elt Ideal) ℓ) (c : Dev nD)

/-- The arrays that the launch takes. -/
def aH (R : Fin 16384) (i : Fin 1024) : EReal := V m c main_v13 (ix2 R i)
def aD (R : Fin 16384) (j : Fin 1408) : EReal := V m c main_v14 (ix2 R j)

/-- The term of token `R`. -/
def term (i : Fin 1024) (j : Fin 1408) (R : Fin 16384) : EReal := aH m c R i * aD m c R j

theorem h_at (t : Fin cfg0.N) (r : Fin 2048) (i : Fin 1024) (R : Fin 16384) (I : Fin 1024) (hR : (R : ℕ) = t.val * 2048 + r)
    (hI : (I : ℕ) = 0 + i) : iblk m c 0 t (ix2 r i) = aH m c R I := by
  unfold iblk aH
  generalize V m c = A
  blk_ext [idx t]

theorem d_at (t : Fin cfg0.N) (r : Fin 2048) (j : Fin 1408) (R : Fin 16384) (J : Fin 1408) (hR : (R : ℕ) = t.val * 2048 + r)
    (hJ : (J : ℕ) = 0 + j) : iblk m c 1 t (ix2 r j) = aD m c R J := by
  unfold iblk aD
  generalize V m c = A
  blk_ext [idx t]

/-- What a point adds, of its two blocks. -/
def pair (u : FVec Ideal S2048x1024 .bf16) (v : FVec Ideal S2048x1408 .bf16) (y : S1024x1408.Idx) : EReal :=
  ∑ r : Fin 2048, u (ix2 r (y 0)) * v (ix2 r (y 1))

/-- What point `t` adds. -/
def part (t : Fin cfg0.N) (y : S1024x1408.Idx) : EReal := pair (iblk m c 0 t) (iblk m c 1 t) y

theorem add_part (t : Fin cfg0.N) (a : FVec Ideal S1024x1408 .f32) (y : S1024x1408.Idx) :
    k0_pay2 (F := Ideal) a (iblk m c 0 t) (iblk m c 1 t) y = a y + part m c t y := by
  obtain ⟨i, j, rfl⟩ : ∃ (i : Fin 1024) (j : Fin 1408), y = ix2 i j := ⟨y 0, y 1, by funext a; match a with | ⟨0, _⟩ => rfl | ⟨1, _⟩ => rfl⟩
  exact step_apply a _ _ i j

theorem step_zero (t : Fin cfg0.N) (h0 : t.val % 8 = 0) (y : S1024x1408.Idx) : (outsAt0 m c t.val t.isLt y : EReal) = 0 + part m c t y := by
  rw [outsAt0_A m c t h0, Value.out_A_2_eq, add_part, zero_apply]

theorem step (t : Fin cfg0.N) (h0 : ¬t.val % 8 = 0) (y : S1024x1408.Idx) : (outsAt0 m c t.val t.isLt y : EReal)
    = outsAt0 m c (t.val - 1) (Nat.lt_of_le_of_lt (Nat.sub_le _ _) t.isLt) y + part m c t y := by
  rw [outsAt0_B m c t h0, Value.out_B_2_eq, add_part]

/-- The last point of a run holds the sum over all the tokens. -/
theorem acc (t : Fin cfg0.N) (hf : t.val % 8 = 8 - 1) (y : S1024x1408.Idx) (I : Fin 1024) (J : Fin 1408)
    (hI : (I : ℕ) = 0 + (y 0 : ℕ)) (hJ : (J : ℕ) = 0 + (y 1 : ℕ)) :
    (outsAt0 m c t.val t.isLt y : EReal) = ∑ R : Fin 16384, term m c I J R := by
  have e := Pipeline.eq_sum_fin_of_reset_step_apply_of_flush (N := cfg0.N) (M := EReal) (fun n h y => (outsAt0 m c n h y : EReal)) 8 (fun _ => 0)
    (part m c) (step_zero m c) (step m c) t hf y
  refine e.trans ?_
  rw [zero_add]
  have ht : t.val < 8 := t.isLt
  rw [← Fin.sum_mul_add_fin (L := 16384) 8 2048 (term m c I J)]
  refine Finset.sum_congr rfl fun s _ => ?_
  have hs := s.isLt
  unfold part pair
  refine Finset.sum_congr rfl fun r _ => ?_
  have hr := r.isLt
  unfold term
  have hp : 8 * (t.val / 8) + s.val = s.val := by omega
  rw [h_at m c _ r (y 0) ⟨s * 2048 + r, by omega⟩ I (congrArg (· * 2048 + r.val) hp.symm) hI,
    d_at m c _ r (y 1) ⟨s * 2048 + r, by omega⟩ J (congrArg (· * 2048 + r.val) hp.symm) hJ]

/-- The array after the last point. -/
theorem final : (dats m 0 c).arrAt 2 (cfgs 0).N = fun y : S1024x1408.Idx => ∑ R : Fin 16384, term m c (y 0) (y 1) R := by
  refine (dats m 0 c).arrAt_eq_of_covers 2 _ (by decide +kernel) fun t hf y => ?_
  have hl := (flush0_2 t).mp hf
  blk_simp
  rw [after0_2]
  refine acc m c t hl y _ _ ?_ ?_
  all_goals (blk_simp [idx t] <;> (try dsimp only) <;> omega)

/-- The reference's result at an index. -/
theorem ref_at (x : FVec Ideal S16384x1024 .f32) (g : FVec Ideal S1024 .f32) (d : FVec Ideal S16384x1408 .f32) (i : Fin 1024) (j : Fin 1408) :
    Cert.Reference8Ideal.Read.val_main_v15 (F := Ideal) x g d (ix2 i j)
      = ∑ R : Fin 16384, d (ix2 R j) * Cert.Reference8Ideal.Read.val_main_v12 (F := Ideal) x g (ix2 R i) := by
  generalize hv : Cert.Reference8Ideal.Read.val_main_v12 (F := Ideal) x g = v
  pointwise [Cert.Reference8Ideal.Read.val_main_v15, Cert.Reference8Ideal.Read.val_main_v14, hv]

/-- The normed input that the launch takes is the reference's. -/
theorem V_h (R : Fin 16384) (i : Fin 1024) : aH m c R i = Cert.Reference8Ideal.Read.val_main_v12 (F := Ideal) (m ((c : Thread nD τ).loc main_arg0)) (m ((c : Thread nD τ).loc main_arg2)) (ix2 R i) := by
  unfold aH V
  after_results
  rfl

theorem V_d (R : Fin 16384) (j : Fin 1408) : aD m c R j = m ((c : Thread nD τ).loc main_arg3) (ix2 R j) := by
  unfold aD V
  after_results
  rfl

/-- The two results are the same. -/
theorem same : (dats m 0 c).arrAt 2 (cfgs 0).N = Cert.Reference8Ideal.Read.val_main_v15 (F := Ideal) (m ((c : Thread nD τ).loc main_arg0)) (m ((c : Thread nD τ).loc main_arg2)) (m ((c : Thread nD τ).loc main_arg3)) := by
  refine (final m c).trans ?_
  funext y
  obtain ⟨i, j, rfl⟩ : ∃ (i : Fin 1024) (j : Fin 1408), y = ix2 i j := ⟨y 0, y 1, by funext a; match a with | ⟨0, _⟩ => rfl | ⟨1, _⟩ => rfl⟩
  refine Eq.trans ?_ (ref_at _ _ _ i j).symm
  exact Finset.sum_congr rfl fun R _ => by
    show aH m c R i * aD m c R j = _
    rw [V_h, V_d, mul_comm]

end Cert.InWeight

end
-- ==== Proof.OutWeight.lean ====
/- The gradient of the output projection's weight at an index: the sum over all the tokens, which the grid points add up block by block, is the reference's. -/
module

public import proofs.«01_k».proof.Proof.Gen.Kernel9Ideal.Value
public import proofs.«01_k».proof.Proof.Gen.Reference9Ideal.Read
public import Idealize.ShloMosaic.Lib.Pipeline.ValueKit

@[expose] public section

set_option maxRecDepth 16384

noncomputable section

open Idealize.ShloMosaic Idealize.ShloMosaic.TcCoe Idealize.SL.Sem

namespace Cert.OutWeight

open Cert.Kernel9Ideal Cert.Kernel9Ideal.Gen Facts

/-- Point `t` takes the block of tokens `t`. -/
theorem idx : ∀ t : Fin cfg0.N, win0_0.index t = ![t.val, 0] ∧ win0_1.index t = ![t.val, 0] ∧ win0_2.index t = ![0, 0] :=
  (by decide +kernel : ∀ t : Fin grid0.N, _)

/-- One point adds the product of its blocks over their tokens. -/
theorem step_apply (a : FVec Ideal S1024x1024 .f32) (u : FVec Ideal S2048x1024 .bf16) (v : FVec Ideal S2048x1024 .bf16) (i : Fin 1024) (j : Fin 1024) :
    k0_pay2 (F := Ideal) a u v (ix2 i j) = a (ix2 i j) + ∑ r : Fin 2048, u (ix2 r i) * v (ix2 r j) := by
  pointwise [k0_pay2]

theorem zero_apply (y : S1024x1024.Idx) : k0_pay1 (F := Ideal) y = (0 : EReal) := by
  show Ideal.ofBits .f32 0x00000000#32 = 0
  simp [Ideal.ofBits, Ideal.ieee]

variable (m : (ℓ : Loc nD τ sig) → Buf (Elt Ideal) ℓ) (c : Dev nD)

/-- The arrays that the launch takes. -/
def aH (R : Fin 16384) (i : Fin 1024) : EReal := V m c main_v0 (ix2 R i)
def aD (R : Fin 16384) (j : Fin 1024) : EReal := V m c main_v1 (ix2 R j)

/-- The term of token `R`. -/
def term (i : Fin 1024) (j : Fin 1024) (R : Fin 16384) : EReal := aH m c R i * aD m c R j

theorem h_at (t : Fin cfg0.N) (r : Fin 2048) (i : Fin 1024) (R : Fin 16384) (I : Fin 1024) (hR : (R : ℕ) = t.val * 2048 + r)
    (hI : (I : ℕ) = 0 + i) : iblk m c 0 t (ix2 r i) = aH m c R I := by
  unfold iblk aH
  generalize V m c = A
  blk_ext [idx t]

theorem d_at (t : Fin cfg0.N) (r : Fin 2048) (j : Fin 1024) (R : Fin 16384) (J : Fin 1024) (hR : (R : ℕ) = t.val * 2048 + r)
    (hJ : (J : ℕ) = 0 + j) : iblk m c 1 t (ix2 r j) = aD m c R J := by
  unfold iblk aD
  generalize V m c = A
  blk_ext [idx t]

/-- What a point adds, of its two blocks. -/
def pair (u : FVec Ideal S2048x1024 .bf16) (v : FVec Ideal S2048x1024 .bf16) (y : S1024x1024.Idx) : EReal :=
  ∑ r : Fin 2048, u (ix2 r (y 0)) * v (ix2 r (y 1))

/-- What point `t` adds. -/
def part (t : Fin cfg0.N) (y : S1024x1024.Idx) : EReal := pair (iblk m c 0 t) (iblk m c 1 t) y

theorem add_part (t : Fin cfg0.N) (a : FVec Ideal S1024x1024 .f32) (y : S1024x1024.Idx) :
    k0_pay2 (F := Ideal) a (iblk m c 0 t) (iblk m c 1 t) y = a y + part m c t y := by
  obtain ⟨i, j, rfl⟩ : ∃ (i : Fin 1024) (j : Fin 1024), y = ix2 i j := ⟨y 0, y 1, by funext a; match a with | ⟨0, _⟩ => rfl | ⟨1, _⟩ => rfl⟩
  exact step_apply a _ _ i j

theorem step_zero (t : Fin cfg0.N) (h0 : t.val % 8 = 0) (y : S1024x1024.Idx) : (outsAt0 m c t.val t.isLt y : EReal) = 0 + part m c t y := by
  rw [outsAt0_A m c t h0, Value.out_A_2_eq, add_part, zero_apply]

theorem step (t : Fin cfg0.N) (h0 : ¬t.val % 8 = 0) (y : S1024x1024.Idx) : (outsAt0 m c t.val t.isLt y : EReal)
    = outsAt0 m c (t.val - 1) (Nat.lt_of_le_of_lt (Nat.sub_le _ _) t.isLt) y + part m c t y := by
  rw [outsAt0_B m c t h0, Value.out_B_2_eq, add_part]

/-- The last point of a run holds the sum over all the tokens. -/
theorem acc (t : Fin cfg0.N) (hf : t.val % 8 = 8 - 1) (y : S1024x1024.Idx) (I : Fin 1024) (J : Fin 1024)
    (hI : (I : ℕ) = 0 + (y 0 : ℕ)) (hJ : (J : ℕ) = 0 + (y 1 : ℕ)) :
    (outsAt0 m c t.val t.isLt y : EReal) = ∑ R : Fin 16384, term m c I J R := by
  have e := Pipeline.eq_sum_fin_of_reset_step_apply_of_flush (N := cfg0.N) (M := EReal) (fun n h y => (outsAt0 m c n h y : EReal)) 8 (fun _ => 0)
    (part m c) (step_zero m c) (step m c) t hf y
  refine e.trans ?_
  rw [zero_add]
  have ht : t.val < 8 := t.isLt
  rw [← Fin.sum_mul_add_fin (L := 16384) 8 2048 (term m c I J)]
  refine Finset.sum_congr rfl fun s _ => ?_
  have hs := s.isLt
  unfold part pair
  refine Finset.sum_congr rfl fun r _ => ?_
  have hr := r.isLt
  unfold term
  have hp : 8 * (t.val / 8) + s.val = s.val := by omega
  rw [h_at m c _ r (y 0) ⟨s * 2048 + r, by omega⟩ I (congrArg (· * 2048 + r.val) hp.symm) hI,
    d_at m c _ r (y 1) ⟨s * 2048 + r, by omega⟩ J (congrArg (· * 2048 + r.val) hp.symm) hJ]

/-- The array after the last point. -/
theorem final : (dats m 0 c).arrAt 2 (cfgs 0).N = fun y : S1024x1024.Idx => ∑ R : Fin 16384, term m c (y 0) (y 1) R := by
  refine (dats m 0 c).arrAt_eq_of_covers 2 _ (by decide +kernel) fun t hf y => ?_
  have hl := (flush0_2 t).mp hf
  blk_simp
  rw [after0_2]
  refine acc m c t hl y _ _ ?_ ?_
  all_goals (blk_simp [idx t] <;> (try dsimp only) <;> omega)

/-- The reference's result at an index. -/
theorem ref_at (x d : FVec Ideal S16384x1024 .f32) (i : Fin 1024) (j : Fin 1024) :
    Cert.Reference9Ideal.Read.val_main_v2 (F := Ideal) x d (ix2 i j) = ∑ R : Fin 16384, d (ix2 R j) * x (ix2 R i) := by
  pointwise [Cert.Reference9Ideal.Read.val_main_v2, Cert.Reference9Ideal.Read.val_main_v1]

theorem V_h (R : Fin 16384) (i : Fin 1024) : aH m c R i = m ((c : Thread nD τ).loc main_arg0) (ix2 R i) := by
  unfold aH V
  after_results
  rfl

theorem V_d (R : Fin 16384) (j : Fin 1024) : aD m c R j = m ((c : Thread nD τ).loc main_arg2) (ix2 R j) := by
  unfold aD V
  after_results
  rfl

/-- The two results are the same. -/
theorem same : (dats m 0 c).arrAt 2 (cfgs 0).N = Cert.Reference9Ideal.Read.val_main_v2 (F := Ideal) (m ((c : Thread nD τ).loc main_arg0)) (m ((c : Thread nD τ).loc main_arg2)) := by
  refine (final m c).trans ?_
  funext y
  obtain ⟨i, j, rfl⟩ : ∃ (i : Fin 1024) (j : Fin 1024), y = ix2 i j := ⟨y 0, y 1, by funext a; match a with | ⟨0, _⟩ => rfl | ⟨1, _⟩ => rfl⟩
  refine Eq.trans ?_ (ref_at _ _ i j).symm
  exact Finset.sum_congr rfl fun R _ => by
    show aH m c R i * aD m c R j = _
    rw [V_h, V_d, mul_comm]

end Cert.OutWeight

end
-- ==== Proof.InForward.lean ====
/- The forward pass of the norm and the product into the mixers: what one grid point leaves, the arrays after the last point, and the
   reference's results at an index, which are the same. -/
module

public import proofs.«01_k».proof.Proof.Gen.Kernel10Ideal.Value
public import proofs.«01_k».proof.Proof.Gen.Reference10Ideal.Read
public import proofs.«01_k».proof.Proof.Forward

@[expose] public section

set_option maxRecDepth 16384

noncomputable section

open Idealize.ShloMosaic Idealize.ShloMosaic.TcCoe Idealize.SL.Sem

namespace Cert.InForward

open Cert.Kernel10Ideal Cert.Kernel10Ideal.Gen Cert.Forward Facts

/-- Point `t` is the block of rows `t`. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

theorem norm_first (x : FVec Ideal S256x1024 .f32) (g : FVec Ideal S1x1024 .f32) (r : Fin 256) (j : Fin 1024) :
    k0_pay5 (F := Ideal) x g (ix2 r j) = Forward.norm (fun k => g (ix2 0 k)) (fun k => x (ix2 r k)) j := by
  unfold Forward.norm Norm.mean
  pointwise [k0_pay5]

theorem product (h : FVec Ideal S256x1024 .bf16) (w : FVec Ideal S1024x1408 .bf16) (r : Fin 256) (n : Fin 1408) :
    k0_pay9 (F := Ideal) h w (ix2 r n) = ∑ k : Fin 1024, h (ix2 r k) * w (ix2 k n) := by
  pointwise [k0_pay9]

/-! The four chains compute the same of their rows. -/

section Chains

variable (x : FVec Ideal S256x1024 .f32) (g : FVec Ideal S1x1024 .f32) (h : FVec Ideal S256x1024 .bf16) (w : FVec Ideal S1024x1408 .bf16)

theorem norm_0 : k0_pay4 (F := Ideal) x g = k0_pay5 x g := rfl
theorem norm_512 : k0_pay8 (F := Ideal) x g = k0_pay5 x g := rfl
theorem norm_768 : k0_pay1 (F := Ideal) (k0_pay10 x g) = k0_pay5 x g := rfl
theorem product_0 : k0_pay7 (F := Ideal) (k0_pay4 x g) (k0_pay6 w) (constant (F := Ideal) S256x1408 .f32 0x00000000#32) = k0_pay9 (k0_pay5 x g) w := rfl
theorem product_512 : k0_pay2 (F := Ideal) (k0_pay8 x g) w = k0_pay9 (k0_pay5 x g) w := rfl
theorem product_768 : k0_pay3 (F := Ideal) (k0_pay10 x g) w = k0_pay9 (k0_pay5 x g) w := rfl

end Chains

/-! The blocks that a point leaves. -/

section Block

variable (x : FVec Ideal S1024x1024 .f32) (w : FVec Ideal S1024x1408 .bf16) (g : FVec Ideal S1x1024 .f32)

/-- The normed row `R` of a block, and the row of the product. -/
def bH (R : Fin 1024) (j : Fin 1024) : EReal := Forward.norm (fun k => g (ix2 0 k)) (fun k => x (ix2 R k)) j
def bU (R : Fin 1024) (n : Fin 1408) : EReal := ∑ k : Fin 1024, bH x g R k * w (ix2 k n)

theorem chain_norm (o : ℕ) (inb) (r : Fin 256) (j : Fin 1024) (R : Fin 1024) (hR : (R : ℕ) = o + r) :
    k0_pay5 (F := Ideal) (View.ld (Val := Elt Ideal) x (Rect.unit (s := S1024x1024) ![o, 0] S256x1024.size inb)) (View.ld (Val := Elt Ideal) g r0_1) (ix2 r j) = bH x g R j := by
  rw [norm_first]
  unfold bH
  congr 1
  · funext k; exact ld_whole (e := .f32) g _ 0 k
  · funext k; exact ld_row (e := .f32) x _ r k R hR

theorem chain_product (o : ℕ) (inb) (r : Fin 256) (n : Fin 1408) (R : Fin 1024) (hR : (R : ℕ) = o + r) :
    k0_pay9 (F := Ideal) (k0_pay5 (F := Ideal) (View.ld (Val := Elt Ideal) x (Rect.unit (s := S1024x1024) ![o, 0] S256x1024.size inb)) (View.ld (Val := Elt Ideal) g r0_1))
      (View.ld (Val := Elt Ideal) w r0_3) (ix2 r n) = bU x w g R n := by
  rw [product]
  unfold bU
  exact Finset.sum_congr rfl fun k _ => congrArg₂ (· * ·) (chain_norm x g o inb r k R hR) (ld_whole (e := .bf16) w _ k n)

theorem point_norm (y : S1024x1024.Idx) : out0_3 (F := Ideal) x w g y = bH x g (y 0) (y 1) := by
  unfold out0_3
  refine View.canon_apply_of_pieces (Val := Elt Ideal) (e := .bf16) (fun y : S1024x1024.Idx => bH x g (y 0) (y 1)) _ (fun p hp z => ?_) y (cover0_3 _ _ _ _ y)
  simp only [List.mem_cons, List.not_mem_nil, or_false] at hp
  rcases hp with rfl | rfl | rfl | rfl
  · obtain ⟨r, j, rfl⟩ : ∃ (r : Fin 256) (j : Fin 1024), z = ix2 r j := ⟨z 0, z 1, by funext a; match a with | ⟨0, _⟩ => rfl | ⟨1, _⟩ => rfl⟩
    have e := emb_row (H := 1024) (N := 1024) (o := 768) (by decide) r j ⟨768 + r, by omega⟩ rfl
    refine ((congrFun (norm_768 _ _) (ix2 r j)).trans (chain_norm x g 768 inb_S1024x1024_S256x1024_768_0 r j ⟨768 + r, by omega⟩ rfl)).trans ?_
    exact (congrArg (fun y : S1024x1024.Idx => bH x g (y 0) (y 1)) e).symm
  · obtain ⟨r, j, rfl⟩ : ∃ (r : Fin 256) (j : Fin 1024), z = ix2 r j := ⟨z 0, z 1, by funext a; match a with | ⟨0, _⟩ => rfl | ⟨1, _⟩ => rfl⟩
    have e := emb_row (H := 1024) (N := 1024) (o := 512) (by decide) r j ⟨512 + r, by omega⟩ rfl
    refine ((congrFun (norm_512 _ _) (ix2 r j)).trans (chain_norm x g 512 inb_S1024x1024_S256x1024_512_0 r j ⟨512 + r, by omega⟩ rfl)).trans ?_
    exact (congrArg (fun y : S1024x1024.Idx => bH x g (y 0) (y 1)) e).symm
  · obtain ⟨r, j, rfl⟩ : ∃ (r : Fin 256) (j : Fin 1024), z = ix2 r j := ⟨z 0, z 1, by funext a; match a with | ⟨0, _⟩ => rfl | ⟨1, _⟩ => rfl⟩
    have e := emb_row (H := 1024) (N := 1024) (o := 256) (by decide) r j ⟨256 + r, by omega⟩ rfl
    refine (chain_norm x g 256 inb_S1024x1024_S256x1024_256_0 r j ⟨256 + r, by omega⟩ rfl).trans ?_
    exact (congrArg (fun y : S1024x1024.Idx => bH x g (y 0) (y 1)) e).symm
  · obtain ⟨r, j, rfl⟩ : ∃ (r : Fin 256) (j : Fin 1024), z = ix2 r j := ⟨z 0, z 1, by funext a; match a with | ⟨0, _⟩ => rfl | ⟨1, _⟩ => rfl⟩
    have e := emb_row (H := 1024) (N := 1024) (o := 0) (by decide) r j ⟨0 + r, by omega⟩ rfl
    refine ((congrFun (norm_0 _ _) (ix2 r j)).trans (chain_norm x g 0 inb_S1024x1024_S256x1024_0_0 r j ⟨0 + r, by omega⟩ rfl)).trans ?_
    exact (congrArg (fun y : S1024x1024.Idx => bH x g (y 0) (y 1)) e).symm

theorem point_product (y : S1024x1408.Idx) : out0_4 (F := Ideal) x w g y = bU x w g (y 0) (y 1) := by
  unfold out0_4
  refine View.canon_apply_of_pieces (Val := Elt Ideal) (e := .f32) (fun y : S1024x1408.Idx => bU x w g (y 0) (y 1)) _ (fun p hp z => ?_) y (cover0_4 _ _ _ _ y)
  simp only [List.mem_cons, List.not_mem_nil, or_false] at hp
  rcases hp with rfl | rfl | rfl | rfl
  · obtain ⟨r, j, rfl⟩ : ∃ (r : Fin 256) (j : Fin 1408), z = ix2 r j := ⟨z 0, z 1, by funext a; match a with | ⟨0, _⟩ => rfl | ⟨1, _⟩ => rfl⟩
    have e := emb_row (H := 1024) (N := 1408) (o := 768) (by decide) r j ⟨768 + r, by omega⟩ rfl
    refine ((congrFun (product_768 _ _ _) (ix2 r j)).trans (chain_product x w g 768 inb_S1024x1024_S256x1024_768_0 r j ⟨768 + r, by omega⟩ rfl)).trans ?_
    exact (congrArg (fun y : S1024x1408.Idx => bU x w g (y 0) (y 1)) e).symm
  · obtain ⟨r, j, rfl⟩ : ∃ (r : Fin 256) (j : Fin 1408), z = ix2 r j := ⟨z 0, z 1, by funext a; match a with | ⟨0, _⟩ => rfl | ⟨1, _⟩ => rfl⟩
    have e := emb_row (H := 1024) (N := 1408) (o := 512) (by decide) r j ⟨512 + r, by omega⟩ rfl
    refine ((congrFun (product_512 _ _ _) (ix2 r j)).trans (chain_product x w g 512 inb_S1024x1024_S256x1024_512_0 r j ⟨512 + r, by omega⟩ rfl)).trans ?_
    exact (congrArg (fun y : S1024x1408.Idx => bU x w g (y 0) (y 1)) e).symm
  · obtain ⟨r, j, rfl⟩ : ∃ (r : Fin 256) (j : Fin 1408), z = ix2 r j := ⟨z 0, z 1, by funext a; match a with | ⟨0, _⟩ => rfl | ⟨1, _⟩ => rfl⟩
    have e := emb_row (H := 1024) (N := 1408) (o := 256) (by decide) r j ⟨256 + r, by omega⟩ rfl
    refine (chain_product x w g 256 inb_S1024x1024_S256x1024_256_0 r j ⟨256 + r, by omega⟩ rfl).trans ?_
    exact (congrArg (fun y : S1024x1408.Idx => bU x w g (y 0) (y 1)) e).symm
  · obtain ⟨r, j, rfl⟩ : ∃ (r : Fin 256) (j : Fin 1408), z = ix2 r j := ⟨z 0, z 1, by funext a; match a with | ⟨0, _⟩ => rfl | ⟨1, _⟩ => rfl⟩
    have e := emb_row (H := 1024) (N := 1408) (o := 0) (by decide) r j ⟨0 + r, by omega⟩ rfl
    refine ((congrFun (product_0 _ _ _) (ix2 r j)).trans (chain_product x w g 0 inb_S1024x1024_S256x1024_0_0 r j ⟨0 + r, by omega⟩ rfl)).trans ?_
    exact (congrArg (fun y : S1024x1408.Idx => bU x w g (y 0) (y 1)) e).symm

end Block

/-! The arrays. -/

variable (m : (ℓ : Loc nD τ sig) → Buf (Elt Ideal) ℓ) (c : Dev nD)

def aX (R : Fin 16384) (j : Fin 1024) : EReal := V m c main_arg0 (ix2 R j)
def aW (k : Fin 1024) (n : Fin 1408) : EReal := V m c main_v0 (ix2 k n)
def aG (j : Fin 1024) : EReal := V m c main_v1 (ix2 0 j)

def H (R : Fin 16384) (j : Fin 1024) : EReal := Forward.norm (aG m c) (aX m c R) j
def U (R : Fin 16384) (n : Fin 1408) : EReal := ∑ k : Fin 1024, H m c R k * aW m c k n
theorem x_at (t : Fin cfg0.N) (r : Fin 1024) (k : Fin 1024) (R : Fin 16384) (hR : (R : ℕ) = t.val * 1024 + r) : iblk m c 0 t (ix2 r k) = aX m c R k := by
  unfold iblk aX
  generalize V m c = A
  blk_ext [idx t]

theorem w_at (t : Fin cfg0.N) (k : Fin 1024) (n : Fin 1408) : iblk m c 1 t (ix2 k n) = aW m c k n := by
  unfold iblk aW
  generalize V m c = A
  blk_ext [idx t]

theorem g_at (t : Fin cfg0.N) (j : Fin 1024) : iblk m c 2 t (ix2 0 j) = aG m c j := by
  unfold iblk aG
  generalize V m c = A
  blk_ext [idx t]

theorem h_block (t : Fin cfg0.N) (r : Fin 1024) (R : Fin 16384) (hR : (R : ℕ) = t.val * 1024 + r) (j : Fin 1024) :
    bH (iblk m c 0 t) (iblk m c 2 t) r j = H m c R j := by
  unfold bH H
  simp only [x_at m c t r _ R hR, g_at m c t]

theorem u_block (t : Fin cfg0.N) (r : Fin 1024) (R : Fin 16384) (hR : (R : ℕ) = t.val * 1024 + r) (n : Fin 1408) :
    bU (iblk m c 0 t) (iblk m c 1 t) (iblk m c 2 t) r n = U m c R n := by
  unfold bU U
  exact Finset.sum_congr rfl fun k _ => congrArg₂ (· * ·) (h_block m c t r R hR k) (w_at m c t k n)

theorem final_h : (dats m 0 c).arrAt 3 (cfgs 0).N = fun y : S16384x1024.Idx => H m c (y 0) (y 1) := by
  refine (dats m 0 c).arrAt_eq_of_covers 3 _ (by decide +kernel) fun t hf y => ?_
  blk_simp
  rw [after0_3, point_norm]
  refine (h_block m c t _ _ ?_ _).trans (congrArg _ (Fin.ext ?_))
  all_goals (blk_simp [idx t] <;> (try dsimp only) <;> omega)

theorem final_u : (dats m 0 c).arrAt 4 (cfgs 0).N = fun y : S16384x1408.Idx => U m c (y 0) (y 1) := by
  refine (dats m 0 c).arrAt_eq_of_covers 4 _ (by decide +kernel) fun t hf y => ?_
  blk_simp
  rw [after0_4, point_product]
  refine (u_block m c t _ _ ?_ _).trans (congrArg _ (Fin.ext ?_))
  all_goals (blk_simp [idx t] <;> (try dsimp only) <;> omega)

/-! The arguments of the launch and the reference at an index. -/

theorem V_x (R : Fin 16384) (j : Fin 1024) : aX m c R j = m ((c : Thread nD τ).loc main_arg0) (ix2 R j) := by
  unfold aX V; after_results
theorem V_w (k : Fin 1024) (n : Fin 1408) : aW m c k n = m ((c : Thread nD τ).loc main_arg1) (ix2 k n) := by
  unfold aW V; after_results; pointwise []
theorem V_g (j : Fin 1024) : aG m c j = m ((c : Thread nD τ).loc main_arg2) (ix1 j) := by
  unfold aG V; after_results; pointwise []

section Ref

open Cert.Reference10Ideal.Read

variable (x : FVec Ideal S16384x1024 .f32) (w : FVec Ideal S1024x1408 .f32) (g : FVec Ideal S1024 .f32)

theorem ref_mean (R : Fin 16384) (z : Fin 1) : val_main_v6 (F := Ideal) x (ix2 R z) = Norm.mean fun j => x (ix2 R j) := by
  pointwise [val_main_v6, val_main_v5, val_main_v4, val_main_v3, val_main_v2, val_main_v1, val_main_v0, val_main_cst, val_main_cst_0, val_main_cst_1, Norm.mean]

theorem ref_norm (R : Fin 16384) (j : Fin 1024) : val_main_v12 (F := Ideal) x g (ix2 R j) = Forward.norm (fun k => g (ix1 k)) (fun k => x (ix2 R k)) j := by
  unfold Forward.norm
  rw [← ref_mean x R 0]
  pointwise [val_main_v12, val_main_v11, val_main_v10, val_main_v9, val_main_v8, val_main_v7]

theorem ref_product (R : Fin 16384) (n : Fin 1408) : val_main_v14 (F := Ideal) x w g (ix2 R n)
    = ∑ k : Fin 1024, val_main_v12 (F := Ideal) x g (ix2 R k) * w (ix2 k n) := by
  generalize hv : val_main_v12 (F := Ideal) x g = v
  pointwise [val_main_v14, hv]

end Ref

theorem eq_h (R : Fin 16384) (j : Fin 1024) : H m c R j
    = Cert.Reference10Ideal.Read.val_main_v12 (F := Ideal) (m ((c : Thread nD τ).loc main_arg0)) (m ((c : Thread nD τ).loc main_arg2)) (ix2 R j) := by
  rw [ref_norm]
  unfold H
  rw [show aG m c = fun j => m ((c : Thread nD τ).loc main_arg2) (ix1 j) from funext (V_g m c),
    show aX m c R = fun j => m ((c : Thread nD τ).loc main_arg0) (ix2 R j) from funext (V_x m c R)]

theorem eq_u (R : Fin 16384) (n : Fin 1408) : U m c R n
    = Cert.Reference10Ideal.Read.val_main_v14 (F := Ideal) (m ((c : Thread nD τ).loc main_arg0)) (m ((c : Thread nD τ).loc main_arg1))
      (m ((c : Thread nD τ).loc main_arg2)) (ix2 R n) := by
  rw [ref_product]
  unfold U
  exact Finset.sum_congr rfl fun k _ => congrArg₂ (· * ·) (eq_h m c R k) (V_w m c k n)

/-- The normed rows. -/
theorem same_h : (dats m 0 c).arrAt 3 (cfgs 0).N
    = Cert.Reference10Ideal.Read.val_main_v13 (F := Ideal) (m ((c : Thread nD τ).loc main_arg0)) (m ((c : Thread nD τ).loc main_arg2)) := by
  refine (final_h m c).trans ?_
  funext y
  obtain ⟨R, j, rfl⟩ : ∃ (R : Fin 16384) (j : Fin 1024), y = ix2 R j := ⟨y 0, y 1, by funext a; match a with | ⟨0, _⟩ => rfl | ⟨1, _⟩ => rfl⟩
  exact eq_h m c R j

/-- Their product with the weight. -/
theorem same_u : (dats m 0 c).arrAt 4 (cfgs 0).N
    = Cert.Reference10Ideal.Read.val_main_v14 (F := Ideal) (m ((c : Thread nD τ).loc main_arg0)) (m ((c : Thread nD τ).loc main_arg1))
      (m ((c : Thread nD τ).loc main_arg2)) := by
  refine (final_u m c).trans ?_
  funext y
  obtain ⟨R, j, rfl⟩ : ∃ (R : Fin 16384) (j : Fin 1408), y = ix2 R j := ⟨y 0, y 1, by funext a; match a with | ⟨0, _⟩ => rfl | ⟨1, _⟩ => rfl⟩
  exact eq_u m c R j

end Cert.InForward

end
-- ==== Proof.OutForward.lean ====
/- The forward pass of the mixers' output product, its norm and the addition to the layer's input: what one grid point leaves, the arrays
   after the last point, and the reference's results at an index, which are the same. -/
module

public import proofs.«01_k».proof.Proof.Gen.Kernel11Ideal.Value
public import proofs.«01_k».proof.Proof.Gen.Reference11Ideal.Read
public import proofs.«01_k».proof.Proof.Forward

@[expose] public section

set_option maxRecDepth 16384

noncomputable section

open Idealize.ShloMosaic Idealize.ShloMosaic.TcCoe Idealize.SL.Sem

namespace Cert.OutForward

open Cert.Kernel11Ideal Cert.Kernel11Ideal.Gen Cert.Forward Facts

/-- Point `t` is the block of rows `t`. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] :=
  (by decide +kernel : ∀ t : Fin grid0.N, _)

/-- The product of a chain, and its norm added to the chain's rows of the input. -/
theorem product (u : FVec Ideal S256x1024 .bf16) (w : FVec Ideal S1024x1024 .bf16) (r : Fin 256) (j : Fin 1024) :
    k0_pay6 (F := Ideal) u w (ix2 r j) = ∑ k : Fin 1024, u (ix2 r k) * w (ix2 k j) := by
  pointwise [k0_pay6]

theorem added (f : FVec Ideal S256x1024 .f32) (g : FVec Ideal S1x1024 .f32) (x : FVec Ideal S256x1024 .f32) (r : Fin 256) (j : Fin 1024) :
    k0_pay11 (F := Ideal) f g x (ix2 r j) = x (ix2 r j) + Forward.norm (fun k => g (ix2 0 k)) (fun k => f (ix2 r k)) j := by
  unfold Forward.norm Norm.mean
  pointwise [k0_pay11]

/-! The four chains compute the same of their rows. -/

section Chains

variable (u : FVec Ideal S256x1024 .bf16) (w : FVec Ideal S1024x1024 .bf16) (g : FVec Ideal S1x1024 .f32) (x : FVec Ideal S256x1024 .f32)

theorem product_first : k0_pay7 (F := Ideal) u w = k0_pay10 (k0_pay6 u w) := rfl
theorem product_third : k0_pay13 (F := Ideal) (k0_pay5 u) w = k0_pay10 (k0_pay6 u w) := rfl
theorem product_fourth : k0_pay2 (F := Ideal) (k0_pay12 u w) = k0_pay10 (k0_pay6 u w) := rfl
theorem added_first : k0_pay8 (F := Ideal) u w g x = k0_pay11 (k0_pay6 u w) g x := rfl
theorem added_third : k0_pay1 (F := Ideal) (k0_pay9 (k0_pay5 u) w) (k0_pay14 (k0_pay5 u) w) g x = k0_pay11 (k0_pay6 u w) g x := rfl
theorem added_fourth : k0_pay3 (F := Ideal) (k0_pay12 u w) g x = k0_pay11 (k0_pay6 u w) g x := rfl

end Chains

/-! The blocks that a point leaves. -/

section Block

variable (u : FVec Ideal S1024x1024 .bf16) (w : FVec Ideal S1024x1024 .bf16) (g : FVec Ideal S1x1024 .f32) (x : FVec Ideal S1024x1024 .f32)

/-- Row `R` of the product of a block, and the block's new rows. -/
def bF (R : Fin 1024) (j : Fin 1024) : EReal := ∑ k : Fin 1024, u (ix2 R k) * w (ix2 k j)
def bX (R : Fin 1024) (j : Fin 1024) : EReal := x (ix2 R j) + Forward.norm (fun k => g (ix2 0 k)) (bF u w R) j

theorem chain_product (o : ℕ) (inb) (r : Fin 256) (j : Fin 1024) (R : Fin 1024) (hR : (R : ℕ) = o + r) :
    k0_pay6 (F := Ideal) (View.ld (Val := Elt Ideal) u (Rect.unit (s := S1024x1024) ![o, 0] S256x1024.size inb)) (View.ld (Val := Elt Ideal) w r0_2) (ix2 r j)
      = bF u w R j := by
  rw [product]
  unfold bF
  exact Finset.sum_congr rfl fun k _ => congrArg₂ (· * ·) (ld_row (e := .bf16) u _ r k R hR) (ld_whole (e := .bf16) w _ k j)

theorem chain_added (o : ℕ) (inb) (inb') (r : Fin 256) (j : Fin 1024) (R : Fin 1024) (hR : (R : ℕ) = o + r) :
    k0_pay11 (F := Ideal)
        (k0_pay6 (F := Ideal) (View.ld (Val := Elt Ideal) u (Rect.unit (s := S1024x1024) ![o, 0] S256x1024.size inb)) (View.ld (Val := Elt Ideal) w r0_2))
        (View.ld (Val := Elt Ideal) g r0_4) (View.ld (Val := Elt Ideal) x (Rect.unit (s := S1024x1024) ![o, 0] S256x1024.size inb')) (ix2 r j)
      = bX u w g x R j := by
  rw [added]
  unfold bX
  refine congrArg₂ (· + ·) (ld_row (e := .f32) x _ r j R hR) ?_
  congr 1
  · funext k; exact ld_whole (e := .f32) g _ 0 k
  · funext k; exact chain_product u w o inb r k R hR

theorem point_product (y : S1024x1024.Idx) : out0_4 (F := Ideal) u w g x y = bF u w (y 0) (y 1) := by
  unfold out0_4
  refine View.canon_apply_of_pieces (Val := Elt Ideal) (e := .bf16) (fun y : S1024x1024.Idx => bF u w (y 0) (y 1)) _ (fun p hp z => ?_) y (cover0_4 _ _ _ _ y)
  simp only [List.mem_cons, List.not_mem_nil, or_false] at hp
  rcases hp with rfl | rfl | rfl | rfl
  · obtain ⟨r, j, rfl⟩ : ∃ (r : Fin 256) (j : Fin 1024), z = ix2 r j := ⟨z 0, z 1, by funext a; match a with | ⟨0, _⟩ => rfl | ⟨1, _⟩ => rfl⟩
    have e := emb_row (H := 1024) (N := 1024) (o := 768) (by decide) r j ⟨768 + r, by omega⟩ rfl
    refine ((congrFun (product_fourth _ _) (ix2 r j)).trans (chain_product u w 768 inb_S1024x1024_S256x1024_768_0 r j ⟨768 + r, by omega⟩ rfl)).trans ?_
    exact (congrArg (fun y : S1024x1024.Idx => bF u w (y 0) (y 1)) e).symm
  · obtain ⟨r, j, rfl⟩ : ∃ (r : Fin 256) (j : Fin 1024), z = ix2 r j := ⟨z 0, z 1, by funext a; match a with | ⟨0, _⟩ => rfl | ⟨1, _⟩ => rfl⟩
    have e := emb_row (H := 1024) (N := 1024) (o := 512) (by decide) r j ⟨512 + r, by omega⟩ rfl
    refine ((congrFun (product_third _ _) (ix2 r j)).trans (chain_product u w 512 inb_S1024x1024_S256x1024_512_0 r j ⟨512 + r, by omega⟩ rfl)).trans ?_
    exact (congrArg (fun y : S1024x1024.Idx => bF u w (y 0) (y 1)) e).symm
  · obtain ⟨r, j, rfl⟩ : ∃ (r : Fin 256) (j : Fin 1024), z = ix2 r j := ⟨z 0, z 1, by funext a; match a with | ⟨0, _⟩ => rfl | ⟨1, _⟩ => rfl⟩
    have e := emb_row (H := 1024) (N := 1024) (o := 256) (by decide) r j ⟨256 + r, by omega⟩ rfl
    refine (chain_product u w 256 inb_S1024x1024_S256x1024_256_0 r j ⟨256 + r, by omega⟩ rfl).trans ?_
    exact (congrArg (fun y : S1024x1024.Idx => bF u w (y 0) (y 1)) e).symm
  · obtain ⟨r, j, rfl⟩ : ∃ (r : Fin 256) (j : Fin 1024), z = ix2 r j := ⟨z 0, z 1, by funext a; match a with | ⟨0, _⟩ => rfl | ⟨1, _⟩ => rfl⟩
    have e := emb_row (H := 1024) (N := 1024) (o := 0) (by decide) r j ⟨0 + r, by omega⟩ rfl
    refine ((congrFun (product_first _ _) (ix2 r j)).trans (chain_product u w 0 inb_S1024x1024_S256x1024_0_0 r j ⟨0 + r, by omega⟩ rfl)).trans ?_
    exact (congrArg (fun y : S1024x1024.Idx => bF u w (y 0) (y 1)) e).symm

theorem point_added (y : S1024x1024.Idx) : out0_5 (F := Ideal) u w g x y = bX u w g x (y 0) (y 1) := by
  unfold out0_5
  refine View.canon_apply_of_pieces (Val := Elt Ideal) (e := .f32) (fun y : S1024x1024.Idx => bX u w g x (y 0) (y 1)) _ (fun p hp z => ?_) y (cover0_5 _ _ _ _ y)
  simp only [List.mem_cons, List.not_mem_nil, or_false] at hp
  rcases hp with rfl | rfl | rfl | rfl
  · obtain ⟨r, j, rfl⟩ : ∃ (r : Fin 256) (j : Fin 1024), z = ix2 r j := ⟨z 0, z 1, by funext a; match a with | ⟨0, _⟩ => rfl | ⟨1, _⟩ => rfl⟩
    have e := emb_row (H := 1024) (N := 1024) (o := 768) (by decide) r j ⟨768 + r, by omega⟩ rfl
    refine ((congrFun (added_fourth _ _ _ _) (ix2 r j)).trans (chain_added u w g x 768 inb_S1024x1024_S256x1024_768_0 inb_S1024x1024_S256x1024_768_0 r j ⟨768 + r, by omega⟩ rfl)).trans ?_
    exact (congrArg (fun y : S1024x1024.Idx => bX u w g x (y 0) (y 1)) e).symm
  · obtain ⟨r, j, rfl⟩ : ∃ (r : Fin 256) (j : Fin 1024), z = ix2 r j := ⟨z 0, z 1, by funext a; match a with | ⟨0, _⟩ => rfl | ⟨1, _⟩ => rfl⟩
    have e := emb_row (H := 1024) (N := 1024) (o := 512) (by decide) r j ⟨512 + r, by omega⟩ rfl
    refine ((congrFun (added_third _ _ _ _) (ix2 r j)).trans (chain_added u w g x 512 inb_S1024x1024_S256x1024_512_0 inb_S1024x1024_S256x1024_512_0 r j ⟨512 + r, by omega⟩ rfl)).trans ?_
    exact (congrArg (fun y : S1024x1024.Idx => bX u w g x (y 0) (y 1)) e).symm
  · obtain ⟨r, j, rfl⟩ : ∃ (r : Fin 256) (j : Fin 1024), z = ix2 r j := ⟨z 0, z 1, by funext a; match a with | ⟨0, _⟩ => rfl | ⟨1, _⟩ => rfl⟩
    have e := emb_row (H := 1024) (N := 1024) (o := 256) (by decide) r j ⟨256 + r, by omega⟩ rfl
    refine (chain_added u w g x 256 inb_S1024x1024_S256x1024_256_0 inb_S1024x1024_S256x1024_256_0 r j ⟨256 + r, by omega⟩ rfl).trans ?_
    exact (congrArg (fun y : S1024x1024.Idx => bX u w g x (y 0) (y 1)) e).symm
  · obtain ⟨r, j, rfl⟩ : ∃ (r : Fin 256) (j : Fin 1024), z = ix2 r j := ⟨z 0, z 1, by funext a; match a with | ⟨0, _⟩ => rfl | ⟨1, _⟩ => rfl⟩
    have e := emb_row (H := 1024) (N := 1024) (o := 0) (by decide) r j ⟨0 + r, by omega⟩ rfl
    refine ((congrFun (added_first _ _ _ _) (ix2 r j)).trans (chain_added u w g x 0 inb_S1024x1024_S256x1024_0_0 inb_S1024x1024_S256x1024_0_0 r j ⟨0 + r, by omega⟩ rfl)).trans ?_
    exact (congrArg (fun y : S1024x1024.Idx => bX u w g x (y 0) (y 1)) e).symm

end Block

/-! The arrays. -/

variable (m : (ℓ : Loc nD τ sig) → Buf (Elt Ideal) ℓ) (c : Dev nD)

def aU (R : Fin 16384) (k : Fin 1024) : EReal := V m c main_v0 (ix2 R k)
def aW (k : Fin 1024) (j : Fin 1024) : EReal := V m c main_v1 (ix2 k j)
def aG (j : Fin 1024) : EReal := V m c main_v2 (ix2 0 j)
def aX (R : Fin 16384) (j : Fin 1024) : EReal := V m c main_arg3 (ix2 R j)

def P (R : Fin 16384) (j : Fin 1024) : EReal := ∑ k : Fin 1024, aU m c R k * aW m c k j
def X (R : Fin 16384) (j : Fin 1024) : EReal := aX m c R j + Forward.norm (aG m c) (P m c R) j

theorem u_at (t : Fin cfg0.N) (r : Fin 1024) (k : Fin 1024) (R : Fin 16384) (hR : (R : ℕ) = t.val * 1024 + r) : iblk m c 0 t (ix2 r k) = aU m c R k := by
  unfold iblk aU
  generalize V m c = A
  blk_ext [idx t]

theorem w_at (t : Fin cfg0.N) (k : Fin 1024) (j : Fin 1024) : iblk m c 1 t (ix2 k j) = aW m c k j := by
  unfold iblk aW
  generalize V m c = A
  blk_ext [idx t]

theorem g_at (t : Fin cfg0.N) (j : Fin 1024) : iblk m c 2 t (ix2 0 j) = aG m c j := by
  unfold iblk aG
  generalize V m c = A
  blk_ext [idx t]

theorem x_at (t : Fin cfg0.N) (r : Fin 1024) (j : Fin 1024) (R : Fin 16384) (hR : (R : ℕ) = t.val * 1024 + r) : iblk m c 3 t (ix2 r j) = aX m c R j := by
  unfold iblk aX
  generalize V m c = A
  blk_ext [idx t]

theorem p_block (t : Fin cfg0.N) (r : Fin 1024) (R : Fin 16384) (hR : (R : ℕ) = t.val * 1024 + r) (j : Fin 1024) :
    bF (iblk m c 0 t) (iblk m c 1 t) r j = P m c R j := by
  unfold bF P
  exact Finset.sum_congr rfl fun k _ => congrArg₂ (· * ·) (u_at m c t r k R hR) (w_at m c t k j)

theorem x_block (t : Fin cfg0.N) (r : Fin 1024) (R : Fin 16384) (hR : (R : ℕ) = t.val * 1024 + r) (j : Fin 1024) :
    bX (iblk m c 0 t) (iblk m c 1 t) (iblk m c 2 t) (iblk m c 3 t) r j = X m c R j := by
  unfold bX X
  refine congrArg₂ (· + ·) (x_at m c t r j R hR) ?_
  congr 1
  · funext k; exact g_at m c t k
  · funext k; exact p_block m c t r R hR k

theorem final_p : (dats m 0 c).arrAt 4 (cfgs 0).N = fun y : S16384x1024.Idx => P m c (y 0) (y 1) := by
  refine (dats m 0 c).arrAt_eq_of_covers 4 _ (by decide +kernel) fun t hf y => ?_
  blk_simp
  rw [after0_4, point_product]
  refine (p_block m c t _ _ ?_ _).trans (congrArg _ (Fin.ext ?_))
  all_goals (blk_simp [idx t] <;> (try dsimp only) <;> omega)

theorem final_x : (dats m 0 c).arrAt 5 (cfgs 0).N = fun y : S16384x1024.Idx => X m c (y 0) (y 1) := by
  refine (dats m 0 c).arrAt_eq_of_covers 5 _ (by decide +kernel) fun t hf y => ?_
  blk_simp
  rw [after0_5, point_added]
  refine (x_block m c t _ _ ?_ _).trans (congrArg _ (Fin.ext ?_))
  all_goals (blk_simp [idx t] <;> (try dsimp only) <;> omega)

/-! The arguments of the launch and the reference at an index. -/

theorem V_u (R : Fin 16384) (k : Fin 1024) : aU m c R k = m ((c : Thread nD τ).loc main_arg0) (ix2 R k) := by
  unfold aU V; after_results; pointwise []
theorem V_w (k : Fin 1024) (j : Fin 1024) : aW m c k j = m ((c : Thread nD τ).loc main_arg1) (ix2 k j) := by
  unfold aW V; after_results; pointwise []
theorem V_g (j : Fin 1024) : aG m c j = m ((c : Thread nD τ).loc main_arg2) (ix1 j) := by
  unfold aG V; after_results; pointwise []
theorem V_x (R : Fin 16384) (j : Fin 1024) : aX m c R j = m ((c : Thread nD τ).loc main_arg3) (ix2 R j) := congrFun (V_main_arg3 m c) _

section Ref

open Cert.Reference11Ideal.Read

variable (p : FVec Ideal S16384x1024 .f32) (w : FVec Ideal S1024x1024 .f32) (g : FVec Ideal S1024 .f32) (x : FVec Ideal S16384x1024 .f32)

theorem ref_product (R : Fin 16384) (j : Fin 1024) : val_main_v0 (F := Ideal) p w (ix2 R j) = ∑ k : Fin 1024, p (ix2 R k) * w (ix2 k j) := by
  pointwise [val_main_v0]

theorem ref_mean (R : Fin 16384) (z : Fin 1) : val_main_v8 (F := Ideal) p w (ix2 R z) = Norm.mean fun j => val_main_v0 (F := Ideal) p w (ix2 R j) := by
  generalize hv : val_main_v0 (F := Ideal) p w = v
  pointwise [val_main_v8, val_main_v7, val_main_v6, val_main_v5, val_main_v4, val_main_v3, val_main_v2, val_main_cst, val_main_cst_0, val_main_cst_1, Norm.mean, hv]

theorem ref_added (R : Fin 16384) (j : Fin 1024) : val_main_v15 (F := Ideal) p w g x (ix2 R j)
    = x (ix2 R j) + Forward.norm (fun k => g (ix1 k)) (fun k => val_main_v0 (F := Ideal) p w (ix2 R k)) j := by
  unfold Forward.norm
  rw [← ref_mean p w R 0]
  pointwise [val_main_v15, val_main_v14, val_main_v13, val_main_v12, val_main_v11, val_main_v10, val_main_v9]

end Ref

theorem eq_p (R : Fin 16384) (j : Fin 1024) : P m c R j
    = Cert.Reference11Ideal.Read.val_main_v0 (F := Ideal) (m ((c : Thread nD τ).loc main_arg0)) (m ((c : Thread nD τ).loc main_arg1)) (ix2 R j) := by
  rw [ref_product]
  unfold P
  exact Finset.sum_congr rfl fun k _ => congrArg₂ (· * ·) (V_u m c R k) (V_w m c k j)

/-- The product. -/
theorem same_p : (dats m 0 c).arrAt 4 (cfgs 0).N
    = Cert.Reference11Ideal.Read.val_main_v1 (F := Ideal) (m ((c : Thread nD τ).loc main_arg0)) (m ((c : Thread nD τ).loc main_arg1)) := by
  refine (final_p m c).trans ?_
  funext y
  obtain ⟨R, j, rfl⟩ : ∃ (R : Fin 16384) (j : Fin 1024), y = ix2 R j := ⟨y 0, y 1, by funext a; match a with | ⟨0, _⟩ => rfl | ⟨1, _⟩ => rfl⟩
  exact eq_p m c R j

/-- The layer's output. -/
theorem same_x : (dats m 0 c).arrAt 5 (cfgs 0).N
    = Cert.Reference11Ideal.Read.val_main_v15 (F := Ideal) (m ((c : Thread nD τ).loc main_arg0)) (m ((c : Thread nD τ).loc main_arg1))
      (m ((c : Thread nD τ).loc main_arg2)) (m ((c : Thread nD τ).loc main_arg3)) := by
  refine (final_x m c).trans ?_
  funext y
  obtain ⟨R, j, rfl⟩ : ∃ (R : Fin 16384) (j : Fin 1024), y = ix2 R j := ⟨y 0, y 1, by funext a; match a with | ⟨0, _⟩ => rfl | ⟨1, _⟩ => rfl⟩
  refine Eq.trans ?_ (ref_added _ _ _ _ R j).symm
  show aX m c R j + Forward.norm (aG m c) (P m c R) j = _
  rw [V_x, show aG m c = fun j => m ((c : Thread nD τ).loc main_arg2) (ix1 j) from funext (V_g m c),
    show P m c R = _ from funext (eq_p m c R)]

end Cert.OutForward

end
-- ==== Proof.OutPoint.lean ====
/- What the body of the backward pass through the mixers' output product and its norm leaves at one grid point, as four chains of
   rows over the point's blocks. -/
module

public import proofs.«01_k».proof.Proof.Gen.Kernel12Ideal.Frame
public import proofs.«01_k».proof.Proof.Norm
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.Kernel12Ideal.Point

open Cert.Kernel12Ideal Cert.Kernel12Ideal.Gen Facts

theorem inb_wide (b : Fin 4) : ∀ a, (![256 * b.val, 0] : Fin 2 → Nat) a + (![256, 1024] : Fin 2 → Nat) a ≤ S1024x1024.size a := by
  revert b; decide

/-- The rows of chain `b` in a block of the cotangent. -/
def wide (X : FVec Ideal S1024x1024 .f32) (b : Fin 4) : FVec Ideal S256x1024 .f32 :=
  View.ld (Val := Elt Ideal) (S := S1024x1024) (e' := .f32) X (Rect.unit (s := S1024x1024) ![256 * b.val, 0] ![256, 1024] (inb_wide b))

/-- The same rows of the product. -/
def prod (X : FVec Ideal S1024x1024 .bf16) (b : Fin 4) : FVec Ideal S256x1024 .bf16 :=
  View.ld (Val := Elt Ideal) (S := S1024x1024) (e' := .bf16) X (Rect.unit (s := S1024x1024) ![256 * b.val, 0] ![256, 1024] (inb_wide b))

/-- The gradient of the product, a chain's rows. -/
def rowF (e : FVec Ideal S256x1024 .f32) (f : FVec Ideal S256x1024 .bf16) (g : FVec Ideal S1x1024 .f32) : FVec Ideal S256x1024 .bf16 :=
  k0_pay12 e (k0_pay8 f) g

/-- The gradient of the mixers' output, a chain's rows. -/
def rowD (e : FVec Ideal S256x1024 .f32) (f : FVec Ideal S256x1024 .bf16) (g : FVec Ideal S1x1024 .f32) (w : FVec Ideal S1024x1024 .bf16) :
    FVec Ideal S256x1024 .bf16 :=
  k0_pay22 (k0_pay13 (rowF e f g) w)

/-- The block of the product's gradient: each chain's rows stored at their place. -/
def allF (e : FVec Ideal S1024x1024 .f32) (f : FVec Ideal S1024x1024 .bf16) (g : FVec Ideal S1x1024 .f32) : FVec Ideal S1024x1024 .bf16 :=
  View.canon (Val := Elt Ideal) (e := .bf16) (List.ofFn fun b : Fin 4 =>
    (⟨Rect.unit ![256 * b.rev.val, 0] ![256, 1024] (inb_wide b.rev),
      rowF (wide e b.rev) (prod f b.rev) g⟩ : View.Piece (Elt Ideal) S1024x1024 .bf16))

/-- The block of the gradient of the mixers' output. -/
def allD (e : FVec Ideal S1024x1024 .f32) (w : FVec Ideal S1024x1024 .bf16) (f : FVec Ideal S1024x1024 .bf16) (g : FVec Ideal S1x1024 .f32) :
    FVec Ideal S1024x1024 .bf16 :=
  View.canon (Val := Elt Ideal) (e := .bf16) (List.ofFn fun b : Fin 4 =>
    (⟨Rect.unit ![256 * b.rev.val, 0] ![256, 1024] (inb_wide b.rev),
      rowD (wide e b.rev) (prod f b.rev) g w⟩ : View.Piece (Elt Ideal) S1024x1024 .bf16))

/-- What chain `b` adds to the gradient of the gain. -/
def gain (e : FVec Ideal S1024x1024 .f32) (f : FVec Ideal S1024x1024 .bf16) (b : Fin 4) : FVec Ideal S1x1024 .f32 :=
  k0_pay11 (wide e b) (k0_pay8 (prod f b))

/-- The gradient of the gain with the point's four chains added. -/
def addG (e : FVec Ideal S1024x1024 .f32) (f : FVec Ideal S1024x1024 .bf16) (a : FVec Ideal S1x1024 .f32) : FVec Ideal S1x1024 .f32 :=
  k0_pay2 (gain e f 0) (gain e f 1) (gain e f 2) (gain e f 3) a

variable (m : (ℓ : Loc nD τ sig) → Buf (Elt Ideal) ℓ)

theorem df_A (c : Dev nD) (t : Fin cfg0.N) (h0 : t.val % 16 = 0) :
    (outsAt0 m c t.val t.isLt).1 = allF (iblk m c 0 t) (iblk m c 2 t) (iblk m c 3 t) := by
  rw [outsAt0_A m c t h0]; frame_out
  generalize iblk m c 0 t = x0; generalize iblk m c 1 t = x1; generalize iblk m c 2 t = x2; generalize iblk m c 3 t = x3
  rfl

theorem df_B (c : Dev nD) (t : Fin cfg0.N) (h0 : ¬t.val % 16 = 0) :
    (outsAt0 m c t.val t.isLt).1 = allF (iblk m c 0 t) (iblk m c 2 t) (iblk m c 3 t) := by
  rw [outsAt0_B m c t h0]; frame_out
  generalize iblk m c 0 t = x0; generalize iblk m c 1 t = x1; generalize iblk m c 2 t = x2; generalize iblk m c 3 t = x3
  rfl

theorem dd_A (c : Dev nD) (t : Fin cfg0.N) (h0 : t.val % 16 = 0) :
    (outsAt0 m c t.val t.isLt).2.1 = allD (iblk m c 0 t) (iblk m c 1 t) (iblk m c 2 t) (iblk m c 3 t) := by
  rw [outsAt0_A m c t h0]; frame_out
  generalize iblk m c 0 t = x0; generalize iblk m c 1 t = x1; generalize iblk m c 2 t = x2; generalize iblk m c 3 t = x3
  rfl

theorem dd_B (c : Dev nD) (t : Fin cfg0.N) (h0 : ¬t.val % 16 = 0) :
    (outsAt0 m c t.val t.isLt).2.1 = allD (iblk m c 0 t) (iblk m c 1 t) (iblk m c 2 t) (iblk m c 3 t) := by
  rw [outsAt0_B m c t h0]; frame_out
  generalize iblk m c 0 t = x0; generalize iblk m c 1 t = x1; generalize iblk m c 2 t = x2; generalize iblk m c 3 t = x3
  rfl

theorem dg_A (c : Dev nD) (t : Fin cfg0.N) (h0 : t.val % 16 = 0) :
    (outsAt0 m c t.val t.isLt).2.2 = addG (iblk m c 0 t) (iblk m c 2 t) (constant (F := Ideal) S1x1024 .f32 0x00000000#32) := by
  rw [outsAt0_A m c t h0]; frame_out
  generalize iblk m c 0 t = x0; generalize iblk m c 1 t = x1; generalize iblk m c 2 t = x2; generalize iblk m c 3 t = x3
  rfl

theorem dg_B (c : Dev nD) (t : Fin cfg0.N) (h0 : ¬t.val % 16 = 0) :
    (outsAt0 m c t.val t.isLt).2.2 = addG (iblk m c 0 t) (iblk m c 2 t)
      (outsAt0 m c (t.val - 1) (Nat.lt_of_le_of_lt (Nat.sub_le _ _) t.isLt)).2.2 := by
  rw [outsAt0_B m c t h0]; frame_out
  generalize iblk m c 0 t = x0; generalize iblk m c 1 t = x1; generalize iblk m c 2 t = x2; generalize iblk m c 3 t = x3
  generalize (outsAt0 m c (t.val - 1) (Nat.lt_of_le_of_lt (Nat.sub_le _ _) t.isLt)).2.2 = a
  rfl

end Cert.Kernel12Ideal.Point

end
-- ==== Proof.OutFold.lean ====
/- The three results of the backward pass through the mixers' output product and its norm at an index, over the arrays that the
   launch takes. -/
module

public import proofs.«01_k».proof.Proof.OutPoint

@[expose] public section

set_option maxRecDepth 16384

noncomputable section

open Idealize.ShloMosaic Idealize.ShloMosaic.TcCoe Idealize.SL.Sem

namespace Cert.Kernel12Ideal.Fold

open Cert.Kernel12Ideal Cert.Kernel12Ideal.Gen Cert.Kernel12Ideal.Point Facts

/-- Point `t` is the block of rows `t`. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

theorem cast_apply (f : FVec Ideal S256x1024 .bf16) (r : Fin 256) (j : Fin 1024) : k0_pay8 (F := Ideal) f (ix2 r j) = f (ix2 r j) := by
  pointwise [k0_pay8]

theorem inv_apply (x : FVec Ideal S256x1024 .f32) (r : Fin 256) (z : Fin 1) :
    k0_pay9 (F := Ideal) x (ix2 r z) = Ideal.rsqrt (Norm.mean fun j => x (ix2 r j)) := by
  unfold Norm.mean
  pointwise [k0_pay9]

theorem norm_apply (e x : FVec Ideal S256x1024 .f32) (g : FVec Ideal S1x1024 .f32) (r : Fin 256) (j : Fin 1024) :
    k0_pay12 (F := Ideal) e x g (ix2 r j) = Norm.kback (fun j => e (ix2 r j)) (fun j => g (ix2 0 j)) (fun j => x (ix2 r j)) j := by
  unfold Norm.kback
  simp only [← inv_apply x r 0]
  pointwise [k0_pay12, k0_pay10]

theorem rowF_apply (e : FVec Ideal S256x1024 .f32) (f : FVec Ideal S256x1024 .bf16) (g : FVec Ideal S1x1024 .f32) (r : Fin 256) (j : Fin 1024) :
    rowF e f g (ix2 r j) = Norm.kback (fun j => e (ix2 r j)) (fun j => g (ix2 0 j)) (fun j => f (ix2 r j)) j := by
  unfold rowF
  rw [norm_apply]
  simp only [cast_apply]

theorem rowD_apply (e : FVec Ideal S256x1024 .f32) (f : FVec Ideal S256x1024 .bf16) (g : FVec Ideal S1x1024 .f32) (w : FVec Ideal S1024x1024 .bf16)
    (r : Fin 256) (k : Fin 1024) : rowD e f g w (ix2 r k) = ∑ j : Fin 1024, rowF e f g (ix2 r j) * w (ix2 k j) := by
  unfold rowD
  generalize rowF e f g = x
  pointwise [k0_pay22, k0_pay13]

theorem gain_apply (e x : FVec Ideal S256x1024 .f32) (z : Fin 1) (j : Fin 1024) : k0_pay11 (F := Ideal) e x (ix2 z j)
      = ∑ r : Fin 256, e (ix2 r j) * (x (ix2 r j) * Ideal.rsqrt (Norm.mean fun j => x (ix2 r j))) := by
  simp only [← inv_apply x _ 0]
  pointwise [k0_pay11, k0_pay10]

theorem add_apply (u v p q a : FVec Ideal S1x1024 .f32) (z : Fin 1) (j : Fin 1024) :
    k0_pay2 (F := Ideal) u v p q a (ix2 z j) = a (ix2 z j) + (u (ix2 z j) + v (ix2 z j) + p (ix2 z j) + q (ix2 z j)) := by
  pointwise [k0_pay2]

theorem wide_apply (X : FVec Ideal S1024x1024 .f32) (b : Fin 4) (r : Fin 256) (k : Fin 1024) :
    wide X b (ix2 r k) = X (ix2 ⟨256 * b.val + r, by omega⟩ k) := by
  unfold wide
  refine View.ld_unit_apply_of (Val := Elt Ideal) (e := .f32) (S := S1024x1024) X ![256 * b.val, 0] ![256, 1024] (inb_wide b) (ix2 r k) _ fun a => ?_
  fin_cases a
  · rfl
  · exact (Nat.zero_add _).symm

theorem prod_apply (X : FVec Ideal S1024x1024 .bf16) (b : Fin 4) (r : Fin 256) (k : Fin 1024) :
    prod X b (ix2 r k) = X (ix2 ⟨256 * b.val + r, by omega⟩ k) := by
  unfold prod
  refine View.ld_unit_apply_of (Val := Elt Ideal) (e := .bf16) (S := S1024x1024) X ![256 * b.val, 0] ![256, 1024] (inb_wide b) (ix2 r k) _ fun a => ?_
  fin_cases a
  · rfl
  · exact (Nat.zero_add _).symm

theorem zero_at (y : S1x1024.Idx) : constant (F := Ideal) S1x1024 .f32 0x00000000#32 y = (0 : EReal) := by
  rw [constant_apply]; simp [Ideal.ofBits, Ideal.ieee]

/-- A block at an index: of the chain that stores there. -/
theorem chain_apply (f : Fin 4 → FVec Ideal S256x1024 .bf16) (b : Fin 4) (r : Fin 256) (j : Fin 1024) (y : S1024x1024.Idx)
    (h0 : (y 0 : ℕ) = 256 * b.val + r) (h1 : (y 1 : ℕ) = j) :
    View.canon (Val := Elt Ideal) (e := .bf16) (List.ofFn fun b : Fin 4 =>
      (⟨Rect.unit ![256 * b.rev.val, 0] ![256, 1024] (inb_wide b.rev), f b.rev⟩ : View.Piece (Elt Ideal) S1024x1024 .bf16)) y = f b (ix2 r j) := by
  have hr := r.isLt; have hj := j.isLt; have hb := b.isLt
  refine View.canon_ofFn_unit_eq_of_forall (Val := Elt Ideal) (S := S1024x1024) (e := .bf16) (fun b : Fin 4 => ![256 * b.rev.val, 0]) ![256, 1024]
    (fun b => inb_wide b.rev) (fun b => f b.rev) y _
    ⟨b.rev, fun a => ?_⟩ fun q z hz => ?_
  · rw [Fin.rev_rev]
    fin_cases a
    · exact ⟨by show 256 * b.val ≤ (y 0 : ℕ); omega, by show (y 0 : ℕ) < 256 * b.val + 256; omega⟩
    · exact ⟨Nat.zero_le _, by show (y 1 : ℕ) < 0 + 1024; omega⟩
  · have e0 : (y 0 : ℕ) = 256 * q.rev.val + (z 0 : ℕ) := hz 0
    have e1 : (y 1 : ℕ) = 0 + (z 1 : ℕ) := hz 1
    have l0 : (z 0 : ℕ) < 256 := (z 0).isLt
    have hrev := q.rev.isLt
    have he : q.rev = b := Fin.ext (by omega)
    rw [he] at e0 ⊢
    refine congrArg (f b) (funext fun a => Fin.ext ?_)
    fin_cases a
    · show (z 0 : ℕ) = r; omega
    · show (z 1 : ℕ) = j; omega

variable (m : (ℓ : Loc nD τ sig) → Buf (Elt Ideal) ℓ) (c : Dev nD)

/-- The arrays that the launch takes. -/
def aE (R : Fin 16384) (j : Fin 1024) : EReal := V m c main_arg3 (ix2 R j)
def aW (k : Fin 1024) (j : Fin 1024) : EReal := V m c main_v2 (ix2 k j)
def aF (R : Fin 16384) (j : Fin 1024) : EReal := V m c main_v1 (ix2 R j)
def aG (j : Fin 1024) : EReal := V m c main_v3 (ix2 0 j)

/-- The gradient of the product, row `R`, and that of the mixers' output. -/
def grad (R : Fin 16384) (j : Fin 1024) : EReal := Norm.kback (aE m c R) (aG m c) (aF m c R) j
def mix (R : Fin 16384) (k : Fin 1024) : EReal := ∑ j : Fin 1024, grad m c R j * aW m c k j

/-- Row `r` of chain `b` of block `t`. -/
abbrev row (t : Fin 16) (b : Fin 4) (r : Fin 256) : Fin 16384 := ⟨t * 1024 + (256 * b + r), by omega⟩

theorem e_at (t : Fin cfg0.N) (b : Fin 4) (r : Fin 256) (k : Fin 1024) (R : Fin 16384) (hR : (R : ℕ) = t.val * 1024 + (256 * b.val + r)) :
    wide (iblk m c 0 t) b (ix2 r k) = aE m c R k := by
  rw [wide_apply]
  unfold iblk aE
  generalize V m c = A
  blk_ext [idx t]

theorem w_at (t : Fin cfg0.N) (k : Fin 1024) (j : Fin 1024) : iblk m c 1 t (ix2 k j) = aW m c k j := by
  unfold iblk aW
  generalize V m c = A
  blk_ext [idx t]

theorem f_at (t : Fin cfg0.N) (b : Fin 4) (r : Fin 256) (k : Fin 1024) (R : Fin 16384) (hR : (R : ℕ) = t.val * 1024 + (256 * b.val + r)) :
    prod (iblk m c 2 t) b (ix2 r k) = aF m c R k := by
  rw [prod_apply]
  unfold iblk aF
  generalize V m c = A
  blk_ext [idx t]

theorem g_at (t : Fin cfg0.N) (j : Fin 1024) : iblk m c 3 t (ix2 0 j) = aG m c j := by
  unfold iblk aG
  generalize V m c = A
  blk_ext [idx t]

theorem grad_at (t : Fin cfg0.N) (b : Fin 4) (r : Fin 256) (j : Fin 1024) (R : Fin 16384) (hR : (R : ℕ) = t.val * 1024 + (256 * b.val + r)) :
    rowF (wide (iblk m c 0 t) b) (prod (iblk m c 2 t) b) (iblk m c 3 t) (ix2 r j) = grad m c R j := by
  rw [rowF_apply]
  unfold grad
  simp only [e_at m c t b r _ R hR, f_at m c t b r _ R hR, g_at m c t]

theorem mix_at (t : Fin cfg0.N) (b : Fin 4) (r : Fin 256) (k : Fin 1024) (R : Fin 16384) (hR : (R : ℕ) = t.val * 1024 + (256 * b.val + r)) :
    rowD (wide (iblk m c 0 t) b) (prod (iblk m c 2 t) b) (iblk m c 3 t) (iblk m c 1 t) (ix2 r k) = mix m c R k := by
  rw [rowD_apply]
  exact Finset.sum_congr rfl fun j _ => by rw [grad_at m c t b r j R hR, w_at]

/-- What a chain adds to the gradient of the gain, and what a point adds. -/
def partOf (t : Fin 16) (b : Fin 4) (j : Fin 1024) : EReal :=
  ∑ r : Fin 256, aE m c (row t b r) j * (aF m c (row t b r) j * Ideal.rsqrt (Norm.mean (aF m c (row t b r))))
def part (t : Fin 16) (j : Fin 1024) : EReal := partOf m c t 0 j + partOf m c t 1 j + partOf m c t 2 j + partOf m c t 3 j

theorem addG_at (t : Fin cfg0.N) (a) (y : S1x1024.Idx) : addG (iblk m c 0 t) (iblk m c 2 t) a y = a y + part m c t (y 1) := by
  obtain ⟨j, rfl⟩ : ∃ j : Fin 1024, y = ix2 (0 : Fin 1) j := ⟨y 1, by
    funext q
    match q with
    | ⟨0, _⟩ => exact Subsingleton.elim (α := Fin 1) _ _
    | ⟨1, _⟩ => rfl⟩
  show addG (iblk m c 0 t) (iblk m c 2 t) a (ix2 0 j) = a (ix2 0 j) + part m c t j
  unfold addG part
  have h : ∀ b : Fin 4, gain (iblk m c 0 t) (iblk m c 2 t) b (ix2 0 j) = partOf m c t b j := fun b => by
    unfold gain
    rw [gain_apply]
    refine Finset.sum_congr rfl fun r _ => ?_
    simp only [cast_apply]
    rw [e_at m c t b r j (row t b r) rfl]
    simp only [f_at m c t b r _ (row t b r) rfl]
  rw [add_apply, h 0, h 1, h 2, h 3]

theorem step_zero (t : Fin cfg0.N) (h0 : t.val % 16 = 0) (y : S1x1024.Idx) :
    ((outsAt0 m c t.val t.isLt).2.2 y : EReal) = 0 + part m c t (y 1) := by
  rw [dg_A m c t h0, addG_at, zero_at]

theorem step (t : Fin cfg0.N) (h0 : ¬t.val % 16 = 0) (y : S1x1024.Idx) :
    ((outsAt0 m c t.val t.isLt).2.2 y : EReal)
      = (outsAt0 m c (t.val - 1) (Nat.lt_of_le_of_lt (Nat.sub_le _ _) t.isLt)).2.2 y + part m c t (y 1) := by
  rw [dg_B m c t h0]
  generalize (outsAt0 m c (t.val - 1) (Nat.lt_of_le_of_lt (Nat.sub_le _ _) t.isLt)).2.2 = a
  rw [addG_at]

theorem acc (t : Fin cfg0.N) (hf : t.val % 16 = 16 - 1) (y : S1x1024.Idx) :
    ((outsAt0 m c t.val t.isLt).2.2 y : EReal) = ∑ s : Fin 16, part m c s (y 1) := by
  have e := Pipeline.eq_sum_fin_of_reset_step_apply_of_flush (N := cfg0.N) (M := EReal) (fun n h y => ((outsAt0 m c n h).2.2 y : EReal)) 16 (fun _ => 0)
    (fun t y => part m c t (y 1)) (step_zero m c) (step m c) t hf y
  refine e.trans ?_
  rw [zero_add]
  have ht : t.val < 16 := t.isLt
  refine Finset.sum_congr rfl fun s _ => congrArg (fun s => part m c s (y 1)) (Fin.ext ?_)
  show 16 * (t.val / 16) + s.val = s.val
  omega

/-- The gradient of the gain. -/
theorem final_g : (dats m 0 c).arrAt 6 (cfgs 0).N = fun y : S1x1024.Idx => ∑ s : Fin 16, part m c s (y 1) := by
  refine (dats m 0 c).arrAt_eq_of_covers 6 _ (by decide +kernel) fun t hf y => ?_
  have h15 := (flush0_6 t).mp hf
  blk_simp
  rw [after0_6]
  refine (acc m c t h15 y).trans (Finset.sum_congr rfl fun s _ => congrArg _ ?_)
  apply Fin.ext; blk_simp [idx t]

/-- The block of the gradient of the product that a point leaves. -/
theorem df_at (t : Fin cfg0.N) : (outsAt0 m c t.val t.isLt).1 = allF (iblk m c 0 t) (iblk m c 2 t) (iblk m c 3 t) := by
  by_cases h0 : t.val % 16 = 0
  · exact df_A m c t h0
  · exact df_B m c t h0

theorem f_point (t : Fin cfg0.N) (y : S1024x1024.Idx) (R : Fin 16384) (j : Fin 1024) (hR : (R : ℕ) = t.val * 1024 + (y 0 : ℕ)) (hj : (y 1 : ℕ) = j) :
    allF (iblk m c 0 t) (iblk m c 2 t) (iblk m c 3 t) y = grad m c R j := by
  have hy : (y 0 : ℕ) < 1024 := (y 0).isLt
  obtain ⟨b, hb⟩ : ∃ b : Fin 4, (b : ℕ) = (y 0 : ℕ) / 256 := ⟨⟨(y 0 : ℕ) / 256, by omega⟩, rfl⟩
  obtain ⟨r, hr⟩ : ∃ r : Fin 256, (r : ℕ) = (y 0 : ℕ) % 256 := ⟨⟨(y 0 : ℕ) % 256, by omega⟩, rfl⟩
  exact (chain_apply (fun b => rowF (wide (iblk m c 0 t) b) (prod (iblk m c 2 t) b) (iblk m c 3 t)) b r j y (by omega) hj).trans
    (grad_at m c t b r j R (by omega))

/-- The gradient of the product. -/
theorem final_f : (dats m 0 c).arrAt 4 (cfgs 0).N = fun y : S16384x1024.Idx => grad m c (y 0) (y 1) := by
  refine (dats m 0 c).arrAt_eq_of_covers 4 _ (by decide +kernel) fun t hf y => ?_
  blk_simp
  rw [after0_4, df_at m c t]
  refine f_point m c t y _ _ ?_ ?_
  all_goals (blk_simp [idx t] <;> (try dsimp only) <;> omega)

/-- The block of the gradient of the mixers' output that a point leaves. -/
theorem dd_at (t : Fin cfg0.N) : (outsAt0 m c t.val t.isLt).2.1 = allD (iblk m c 0 t) (iblk m c 1 t) (iblk m c 2 t) (iblk m c 3 t) := by
  by_cases h0 : t.val % 16 = 0
  · exact dd_A m c t h0
  · exact dd_B m c t h0

theorem d_point (t : Fin cfg0.N) (y : S1024x1024.Idx) (R : Fin 16384) (j : Fin 1024) (hR : (R : ℕ) = t.val * 1024 + (y 0 : ℕ)) (hj : (y 1 : ℕ) = j) :
    allD (iblk m c 0 t) (iblk m c 1 t) (iblk m c 2 t) (iblk m c 3 t) y = mix m c R j := by
  have hy : (y 0 : ℕ) < 1024 := (y 0).isLt
  obtain ⟨b, hb⟩ : ∃ b : Fin 4, (b : ℕ) = (y 0 : ℕ) / 256 := ⟨⟨(y 0 : ℕ) / 256, by omega⟩, rfl⟩
  obtain ⟨r, hr⟩ : ∃ r : Fin 256, (r : ℕ) = (y 0 : ℕ) % 256 := ⟨⟨(y 0 : ℕ) % 256, by omega⟩, rfl⟩
  exact (chain_apply (fun b => rowD (wide (iblk m c 0 t) b) (prod (iblk m c 2 t) b) (iblk m c 3 t) (iblk m c 1 t)) b r j y (by omega) hj).trans
    (mix_at m c t b r j R (by omega))

/-- The gradient of the mixers' output. -/
theorem final_d : (dats m 0 c).arrAt 5 (cfgs 0).N = fun y : S16384x1024.Idx => mix m c (y 0) (y 1) := by
  refine (dats m 0 c).arrAt_eq_of_covers 5 _ (by decide +kernel) fun t hf y => ?_
  blk_simp
  rw [after0_5, dd_at m c t]
  refine d_point m c t y _ _ ?_ ?_
  all_goals (blk_simp [idx t] <;> (try dsimp only) <;> omega)

end Cert.Kernel12Ideal.Fold

end
-- ==== Proof.OutRef.lean ====
/- The reference of the backward pass through the mixers' output product and its norm, read at an index. -/
module

public import proofs.«01_k».proof.Proof.Gen.Reference12Ideal.Read
public import proofs.«01_k».proof.Proof.Norm
public import Idealize.ShloMosaic.Lib.Pipeline.ValueKit

@[expose] public section

set_option maxRecDepth 16384

noncomputable section

open Idealize.ShloMosaic Idealize.ShloMosaic.TcCoe Idealize.SL.Sem

namespace Cert.Reference12Ideal.At

open Cert.Reference12Ideal Cert.Reference12Ideal.Read

variable (p : FVec Ideal S16384x1024 .f32) (w : FVec Ideal S1024x1024 .f32) (g : FVec Ideal S1024 .f32) (e : FVec Ideal S16384x1024 .f32)

/-- The product, row `R`. -/
def prod (R : Fin 16384) (j : Fin 1024) : EReal := ∑ k : Fin 1024, p (ix2 R k) * w (ix2 k j)

/-- The part of the norm's derivative along its row. -/
def along (R : Fin 16384) : EReal := Norm.rback (fun j => e (ix2 R j)) (fun j => g (ix1 j)) (prod p w R) 0

/-- The gradient of the product. -/
def grad (R : Fin 16384) (j : Fin 1024) : EReal :=
  e (ix2 R j) * g (ix1 j) * Ideal.rsqrt (Norm.mean (prod p w R)) + prod p w R j * along p w g e R + along p w g e R * prod p w R j

/-- The gradient of the mixers' output. -/
def mix (R : Fin 16384) (k : Fin 1024) : EReal := ∑ j : Fin 1024, grad p w g e R j * w (ix2 k j)

theorem prod_at (R : Fin 16384) (j : Fin 1024) : val_main_v0 (F := Ideal) p w (ix2 R j) = prod p w R j := by
  pointwise [val_main_v0, prod]

theorem mean_at (R : Fin 16384) (z : Fin 1) : val_main_v7 (F := Ideal) p w (ix2 R z) = Norm.mean (prod p w R) := by
  unfold Norm.mean
  simp only [← prod_at]
  generalize hv : val_main_v0 (F := Ideal) p w = v
  pointwise [val_main_v7, val_main_v6, val_main_v5, val_main_v4, val_main_v3, val_main_v2, val_main_v1, val_main_cst, val_main_cst_0, val_main_cst_1, hv]

theorem inv_at (R : Fin 16384) (z : Fin 1) : val_main_v8 (F := Ideal) p w (ix2 R z) = Ideal.rsqrt (Norm.mean (prod p w R)) := by
  rw [← mean_at p w R z]; pointwise [val_main_v8]

theorem part_at (R : Fin 16384) (z : Fin 1) : val_main_v30 (F := Ideal) p w g e (ix2 R z) = along p w g e R := by
  unfold along Norm.rback
  rw [← mean_at p w R 0]
  simp only [← prod_at]
  pointwise [val_main_v30, val_main_v29, val_main_v28, val_main_v25, val_main_v24, val_main_v23, val_main_v21, val_main_v20, val_main_v14, val_main_v11, val_main_v10,
    val_main_v9, val_main_v8, val_main_cst_2, val_main_cst_5, val_main_cst_6]
  rw [Subsingleton.elim z 0]

theorem unit_at (R : Fin 16384) : val_main_v31 (F := Ideal) p w g e (ix1 R) = val_main_v30 (F := Ideal) p w g e (ix2 R 0) := by
  pointwise [val_main_v31, val_main_cst_7]
  exact Fin.sum_univ_one _

theorem grad_at (R : Fin 16384) (j : Fin 1024) : val_main_v36 (F := Ideal) p w g e (ix2 R j) = grad p w g e R j := by
  unfold grad
  rw [← part_at p w g e R 0, ← inv_at p w R 0, ← prod_at, ← unit_at]
  pointwise [val_main_v36, val_main_v35, val_main_v34, val_main_v33, val_main_v32, val_main_v27, val_main_v26, val_main_v21, val_main_v20, val_main_v14]

/-- The first result. -/
theorem df_at (R : Fin 16384) (j : Fin 1024) : val_main_v37 (F := Ideal) p w g e (ix2 R j) = grad p w g e R j := by
  rw [← grad_at]
  pointwise [val_main_v37]

/-- The second result. -/
theorem dd_at (R : Fin 16384) (k : Fin 1024) : val_main_v39 (F := Ideal) p w g e (ix2 R k) = mix p w g e R k := by
  unfold mix
  simp only [← grad_at]
  generalize hv : val_main_v36 (F := Ideal) p w g e = v
  pointwise [val_main_v39, val_main_v38, hv]

/-- The gradient of the gain. -/
theorem dg_at (z : Fin 1) (j : Fin 1024) : val_main_v40 (F := Ideal) p w e (ix2 z j)
    = ∑ R : Fin 16384, prod p w R j * Ideal.rsqrt (Norm.mean (prod p w R)) * e (ix2 R j) := by
  simp only [← inv_at p w _ 0]
  simp only [← prod_at]
  pointwise [val_main_v40, val_main_v22, val_main_v19, val_main_v18, val_main_v17, val_main_v13, val_main_v12, val_main_cst_3, val_main_cst_4]
  exact Fin.sum_univ_one _

end Cert.Reference12Ideal.At

end
-- ==== Proof.OutAlgebra.lean ====
/- The backward pass through the mixers' output product: the results of the two programs are the same, for any arguments. -/
module

public import proofs.«01_k».proof.Defs
public import proofs.«01_k».proof.Proof.OutFold
public import proofs.«01_k».proof.Proof.OutRef

@[expose] public section

set_option maxRecDepth 16384

noncomputable section

open Idealize.ShloMosaic Idealize.ShloMosaic.TcCoe Idealize.SL.Sem

namespace Cert.OutAlgebra

open Cert.Kernel12Ideal Cert.Kernel12Ideal.Gen Cert.Kernel12Ideal.Fold

variable (m : (ℓ : Loc nD τ sig) → Buf (Elt Ideal) ℓ) (c : Dev nD)

theorem V_e (R : Fin 16384) (j : Fin 1024) : aE m c R j = m ((c : Thread nD τ).loc main_arg3) (ix2 R j) := by
  unfold aE V; after_results
theorem V_w (k : Fin 1024) (j : Fin 1024) : aW m c k j = m ((c : Thread nD τ).loc main_arg1) (ix2 k j) := by
  unfold aW V; after_results; pointwise []
theorem V_g (j : Fin 1024) : aG m c j = m ((c : Thread nD τ).loc main_arg2) (ix1 j) := by
  unfold aG V; after_results; pointwise []

/-- The product that the launch takes is the reference's. -/
theorem V_f (R : Fin 16384) (j : Fin 1024) : aF m c R j = Cert.Reference12Ideal.At.prod (m ((c : Thread nD τ).loc main_arg0)) (m ((c : Thread nD τ).loc main_arg1)) R j := by
  unfold aF V
  after_results
  exact Cert.Reference12Ideal.At.prod_at _ _ R j

theorem eq_f (R : Fin 16384) (j : Fin 1024) : grad m c R j
    = Cert.Reference12Ideal.At.grad (m ((c : Thread nD τ).loc main_arg0)) (m ((c : Thread nD τ).loc main_arg1)) (m ((c : Thread nD τ).loc main_arg2)) (m ((c : Thread nD τ).loc main_arg3)) R j := by
  unfold grad Cert.Reference12Ideal.At.grad Cert.Reference12Ideal.At.along
  rw [← zero_add (Norm.kback _ _ _ _), Norm.kback_eq, zero_add, V_e, V_g, show aG m c = fun j => m ((c : Thread nD τ).loc main_arg2) (ix1 j) from funext (V_g m c),
    show aE m c R = fun j => m ((c : Thread nD τ).loc main_arg3) (ix2 R j) from funext (V_e m c R),
    show aF m c R = Cert.Reference12Ideal.At.prod (m ((c : Thread nD τ).loc main_arg0)) (m ((c : Thread nD τ).loc main_arg1)) R from funext (V_f m c R)]

/-- The rows in the order of the blocks and chains are all the rows. -/
theorem sum_rows (F : Fin 16384 → EReal) :
    ∑ t : Fin 16, ((∑ r : Fin 256, F (row t 0 r)) + (∑ r : Fin 256, F (row t 1 r)) + (∑ r : Fin 256, F (row t 2 r)) + ∑ r : Fin 256, F (row t 3 r)) = ∑ R, F R := by
  rw [← Fin.sum_mul_add_fin (L := 16384) 16 1024 F]
  refine Finset.sum_congr rfl fun t _ => ?_
  rw [← Fin.sum_mul_add_fin (L := 1024) 4 256 (fun s => F ⟨t * 1024 + s, by omega⟩), Fin.sum_univ_four]
  refine congrArg₂ (· + ·) (congrArg₂ (· + ·) (congrArg₂ (· + ·) ?_ ?_) ?_) ?_
  all_goals exact Finset.sum_congr rfl fun r _ => congrArg F (Fin.ext (by simp))

/-- The gradient of the product. -/
theorem same_f : (dats m 0 c).arrAt 4 (cfgs 0).N
    = Cert.Reference12Ideal.Read.val_main_v37 (F := Ideal) (m ((c : Thread nD τ).loc main_arg0)) (m ((c : Thread nD τ).loc main_arg1)) (m ((c : Thread nD τ).loc main_arg2)) (m ((c : Thread nD τ).loc main_arg3)) := by
  refine (final_f m c).trans ?_
  funext y
  obtain ⟨R, j, rfl⟩ : ∃ (R : Fin 16384) (j : Fin 1024), y = ix2 R j := ⟨y 0, y 1, by funext a; match a with | ⟨0, _⟩ => rfl | ⟨1, _⟩ => rfl⟩
  exact (eq_f m c R j).trans (Cert.Reference12Ideal.At.df_at _ _ _ _ R j).symm

/-- The gradient of the mixers' output. -/
theorem same_d : (dats m 0 c).arrAt 5 (cfgs 0).N
    = Cert.Reference12Ideal.Read.val_main_v39 (F := Ideal) (m ((c : Thread nD τ).loc main_arg0)) (m ((c : Thread nD τ).loc main_arg1)) (m ((c : Thread nD τ).loc main_arg2)) (m ((c : Thread nD τ).loc main_arg3)) := by
  refine (final_d m c).trans ?_
  funext y
  obtain ⟨R, k, rfl⟩ : ∃ (R : Fin 16384) (k : Fin 1024), y = ix2 R k := ⟨y 0, y 1, by funext a; match a with | ⟨0, _⟩ => rfl | ⟨1, _⟩ => rfl⟩
  refine Eq.trans ?_ (Cert.Reference12Ideal.At.dd_at _ _ _ _ R k).symm
  exact Finset.sum_congr rfl fun j _ => congrArg₂ (· * ·) (eq_f m c R j) (V_w m c k j)

/-- The gradient of the gain. -/
theorem same_g : (dats m 0 c).arrAt 6 (cfgs 0).N
    = Cert.Reference12Ideal.Read.val_main_v40 (F := Ideal) (m ((c : Thread nD τ).loc main_arg0)) (m ((c : Thread nD τ).loc main_arg1)) (m ((c : Thread nD τ).loc main_arg3)) := by
  refine (final_g m c).trans ?_
  funext y
  obtain ⟨z, j, rfl⟩ : ∃ (z : Fin 1) (j : Fin 1024), y = ix2 z j := ⟨y 0, y 1, by funext a; match a with | ⟨0, _⟩ => rfl | ⟨1, _⟩ => rfl⟩
  refine Eq.trans ?_ (Cert.Reference12Ideal.At.dg_at _ _ _ z j).symm
  show ∑ t : Fin 16, part m c t j = _
  unfold part partOf
  refine (sum_rows fun R => aE m c R j * (aF m c R j * Ideal.rsqrt (Norm.mean (aF m c R)))).trans (Finset.sum_congr rfl fun R _ => ?_)
  rw [show aF m c R = Cert.Reference12Ideal.At.prod (m ((c : Thread nD τ).loc main_arg0)) (m ((c : Thread nD τ).loc main_arg1)) R from funext (V_f m c R), V_e, mul_comm]

end Cert.OutAlgebra

end
-- ==== Proof.InPoint.lean ====
/- What the body of the backward pass through the product into the mixers leaves at one grid point, as four chains of rows over the
   point's blocks. -/
module

public import proofs.«01_k».proof.Proof.Gen.Kernel13Ideal.Frame
public import proofs.«01_k».proof.Proof.Norm
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.Kernel13Ideal.Point

open Cert.Kernel13Ideal Cert.Kernel13Ideal.Gen Facts

theorem inb_deep (b : Fin 4) : ∀ a, (![256 * b.val, 0] : Fin 2 → Nat) a + (![256, 1408] : Fin 2 → Nat) a ≤ S1024x1408.size a := by
  revert b; decide
theorem inb_wide (b : Fin 4) : ∀ a, (![256 * b.val, 0] : Fin 2 → Nat) a + (![256, 1024] : Fin 2 → Nat) a ≤ S1024x1024.size a := by
  revert b; decide

/-- The rows of chain `b` in a block of the product's cotangent. -/
def deep (X : FVec Ideal S1024x1408 .bf16) (b : Fin 4) : FVec Ideal S256x1408 .bf16 :=
  View.ld (Val := Elt Ideal) (S := S1024x1408) (e' := .bf16) X (Rect.unit (s := S1024x1408) ![256 * b.val, 0] ![256, 1408] (inb_deep b))

/-- The rows of chain `b` in a block of the layer's width. -/
def wide (X : FVec Ideal S1024x1024 .f32) (b : Fin 4) : FVec Ideal S256x1024 .f32 :=
  View.ld (Val := Elt Ideal) (S := S1024x1024) (e' := .f32) X (Rect.unit (s := S1024x1024) ![256 * b.val, 0] ![256, 1024] (inb_wide b))

/-- The gradient of a chain's rows. -/
def rowX (d : FVec Ideal S256x1408 .bf16) (w : FVec Ideal S1024x1408 .bf16) (x : FVec Ideal S256x1024 .f32) (g : FVec Ideal S1x1024 .f32)
    (e : FVec Ideal S256x1024 .f32) : FVec Ideal S256x1024 .f32 :=
  k0_pay21 (k0_pay1 d w) x g e

/-- The block of the gradient: each chain's rows stored at their place. -/
def allX (d : FVec Ideal S1024x1408 .bf16) (w : FVec Ideal S1024x1408 .bf16) (x : FVec Ideal S1024x1024 .f32) (g : FVec Ideal S1x1024 .f32)
    (e : FVec Ideal S1024x1024 .f32) : FVec Ideal S1024x1024 .f32 :=
  View.canon (Val := Elt Ideal) (e := .f32) (List.ofFn fun b : Fin 4 =>
    (⟨Rect.unit ![256 * b.rev.val, 0] ![256, 1024] (inb_wide b.rev),
      rowX (deep d b.rev) w (wide x b.rev) g (wide e b.rev)⟩ : View.Piece (Elt Ideal) S1024x1024 .f32))

/-- What chain `b` adds to the gradient of the gain. -/
def gain (d : FVec Ideal S1024x1408 .bf16) (w : FVec Ideal S1024x1408 .bf16) (x : FVec Ideal S1024x1024 .f32) (b : Fin 4) : FVec Ideal S1x1024 .f32 :=
  k0_pay20 (k0_pay1 (deep d b) w) (wide x b)

/-- The gradient of the gain with the point's four chains added. -/
def addG (d : FVec Ideal S1024x1408 .bf16) (w : FVec Ideal S1024x1408 .bf16) (x : FVec Ideal S1024x1024 .f32) (a : FVec Ideal S1x1024 .f32) :
    FVec Ideal S1x1024 .f32 :=
  k0_pay26 (gain d w x 0) (gain d w x 1) (k0_pay1 (deep d 3) w) (gain d w x 2) (wide x 3) a

variable (m : (ℓ : Loc nD τ sig) → Buf (Elt Ideal) ℓ)

theorem dx_A (c : Dev nD) (t : Fin cfg0.N) (h0 : t.val % 16 = 0) :
    (outsAt0 m c t.val t.isLt).1 = allX (iblk m c 0 t) (iblk m c 1 t) (iblk m c 2 t) (iblk m c 3 t) (iblk m c 4 t) := by
  rw [outsAt0_A m c t h0]; frame_out
  generalize iblk m c 0 t = x0; generalize iblk m c 1 t = x1; generalize iblk m c 2 t = x2; generalize iblk m c 3 t = x3
  generalize iblk m c 4 t = x4
  rfl

theorem dx_B (c : Dev nD) (t : Fin cfg0.N) (h0 : ¬t.val % 16 = 0) :
    (outsAt0 m c t.val t.isLt).1 = allX (iblk m c 0 t) (iblk m c 1 t) (iblk m c 2 t) (iblk m c 3 t) (iblk m c 4 t) := by
  rw [outsAt0_B m c t h0]; frame_out
  generalize iblk m c 0 t = x0; generalize iblk m c 1 t = x1; generalize iblk m c 2 t = x2; generalize iblk m c 3 t = x3
  generalize iblk m c 4 t = x4
  rfl

theorem dg_A (c : Dev nD) (t : Fin cfg0.N) (h0 : t.val % 16 = 0) :
    (outsAt0 m c t.val t.isLt).2 = addG (iblk m c 0 t) (iblk m c 1 t) (iblk m c 2 t) (constant (F := Ideal) S1x1024 .f32 0x00000000#32) := by
  rw [outsAt0_A m c t h0]; frame_out
  generalize iblk m c 0 t = x0; generalize iblk m c 1 t = x1; generalize iblk m c 2 t = x2; generalize iblk m c 3 t = x3
  generalize iblk m c 4 t = x4
  rfl

theorem dg_B (c : Dev nD) (t : Fin cfg0.N) (h0 : ¬t.val % 16 = 0) :
    (outsAt0 m c t.val t.isLt).2 = addG (iblk m c 0 t) (iblk m c 1 t) (iblk m c 2 t)
      (outsAt0 m c (t.val - 1) (Nat.lt_of_le_of_lt (Nat.sub_le _ _) t.isLt)).2 := by
  rw [outsAt0_B m c t h0]; frame_out
  generalize iblk m c 0 t = x0; generalize iblk m c 1 t = x1; generalize iblk m c 2 t = x2; generalize iblk m c 3 t = x3
  generalize iblk m c 4 t = x4
  generalize (outsAt0 m c (t.val - 1) (Nat.lt_of_le_of_lt (Nat.sub_le _ _) t.isLt)).2 = a
  rfl

end Cert.Kernel13Ideal.Point

end
-- ==== Proof.InFold.lean ====
/- The two results of the backward pass through the product into the mixers at an index, over the arrays that the launch takes. -/
module

public import proofs.«01_k».proof.Proof.InPoint

@[expose] public section

set_option maxRecDepth 16384

noncomputable section

open Idealize.ShloMosaic Idealize.ShloMosaic.TcCoe Idealize.SL.Sem

namespace Cert.Kernel13Ideal.Fold

open Cert.Kernel13Ideal Cert.Kernel13Ideal.Gen Cert.Kernel13Ideal.Point Facts

/-- Point `t` is the block of rows `t`. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

theorem mm_apply (d : FVec Ideal S256x1408 .bf16) (w : FVec Ideal S1024x1408 .bf16) (r : Fin 256) (j : Fin 1024) :
    k0_pay1 (F := Ideal) d w (ix2 r j) = ∑ k : Fin 1408, d (ix2 r k) * w (ix2 j k) := by
  pointwise [k0_pay1]

theorem inv_apply (x : FVec Ideal S256x1024 .f32) (r : Fin 256) (z : Fin 1) :
    k0_pay18 (F := Ideal) x (ix2 r z) = Ideal.rsqrt (Norm.mean fun j => x (ix2 r j)) := by
  unfold Norm.mean
  pointwise [k0_pay18]

theorem row_apply (D : FVec Ideal S256x1024 .f32) (x : FVec Ideal S256x1024 .f32) (g : FVec Ideal S1x1024 .f32) (e : FVec Ideal S256x1024 .f32)
    (r : Fin 256) (j : Fin 1024) : k0_pay21 (F := Ideal) D x g e (ix2 r j)
      = e (ix2 r j) + Norm.kback (fun j => D (ix2 r j)) (fun j => g (ix2 0 j)) (fun j => x (ix2 r j)) j := by
  unfold Norm.kback
  simp only [← inv_apply x r 0]
  pointwise [k0_pay21, k0_pay19]

theorem gain_apply (D x : FVec Ideal S256x1024 .f32) (z : Fin 1) (j : Fin 1024) : k0_pay20 (F := Ideal) D x (ix2 z j)
      = ∑ r : Fin 256, D (ix2 r j) * (x (ix2 r j) * Ideal.rsqrt (Norm.mean fun j => x (ix2 r j))) := by
  simp only [← inv_apply x _ 0]
  pointwise [k0_pay20, k0_pay19]

theorem add_apply (u v q a : FVec Ideal S1x1024 .f32) (D x : FVec Ideal S256x1024 .f32) (z : Fin 1) (j : Fin 1024) :
    k0_pay26 (F := Ideal) u v D q x a (ix2 z j)
      = a (ix2 z j) + (u (ix2 z j) + v (ix2 z j) + q (ix2 z j) + ∑ r : Fin 256, D (ix2 r j) * (x (ix2 r j) * Ideal.rsqrt (Norm.mean fun j => x (ix2 r j)))) := by
  rw [← gain_apply D x z j]
  pointwise [k0_pay26, k0_pay20, k0_pay23, k0_pay22, k0_pay19, k0_pay18]

theorem deep_apply (X : FVec Ideal S1024x1408 .bf16) (b : Fin 4) (r : Fin 256) (k : Fin 1408) :
    deep X b (ix2 r k) = X (ix2 ⟨256 * b.val + r, by omega⟩ k) := by
  unfold deep
  refine View.ld_unit_apply_of (Val := Elt Ideal) (e := .bf16) (S := S1024x1408) X ![256 * b.val, 0] ![256, 1408] (inb_deep b) (ix2 r k) _ fun a => ?_
  fin_cases a
  · rfl
  · exact (Nat.zero_add _).symm

theorem wide_apply (X : FVec Ideal S1024x1024 .f32) (b : Fin 4) (r : Fin 256) (k : Fin 1024) :
    wide X b (ix2 r k) = X (ix2 ⟨256 * b.val + r, by omega⟩ k) := by
  unfold wide
  refine View.ld_unit_apply_of (Val := Elt Ideal) (e := .f32) (S := S1024x1024) X ![256 * b.val, 0] ![256, 1024] (inb_wide b) (ix2 r k) _ fun a => ?_
  fin_cases a
  · rfl
  · exact (Nat.zero_add _).symm

theorem zero_at (y : S1x1024.Idx) : constant (F := Ideal) S1x1024 .f32 0x00000000#32 y = (0 : EReal) := by
  rw [constant_apply]; simp [Ideal.ofBits, Ideal.ieee]

/-- The block of the gradient at an index: of the chain that stores there. -/
theorem allX_apply (d w x g e) (b : Fin 4) (r : Fin 256) (j : Fin 1024) (y : S1024x1024.Idx)
    (h0 : (y 0 : ℕ) = 256 * b.val + r) (h1 : (y 1 : ℕ) = j) : allX d w x g e y
    = rowX (deep d b) w (wide x b) g (wide e b) (ix2 r j) := by
  have hr := r.isLt; have hj := j.isLt; have hb := b.isLt
  unfold allX
  refine View.canon_ofFn_unit_eq_of_forall (Val := Elt Ideal) (S := S1024x1024) (e := .f32) (fun b : Fin 4 => ![256 * b.rev.val, 0]) ![256, 1024]
    (fun b => inb_wide b.rev) (fun b => rowX (deep d b.rev) w (wide x b.rev) g (wide e b.rev)) y _
    ⟨b.rev, fun a => ?_⟩ fun q z hz => ?_
  · rw [Fin.rev_rev]
    fin_cases a
    · exact ⟨by show 256 * b.val ≤ (y 0 : ℕ); omega, by show (y 0 : ℕ) < 256 * b.val + 256; omega⟩
    · exact ⟨Nat.zero_le _, by show (y 1 : ℕ) < 0 + 1024; omega⟩
  · have e0 : (y 0 : ℕ) = 256 * q.rev.val + (z 0 : ℕ) := hz 0
    have e1 : (y 1 : ℕ) = 0 + (z 1 : ℕ) := hz 1
    have l0 : (z 0 : ℕ) < 256 := (z 0).isLt
    have hrev := q.rev.isLt
    have he : q.rev = b := Fin.ext (by omega)
    rw [he] at e0 ⊢
    refine congrArg (rowX (deep d b) w (wide x b) g (wide e b)) (funext fun a => Fin.ext ?_)
    fin_cases a
    · show (z 0 : ℕ) = r; omega
    · show (z 1 : ℕ) = j; omega

variable (m : (ℓ : Loc nD τ sig) → Buf (Elt Ideal) ℓ) (c : Dev nD)

/-- The arrays that the launch takes. -/
def aD (R : Fin 16384) (k : Fin 1408) : EReal := V m c main_v0 (ix2 R k)
def aW (j : Fin 1024) (k : Fin 1408) : EReal := V m c main_v1 (ix2 j k)
def aX (R : Fin 16384) (j : Fin 1024) : EReal := V m c main_arg0 (ix2 R j)
def aG (j : Fin 1024) : EReal := V m c main_v2 (ix2 0 j)
def aE (R : Fin 16384) (j : Fin 1024) : EReal := V m c main_arg3 (ix2 R j)

/-- The cotangent of the norm, row `R`. -/
def cot (R : Fin 16384) (j : Fin 1024) : EReal := ∑ k : Fin 1408, aD m c R k * aW m c j k

/-- Row `r` of chain `b` of block `t`. -/
abbrev row (t : Fin 16) (b : Fin 4) (r : Fin 256) : Fin 16384 := ⟨t * 1024 + (256 * b + r), by omega⟩

theorem d_at (t : Fin cfg0.N) (b : Fin 4) (r : Fin 256) (k : Fin 1408) (R : Fin 16384) (hR : (R : ℕ) = t.val * 1024 + (256 * b.val + r)) :
    deep (iblk m c 0 t) b (ix2 r k) = aD m c R k := by
  rw [deep_apply]
  unfold iblk aD
  generalize V m c = A
  blk_ext [idx t]

theorem w_at (t : Fin cfg0.N) (j : Fin 1024) (k : Fin 1408) : iblk m c 1 t (ix2 j k) = aW m c j k := by
  unfold iblk aW
  generalize V m c = A
  blk_ext [idx t]

theorem x_at (t : Fin cfg0.N) (b : Fin 4) (r : Fin 256) (k : Fin 1024) (R : Fin 16384) (hR : (R : ℕ) = t.val * 1024 + (256 * b.val + r)) :
    wide (iblk m c 2 t) b (ix2 r k) = aX m c R k := by
  rw [wide_apply]
  unfold iblk aX
  generalize V m c = A
  blk_ext [idx t]

theorem g_at (t : Fin cfg0.N) (j : Fin 1024) : iblk m c 3 t (ix2 0 j) = aG m c j := by
  unfold iblk aG
  generalize V m c = A
  blk_ext [idx t]

theorem e_at (t : Fin cfg0.N) (b : Fin 4) (r : Fin 256) (k : Fin 1024) (R : Fin 16384) (hR : (R : ℕ) = t.val * 1024 + (256 * b.val + r)) :
    wide (iblk m c 4 t) b (ix2 r k) = aE m c R k := by
  rw [wide_apply]
  unfold iblk aE
  generalize V m c = A
  blk_ext [idx t]

theorem cot_at (t : Fin cfg0.N) (b : Fin 4) (r : Fin 256) (j : Fin 1024) (R : Fin 16384) (hR : (R : ℕ) = t.val * 1024 + (256 * b.val + r)) :
    k0_pay1 (F := Ideal) (deep (iblk m c 0 t) b) (iblk m c 1 t) (ix2 r j) = cot m c R j := by
  rw [mm_apply]
  exact Finset.sum_congr rfl fun k _ => by rw [d_at m c t b r k R hR, w_at]

/-- What a chain adds to the gradient of the gain, and what a point adds. -/
def partOf (t : Fin 16) (b : Fin 4) (j : Fin 1024) : EReal :=
  ∑ r : Fin 256, cot m c (row t b r) j * (aX m c (row t b r) j * Ideal.rsqrt (Norm.mean (aX m c (row t b r))))
def part (t : Fin 16) (j : Fin 1024) : EReal := partOf m c t 0 j + partOf m c t 1 j + partOf m c t 2 j + partOf m c t 3 j

theorem addG_at (t : Fin cfg0.N) (a) (y : S1x1024.Idx) : addG (iblk m c 0 t) (iblk m c 1 t) (iblk m c 2 t) a y = a y + part m c t (y 1) := by
  obtain ⟨j, rfl⟩ : ∃ j : Fin 1024, y = ix2 (0 : Fin 1) j := ⟨y 1, by
    funext q
    match q with
    | ⟨0, _⟩ => exact Subsingleton.elim (α := Fin 1) _ _
    | ⟨1, _⟩ => rfl⟩
  show addG (iblk m c 0 t) (iblk m c 1 t) (iblk m c 2 t) a (ix2 0 j) = a (ix2 0 j) + part m c t j
  unfold addG part
  have h : ∀ b : Fin 4, (∑ r : Fin 256, k0_pay1 (F := Ideal) (deep (iblk m c 0 t) b) (iblk m c 1 t) (ix2 r j)
        * (wide (iblk m c 2 t) b (ix2 r j) * Ideal.rsqrt (Norm.mean fun j => wide (iblk m c 2 t) b (ix2 r j)))) = partOf m c t b j := fun b =>
    Finset.sum_congr rfl fun r _ => by
      rw [cot_at m c t b r j (row t b r) rfl]
      simp only [x_at m c t b r _ (row t b r) rfl]
  rw [add_apply]
  unfold gain
  rw [gain_apply, gain_apply, gain_apply, h 0, h 1, h 2, h 3]

theorem step_zero (t : Fin cfg0.N) (h0 : t.val % 16 = 0) (y : S1x1024.Idx) :
    ((outsAt0 m c t.val t.isLt).2 y : EReal) = 0 + part m c t (y 1) := by
  rw [dg_A m c t h0, addG_at, zero_at]

theorem step (t : Fin cfg0.N) (h0 : ¬t.val % 16 = 0) (y : S1x1024.Idx) :
    ((outsAt0 m c t.val t.isLt).2 y : EReal)
      = (outsAt0 m c (t.val - 1) (Nat.lt_of_le_of_lt (Nat.sub_le _ _) t.isLt)).2 y + part m c t (y 1) := by
  rw [dg_B m c t h0]
  generalize (outsAt0 m c (t.val - 1) (Nat.lt_of_le_of_lt (Nat.sub_le _ _) t.isLt)).2 = a
  rw [addG_at]

theorem acc (t : Fin cfg0.N) (hf : t.val % 16 = 16 - 1) (y : S1x1024.Idx) :
    ((outsAt0 m c t.val t.isLt).2 y : EReal) = ∑ s : Fin 16, part m c s (y 1) := by
  have e := Pipeline.eq_sum_fin_of_reset_step_apply_of_flush (N := cfg0.N) (M := EReal) (fun n h y => ((outsAt0 m c n h).2 y : EReal)) 16 (fun _ => 0)
    (fun t y => part m c t (y 1)) (step_zero m c) (step m c) t hf y
  refine e.trans ?_
  rw [zero_add]
  have ht : t.val < 16 := t.isLt
  refine Finset.sum_congr rfl fun s _ => congrArg (fun s => part m c s (y 1)) (Fin.ext ?_)
  show 16 * (t.val / 16) + s.val = s.val
  omega

/-- The gradient of the gain. -/
theorem final_g : (dats m 0 c).arrAt 6 (cfgs 0).N = fun y : S1x1024.Idx => ∑ s : Fin 16, part m c s (y 1) := by
  refine (dats m 0 c).arrAt_eq_of_covers 6 _ (by decide +kernel) fun t hf y => ?_
  have h31 := (flush0_6 t).mp hf
  blk_simp
  rw [after0_6]
  refine (acc m c t h31 y).trans (Finset.sum_congr rfl fun s _ => congrArg _ ?_)
  apply Fin.ext; blk_simp [idx t]

/-- The block of the gradient of the input that a point leaves. -/
theorem dx_at (t : Fin cfg0.N) : (outsAt0 m c t.val t.isLt).1
    = allX (iblk m c 0 t) (iblk m c 1 t) (iblk m c 2 t) (iblk m c 3 t) (iblk m c 4 t) := by
  by_cases h0 : t.val % 16 = 0
  · exact dx_A m c t h0
  · exact dx_B m c t h0

theorem x_point (t : Fin cfg0.N) (y : S1024x1024.Idx) (R : Fin 16384) (j : Fin 1024) (hR : (R : ℕ) = t.val * 1024 + (y 0 : ℕ)) (hj : (y 1 : ℕ) = j) :
    allX (iblk m c 0 t) (iblk m c 1 t) (iblk m c 2 t) (iblk m c 3 t) (iblk m c 4 t) y
      = aE m c R j + Norm.kback (cot m c R) (aG m c) (aX m c R) j := by
  have hy : (y 0 : ℕ) < 1024 := (y 0).isLt
  obtain ⟨b, hb⟩ : ∃ b : Fin 4, (b : ℕ) = (y 0 : ℕ) / 256 := ⟨⟨(y 0 : ℕ) / 256, by omega⟩, rfl⟩
  obtain ⟨r, hr⟩ : ∃ r : Fin 256, (r : ℕ) = (y 0 : ℕ) % 256 := ⟨⟨(y 0 : ℕ) % 256, by omega⟩, rfl⟩
  have eR : (R : ℕ) = t.val * 1024 + (256 * b.val + r) := by omega
  rw [allX_apply _ _ _ _ _ b r j y (by omega) hj]
  unfold rowX
  rw [row_apply, e_at m c t b r j R eR]
  simp only [cot_at m c t b r _ R eR, x_at m c t b r _ R eR, g_at m c t]

/-- The gradient of the layer's input. -/
theorem final_x : (dats m 0 c).arrAt 5 (cfgs 0).N = fun y : S16384x1024.Idx =>
    aE m c (y 0) (y 1) + Norm.kback (cot m c (y 0)) (aG m c) (aX m c (y 0)) (y 1) := by
  refine (dats m 0 c).arrAt_eq_of_covers 5 _ (by decide +kernel) fun t hf y => ?_
  blk_simp
  rw [after0_5, dx_at m c t]
  refine x_point m c t y _ _ ?_ ?_
  all_goals (blk_simp [idx t] <;> (try dsimp only) <;> omega)

end Cert.Kernel13Ideal.Fold

end
-- ==== Proof.InRef.lean ====
/- The reference of the backward pass through the product into the mixers and its norm, read at an index. -/
module

public import proofs.«01_k».proof.Proof.Gen.Reference13Ideal.Read
public import proofs.«01_k».proof.Proof.Norm
public import Idealize.ShloMosaic.Lib.Pipeline.ValueKit

@[expose] public section

set_option maxRecDepth 16384

noncomputable section

open Idealize.ShloMosaic Idealize.ShloMosaic.TcCoe Idealize.SL.Sem

namespace Cert.Reference13Ideal.At

open Cert.Reference13Ideal Cert.Reference13Ideal.Read

variable (x : FVec Ideal S16384x1024 .f32) (w : FVec Ideal S1024x1408 .f32) (g : FVec Ideal S1024 .f32) (e : FVec Ideal S16384x1024 .f32)
  (d : FVec Ideal S16384x1408 .f32)

/-- The cotangent of the norm, row `R`. -/
def cot (R : Fin 16384) (j : Fin 1024) : EReal := ∑ k : Fin 1408, d (ix2 R k) * w (ix2 j k)

theorem cot_at (R : Fin 16384) (j : Fin 1024) : val_main_v17 (F := Ideal) w d (ix2 R j) = cot w d R j := by
  pointwise [val_main_v17, cot]

theorem mean_at (R : Fin 16384) (z : Fin 1) : val_main_v6 (F := Ideal) x (ix2 R z) = Norm.mean fun j => x (ix2 R j) := by
  pointwise [val_main_v6, val_main_v5, val_main_v4, val_main_v3, val_main_v2, val_main_v1, val_main_v0, val_main_cst, val_main_cst_0, val_main_cst_1, Norm.mean]

theorem inv_at (R : Fin 16384) (z : Fin 1) : val_main_v7 (F := Ideal) x (ix2 R z) = Ideal.rsqrt (Norm.mean fun j => x (ix2 R j)) := by
  rw [← mean_at x R z]; pointwise [val_main_v7]

theorem part_at (R : Fin 16384) (z : Fin 1) : val_main_v32 (F := Ideal) x w g d (ix2 R z)
    = Norm.rback (cot w d R) (fun j => g (ix1 j)) (fun j => x (ix2 R j)) 0 := by
  unfold Norm.rback
  rw [← mean_at x R 0]
  simp only [← cot_at]
  pointwise [val_main_v32, val_main_v31, val_main_v30, val_main_v26, val_main_v25, val_main_v24, val_main_v22, val_main_v21, val_main_v13, val_main_v10, val_main_v9,
    val_main_v8, val_main_v7, val_main_cst_2, val_main_cst_5, val_main_cst_6]
  rw [Subsingleton.elim z 0]

theorem unit_at (R : Fin 16384) : val_main_v33 (F := Ideal) x w g d (ix1 R) = val_main_v32 (F := Ideal) x w g d (ix2 R 0) := by
  pointwise [val_main_v33, val_main_cst_7]
  exact Fin.sum_univ_one _

/-- The gradient of the layer's input. -/
theorem dx_at (R : Fin 16384) (j : Fin 1024) : val_main_v38 (F := Ideal) x w g e d (ix2 R j)
    = e (ix2 R j) + cot w d R j * g (ix1 j) * Ideal.rsqrt (Norm.mean fun j => x (ix2 R j))
      + x (ix2 R j) * Norm.rback (cot w d R) (fun j => g (ix1 j)) (fun j => x (ix2 R j)) 0
      + Norm.rback (cot w d R) (fun j => g (ix1 j)) (fun j => x (ix2 R j)) 0 * x (ix2 R j) := by
  rw [← part_at x w g d R 0, ← cot_at, ← inv_at x R 0, ← unit_at]
  pointwise [val_main_v38, val_main_v37, val_main_v36, val_main_v35, val_main_v34, val_main_v29, val_main_v28, val_main_v27, val_main_v22, val_main_v21, val_main_v13]

/-- The gradient of the gain. -/
theorem dg_at (z : Fin 1) (j : Fin 1024) : val_main_v39 (F := Ideal) x w d (ix2 z j)
    = ∑ R : Fin 16384, x (ix2 R j) * Ideal.rsqrt (Norm.mean fun j => x (ix2 R j)) * cot w d R j := by
  simp only [← cot_at, ← inv_at x _ 0]
  pointwise [val_main_v39, val_main_v23, val_main_v20, val_main_v19, val_main_v18, val_main_v12, val_main_v11, val_main_cst_3, val_main_cst_4]
  exact Fin.sum_univ_one _

end Cert.Reference13Ideal.At

end
-- ==== Proof.InAlgebra.lean ====
/- The backward pass through the product into the mixers: the results of the two programs are the same, for any arguments. -/
module

public import proofs.«01_k».proof.Defs
public import proofs.«01_k».proof.Proof.InFold
public import proofs.«01_k».proof.Proof.InRef

@[expose] public section

set_option maxRecDepth 16384

noncomputable section

open Idealize.ShloMosaic Idealize.ShloMosaic.TcCoe Idealize.SL.Sem

namespace Cert.InAlgebra

open Cert.Kernel13Ideal Cert.Kernel13Ideal.Gen Cert.Kernel13Ideal.Fold

variable (m : (ℓ : Loc nD τ sig) → Buf (Elt Ideal) ℓ) (c : Dev nD)

theorem V_d (R : Fin 16384) (k : Fin 1408) : aD m c R k = m ((c : Thread nD τ).loc main_arg4) (ix2 R k) := by
  unfold aD V; after_results; pointwise []
theorem V_w (j : Fin 1024) (k : Fin 1408) : aW m c j k = m ((c : Thread nD τ).loc main_arg1) (ix2 j k) := by
  unfold aW V; after_results; pointwise []
theorem V_x (R : Fin 16384) (j : Fin 1024) : aX m c R j = m ((c : Thread nD τ).loc main_arg0) (ix2 R j) := by
  unfold aX V; after_results
theorem V_g (j : Fin 1024) : aG m c j = m ((c : Thread nD τ).loc main_arg2) (ix1 j) := by
  unfold aG V; after_results; pointwise []
theorem V_e (R : Fin 16384) (j : Fin 1024) : aE m c R j = m ((c : Thread nD τ).loc main_arg3) (ix2 R j) := by
  unfold aE V; after_results

/-- The cotangent of the norm is the reference's. -/
theorem V_cot (R : Fin 16384) : cot m c R
    = Cert.Reference13Ideal.At.cot (m ((c : Thread nD τ).loc main_arg1)) (m ((c : Thread nD τ).loc main_arg4)) R := by
  funext j
  unfold cot Cert.Reference13Ideal.At.cot
  simp only [V_d, V_w]

/-- The rows in the order of the blocks and chains are all the rows. -/
theorem sum_rows (F : Fin 16384 → EReal) :
    ∑ t : Fin 16, ((∑ r : Fin 256, F (row t 0 r)) + (∑ r : Fin 256, F (row t 1 r)) + (∑ r : Fin 256, F (row t 2 r)) + ∑ r : Fin 256, F (row t 3 r)) = ∑ R, F R := by
  rw [← Fin.sum_mul_add_fin (L := 16384) 16 1024 F]
  refine Finset.sum_congr rfl fun t _ => ?_
  rw [← Fin.sum_mul_add_fin (L := 1024) 4 256 (fun s => F ⟨t * 1024 + s, by omega⟩), Fin.sum_univ_four]
  refine congrArg₂ (· + ·) (congrArg₂ (· + ·) (congrArg₂ (· + ·) ?_ ?_) ?_) ?_
  all_goals exact Finset.sum_congr rfl fun r _ => congrArg F (Fin.ext (by simp))

/-- The gradient of the layer's input. -/
theorem same_x : (dats m 0 c).arrAt 5 (cfgs 0).N
    = Cert.Reference13Ideal.Read.val_main_v38 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  refine (final_x m c).trans ?_
  funext y
  obtain ⟨R, j, rfl⟩ : ∃ (R : Fin 16384) (j : Fin 1024), y = ix2 R j := ⟨y 0, y 1, by funext a; match a with | ⟨0, _⟩ => rfl | ⟨1, _⟩ => rfl⟩
  refine Eq.trans ?_ (Cert.Reference13Ideal.At.dx_at _ _ _ _ _ R j).symm
  show aE m c R j + Norm.kback (cot m c R) (aG m c) (aX m c R) j = _
  rw [Norm.kback_eq, V_cot, V_e, V_x, V_g, show aG m c = fun j => m ((c : Thread nD τ).loc main_arg2) (ix1 j) from funext (V_g m c),
    show aX m c R = fun j => m ((c : Thread nD τ).loc main_arg0) (ix2 R j) from funext (V_x m c R)]

/-- The gradient of the gain. -/
theorem same_g : (dats m 0 c).arrAt 6 (cfgs 0).N
    = Cert.Reference13Ideal.Read.val_main_v39 (F := Ideal) (m ((c : Thread nD τ).loc main_arg0)) (m ((c : Thread nD τ).loc main_arg1))
      (m ((c : Thread nD τ).loc main_arg4)) := by
  refine (final_g m c).trans ?_
  funext y
  obtain ⟨z, j, rfl⟩ : ∃ (z : Fin 1) (j : Fin 1024), y = ix2 z j := ⟨y 0, y 1, by funext a; match a with | ⟨0, _⟩ => rfl | ⟨1, _⟩ => rfl⟩
  refine Eq.trans ?_ (Cert.Reference13Ideal.At.dg_at _ _ _ z j).symm
  show ∑ t : Fin 16, part m c t j = _
  unfold part partOf
  refine (sum_rows fun R => cot m c R j * (aX m c R j * Ideal.rsqrt (Norm.mean (aX m c R)))).trans (Finset.sum_congr rfl fun R _ => ?_)
  rw [show aX m c R = fun j => m ((c : Thread nD τ).loc main_arg0) (ix2 R j) from funext (V_x m c R), V_cot, mul_comm]

end Cert.InAlgebra

end
-- ==== Proof.lean ====
/- The claims about thirteen calls: the gradient of the attention; of the feed-forward network the two products, with their norms and
   the gate, forward and backward, and the gradients of their weights; and of the projections around the mixers the products, with
   their norms, forward and backward, and the gradients of their weights. The programs run and leave their arguments and counters as
   they were, and over the extended reals the kernels' results are those that the references state, of the attention's gradient and
   the second product's at finite arguments. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Algebra
public import proofs.«01_k».proof.Proof.DownAlgebra
public import proofs.«01_k».proof.Proof.UpAlgebra
public import proofs.«01_k».proof.Proof.DownWeight
public import proofs.«01_k».proof.Proof.UpWeight
public import proofs.«01_k».proof.Proof.UpForward
public import proofs.«01_k».proof.Proof.DownForward
public import proofs.«01_k».proof.Proof.InWeight
public import proofs.«01_k».proof.Proof.OutWeight
public import proofs.«01_k».proof.Proof.InForward
public import proofs.«01_k».proof.Proof.OutForward
public import proofs.«01_k».proof.Proof.OutAlgebra
public import proofs.«01_k».proof.Proof.InAlgebra
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The reference runs, and its arguments and counters end as they began. -/
theorem reference :
    quiescent_ReferenceIdeal (hReferenceIdeal := ReferenceIdeal.Gen.facts) :=
  fun m g _ => (θ_run ReferenceIdeal.defs _ _).mono (fun r h =>
    ⟨fun c => ⟨(h c).2.2.2.1, (h c).2.2.2.2.1, (h c).2.2.2.2.2.1, (h c).2.2.2.2.2.2.1, (h c).2.2.2.2.2.2.2⟩, sem_eq_zero_of_no_sems (by decide) _⟩)
    (ReferenceIdeal.Value.run m g)

open Cert.KernelIdeal Cert.KernelIdeal.Gen Cert.KernelIdeal.Result in
/-- The kernel runs and leaves the three gradients. -/
theorem kernel (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c : Thread nD τ).loc main_v27) = gather ((dats m 0 c).arrAt 6 (cfgs 0).N)
      ∧ r.2.mem ((c : Thread nD τ).loc main_v25_1) = (dats m 0 c).arrAt 7 (cfgs 0).N
      ∧ r.2.mem ((c : Thread nD τ).loc main_v25_2) = (dats m 0 c).arrAt 8 (cfgs 0).N) :=
  (θ_run defs _ _).mono (fun r h c => ⟨((h c).2 main_v27 (by decide)).trans (tail_q m c), (h c).1 7, (h c).1 8⟩) (run_main m g)

/-- The reference of the second product runs, and its arguments and counters end as they began. -/
theorem reference2 :
    quiescent_Reference2Ideal (hReference2Ideal := Reference2Ideal.Gen.facts) :=
  fun m g _ => (θ_run Reference2Ideal.defs _ _).mono (fun r h =>
    ⟨fun c => (h c).2.2.2, sem_eq_zero_of_no_sems (by decide) _⟩)
    (Reference2Ideal.Value.run m g)

/-- The reference of the first product runs, and its arguments and counters end as they began. -/
theorem reference3 :
    quiescent_Reference3Ideal (hReference3Ideal := Reference3Ideal.Gen.facts) :=
  fun m g _ => (θ_run Reference3Ideal.defs _ _).mono (fun r h =>
    ⟨fun c => (h c).2.2, sem_eq_zero_of_no_sems (by decide) _⟩)
    (Reference3Ideal.Value.run m g)

/-- The attention's gradients are the reference's. -/
theorem attention : algebraic_KernelIdeal_ReferenceIdeal_pre_finite_inputs (hKernelIdeal := KernelIdeal.Gen.facts)
    (hReferenceIdeal := ReferenceIdeal.Gen.facts) (hPre_finite_inputs := Cert.Finite.facts) := by
  have := Cert.Finite.facts
  intro m g m' g' hpre harg
  refine ⟨fun c => _, fun c => _, fun c => _, (θ_run Cert.KernelIdeal.defs _ _).mono (fun r h c => ⟨(h.1 c).1, (h.1 c).2.1, (h.1 c).2.2, h.2 c⟩)
      (θ_run_and (kernel m g) (Cert.KernelIdeal.Gen.unchanged m g)),
    (θ_run Cert.ReferenceIdeal.defs _ _).mono (fun r h c => ?_) (Cert.ReferenceIdeal.Value.run m' g')⟩
  obtain ⟨h0, h1, h2, h3⟩ := h c
  obtain ⟨a0, a1, a2, a3, a4⟩ := harg c
  refine ⟨h0.trans ?_, h1.trans ?_, h2.trans ?_, h3⟩
  · rw [Cert.ReferenceIdeal.Read.val_main_v74_eq, a0, a1, a2, a4]
    exact (Cert.Algebra.same_q m c hpre).symm
  · rw [Cert.ReferenceIdeal.Read.val_main_v76_eq, a0, a1, a2, a4]
    exact (Cert.Algebra.same_k m c hpre).symm
  · rw [Cert.ReferenceIdeal.Read.val_main_v78_eq, a0, a1, a4]
    exact (Cert.Algebra.same_v m c hpre).symm

/-- The second product's gradients are the reference's. -/
theorem second : algebraic_Kernel2Ideal_Reference2Ideal_pre_finite2 (hKernel2Ideal := Kernel2Ideal.Gen.facts)
    (hReference2Ideal := Reference2Ideal.Gen.facts) (hPre_finite2 := Cert.DownAlgebra.facts) := by
  have := Cert.DownAlgebra.facts
  intro m g m' g' hpre harg
  refine ⟨fun c => _, fun c => _, fun c => _, Cert.Kernel2Ideal.Value.run_blocks m g,
    (θ_run Cert.Reference2Ideal.defs _ _).mono (fun r h c => ?_) (Cert.Reference2Ideal.Value.run m' g')⟩
  obtain ⟨h0, h1, h2, h3⟩ := h c
  obtain ⟨a0, a1, a2, a3⟩ := harg c
  refine ⟨h0.trans ?_, h1.trans ?_, h2.trans ?_, h3⟩
  · rw [Cert.Reference2Ideal.Read.val_main_v41_eq, a0, a1, a2, a3]
    exact (Cert.DownAlgebra.same_f m c hpre).symm
  · rw [Cert.Reference2Ideal.Read.val_main_v49_eq, a0, a1, a2, a3]
    exact (Cert.DownAlgebra.same_p m c hpre).symm
  · rw [Cert.Reference2Ideal.Read.val_main_v50_eq, a0, a1, a3]
    exact (Cert.DownAlgebra.same_g m c hpre).symm

/-- The reference of the first weight's gradient runs, and its arguments and counters end as they began. -/
theorem reference4 :
    quiescent_Reference4Ideal (hReference4Ideal := Reference4Ideal.Gen.facts) :=
  fun m g _ => (θ_run Reference4Ideal.defs _ _).mono (fun r h =>
    ⟨fun c => (h c).2, sem_eq_zero_of_no_sems (by decide) _⟩)
    (Reference4Ideal.Value.run m g)

/-- The reference of the second weight's gradient runs, and its arguments and counters end as they began. -/
theorem reference5 :
    quiescent_Reference5Ideal (hReference5Ideal := Reference5Ideal.Gen.facts) :=
  fun m g _ => (θ_run Reference5Ideal.defs _ _).mono (fun r h =>
    ⟨fun c => (h c).2, sem_eq_zero_of_no_sems (by decide) _⟩)
    (Reference5Ideal.Value.run m g)

/-- The first product's gradients are the reference's. -/
theorem first : algebraic_Kernel3Ideal_Reference3Ideal (hKernel3Ideal := Kernel3Ideal.Gen.facts)
    (hReference3Ideal := Reference3Ideal.Gen.facts) := by
  intro m g m' g' _ harg
  refine ⟨fun c => _, fun c => _, Cert.Kernel3Ideal.Value.run_blocks m g,
    (θ_run Cert.Reference3Ideal.defs _ _).mono (fun r h c => ?_) (Cert.Reference3Ideal.Value.run m' g')⟩
  obtain ⟨h0, h1, h2⟩ := h c
  obtain ⟨a0, a1, a2, a3, a4⟩ := harg c
  refine ⟨h0.trans ?_, h1.trans ?_, h2⟩
  · rw [Cert.Reference3Ideal.Read.val_main_v38_eq, a0, a1, a2, a3, a4]
    exact (Cert.UpAlgebra.same_x m c).symm
  · rw [Cert.Reference3Ideal.Read.val_main_v39_eq, a0, a1, a4]
    exact (Cert.UpAlgebra.same_g m c).symm

/-- The gradient of the first product's weight is the reference's. -/
theorem weight1 : algebraic_Kernel4Ideal_Reference4Ideal (hKernel4Ideal := Kernel4Ideal.Gen.facts)
    (hReference4Ideal := Reference4Ideal.Gen.facts) := by
  intro m g m' g' _ harg
  refine ⟨fun c => _, Cert.Kernel4Ideal.Value.run_blocks m g,
    (θ_run Cert.Reference4Ideal.defs _ _).mono (fun r h c => ?_) (Cert.Reference4Ideal.Value.run m' g')⟩
  obtain ⟨h0, h1⟩ := h c
  obtain ⟨a0, a1, a2, a3⟩ := harg c
  refine ⟨h0.trans ?_, h1⟩
  rw [Cert.Reference4Ideal.Read.val_main_v15_eq, a0, a2, a3]
  exact (Cert.UpWeight.same m c).symm

/-- The gradient of the second product's weight is the reference's. -/
theorem weight2 : algebraic_Kernel5Ideal_Reference5Ideal (hKernel5Ideal := Kernel5Ideal.Gen.facts)
    (hReference5Ideal := Reference5Ideal.Gen.facts) := by
  intro m g m' g' _ harg
  refine ⟨fun c => _, Cert.Kernel5Ideal.Value.run_blocks m g,
    (θ_run Cert.Reference5Ideal.defs _ _).mono (fun r h c => ?_) (Cert.Reference5Ideal.Value.run m' g')⟩
  obtain ⟨h0, h1⟩ := h c
  obtain ⟨a0, a1, a2⟩ := harg c
  refine ⟨h0.trans ?_, h1⟩
  rw [Cert.Reference5Ideal.Read.val_main_v6_eq, a0, a2]
  exact (Cert.DownWeight.same m c).symm

/-- The reference of the first product runs, and its arguments and counters end as they began. -/
theorem reference6 :
    quiescent_Reference6Ideal (hReference6Ideal := Reference6Ideal.Gen.facts) :=
  fun m g _ => (θ_run Reference6Ideal.defs _ _).mono (fun r h =>
    ⟨fun c => (h c).2.2.2, sem_eq_zero_of_no_sems (by decide) _⟩)
    (Reference6Ideal.Value.run m g)

/-- The reference of the second product with its norm and the layer's input runs, and its arguments and counters end as they began. -/
theorem reference7 :
    quiescent_Reference7Ideal (hReference7Ideal := Reference7Ideal.Gen.facts) :=
  fun m g _ => (θ_run Reference7Ideal.defs _ _).mono (fun r h =>
    ⟨fun c => (h c).2.2, sem_eq_zero_of_no_sems (by decide) _⟩)
    (Reference7Ideal.Value.run m g)

/-- The reference of the input projection's weight's gradient runs, and its arguments and counters end as they began. -/
theorem reference8 :
    quiescent_Reference8Ideal (hReference8Ideal := Reference8Ideal.Gen.facts) :=
  fun m g _ => (θ_run Reference8Ideal.defs _ _).mono (fun r h =>
    ⟨fun c => (h c).2, sem_eq_zero_of_no_sems (by decide) _⟩)
    (Reference8Ideal.Value.run m g)

/-- The reference of the output projection's weight's gradient runs, and its arguments and counters end as they began. -/
theorem reference9 :
    quiescent_Reference9Ideal (hReference9Ideal := Reference9Ideal.Gen.facts) :=
  fun m g _ => (θ_run Reference9Ideal.defs _ _).mono (fun r h =>
    ⟨fun c => (h c).2, sem_eq_zero_of_no_sems (by decide) _⟩)
    (Reference9Ideal.Value.run m g)

/-- The normed rows, the first product and the gated values are the reference's. -/
theorem forward1 : algebraic_Kernel6Ideal_Reference6Ideal (hKernel6Ideal := Kernel6Ideal.Gen.facts)
    (hReference6Ideal := Reference6Ideal.Gen.facts) := by
  intro m g m' g' _ harg
  refine ⟨fun c => _, fun c => _, fun c => _, Cert.Kernel6Ideal.Value.run_blocks m g,
    (θ_run Cert.Reference6Ideal.defs _ _).mono (fun r h c => ?_) (Cert.Reference6Ideal.Value.run m' g')⟩
  obtain ⟨h0, h1, h2, h3⟩ := h c
  obtain ⟨a0, a1, a2⟩ := harg c
  refine ⟨h0.trans ?_, h1.trans ?_, h2.trans ?_, h3⟩
  · rw [Cert.Reference6Ideal.Read.val_main_v14_eq, a0, a2]
    exact (Cert.UpForward.same_h m c).symm
  · rw [Cert.Reference6Ideal.Read.val_main_v15_eq, a0, a1, a2]
    exact (Cert.UpForward.same_u m c).symm
  · rw [Cert.Reference6Ideal.Read.val_main_v20_eq, a0, a1, a2]
    exact (Cert.UpForward.same_a m c).symm

/-- The second product and the layer's output are the reference's. -/
theorem forward2 : algebraic_Kernel7Ideal_Reference7Ideal (hKernel7Ideal := Kernel7Ideal.Gen.facts)
    (hReference7Ideal := Reference7Ideal.Gen.facts) := by
  intro m g m' g' _ harg
  refine ⟨fun c => _, fun c => _, Cert.Kernel7Ideal.Value.run_blocks m g,
    (θ_run Cert.Reference7Ideal.defs _ _).mono (fun r h c => ?_) (Cert.Reference7Ideal.Value.run m' g')⟩
  obtain ⟨h0, h1, h2⟩ := h c
  obtain ⟨a0, a1, a2, a3⟩ := harg c
  refine ⟨h0.trans ?_, h1.trans ?_, h2⟩
  · rw [Cert.Reference7Ideal.Read.val_main_v5_eq, a0, a1]
    exact (Cert.DownForward.same_p m c).symm
  · rw [Cert.Reference7Ideal.Read.val_main_v19_eq, a0, a1, a2, a3]
    exact (Cert.DownForward.same_x m c).symm

/-- The gradient of the input projection's weight is the reference's. -/
theorem weight3 : algebraic_Kernel8Ideal_Reference8Ideal (hKernel8Ideal := Kernel8Ideal.Gen.facts)
    (hReference8Ideal := Reference8Ideal.Gen.facts) := by
  intro m g m' g' _ harg
  refine ⟨fun c => _, Cert.Kernel8Ideal.Value.run_blocks m g,
    (θ_run Cert.Reference8Ideal.defs _ _).mono (fun r h c => ?_) (Cert.Reference8Ideal.Value.run m' g')⟩
  obtain ⟨h0, h1⟩ := h c
  obtain ⟨a0, a1, a2, a3⟩ := harg c
  refine ⟨h0.trans ?_, h1⟩
  rw [Cert.Reference8Ideal.Read.val_main_v15_eq, a0, a2, a3]
  exact (Cert.InWeight.same m c).symm

/-- The gradient of the output projection's weight is the reference's. -/
theorem weight4 : algebraic_Kernel9Ideal_Reference9Ideal (hKernel9Ideal := Kernel9Ideal.Gen.facts)
    (hReference9Ideal := Reference9Ideal.Gen.facts) := by
  intro m g m' g' _ harg
  refine ⟨fun c => _, Cert.Kernel9Ideal.Value.run_blocks m g,
    (θ_run Cert.Reference9Ideal.defs _ _).mono (fun r h c => ?_) (Cert.Reference9Ideal.Value.run m' g')⟩
  obtain ⟨h0, h1⟩ := h c
  obtain ⟨a0, a1, a2⟩ := harg c
  refine ⟨h0.trans ?_, h1⟩
  rw [Cert.Reference9Ideal.Read.val_main_v2_eq, a0, a2]
  exact (Cert.OutWeight.same m c).symm

/-- The reference of the input projection runs, and its arguments and counters end as they began. -/
theorem reference10 :
    quiescent_Reference10Ideal (hReference10Ideal := Reference10Ideal.Gen.facts) :=
  fun m g _ => (θ_run Reference10Ideal.defs _ _).mono (fun r h =>
    ⟨fun c => (h c).2.2, sem_eq_zero_of_no_sems (by decide) _⟩)
    (Reference10Ideal.Value.run m g)

/-- The reference of the output projection with its norm and the layer's input runs, and its arguments and counters end as they began. -/
theorem reference11 :
    quiescent_Reference11Ideal (hReference11Ideal := Reference11Ideal.Gen.facts) :=
  fun m g _ => (θ_run Reference11Ideal.defs _ _).mono (fun r h =>
    ⟨fun c => (h c).2.2, sem_eq_zero_of_no_sems (by decide) _⟩)
    (Reference11Ideal.Value.run m g)

/-- The reference of the gradients through the output projection runs, and its arguments and counters end as they began. -/
theorem reference12 :
    quiescent_Reference12Ideal (hReference12Ideal := Reference12Ideal.Gen.facts) :=
  fun m g _ => (θ_run Reference12Ideal.defs _ _).mono (fun r h =>
    ⟨fun c => (h c).2.2.2, sem_eq_zero_of_no_sems (by decide) _⟩)
    (Reference12Ideal.Value.run m g)

/-- The reference of the gradients through the input projection runs, and its arguments and counters end as they began. -/
theorem reference13 :
    quiescent_Reference13Ideal (hReference13Ideal := Reference13Ideal.Gen.facts) :=
  fun m g _ => (θ_run Reference13Ideal.defs _ _).mono (fun r h =>
    ⟨fun c => (h c).2.2, sem_eq_zero_of_no_sems (by decide) _⟩)
    (Reference13Ideal.Value.run m g)

/-- The normed rows and the input projection are the reference's. -/
theorem project1 : algebraic_Kernel10Ideal_Reference10Ideal (hKernel10Ideal := Kernel10Ideal.Gen.facts)
    (hReference10Ideal := Reference10Ideal.Gen.facts) := by
  intro m g m' g' _ harg
  refine ⟨fun c => _, fun c => _, Cert.Kernel10Ideal.Value.run_blocks m g,
    (θ_run Cert.Reference10Ideal.defs _ _).mono (fun r h c => ?_) (Cert.Reference10Ideal.Value.run m' g')⟩
  obtain ⟨h0, h1, h2⟩ := h c
  obtain ⟨a0, a1, a2⟩ := harg c
  refine ⟨h0.trans ?_, h1.trans ?_, h2⟩
  · rw [Cert.Reference10Ideal.Read.val_main_v13_eq, a0, a2]
    exact (Cert.InForward.same_h m c).symm
  · rw [Cert.Reference10Ideal.Read.val_main_v14_eq, a0, a1, a2]
    exact (Cert.InForward.same_u m c).symm

/-- The output projection and the sum with the layer's input are the reference's. -/
theorem project2 : algebraic_Kernel11Ideal_Reference11Ideal (hKernel11Ideal := Kernel11Ideal.Gen.facts)
    (hReference11Ideal := Reference11Ideal.Gen.facts) := by
  intro m g m' g' _ harg
  refine ⟨fun c => _, fun c => _, Cert.Kernel11Ideal.Value.run_blocks m g,
    (θ_run Cert.Reference11Ideal.defs _ _).mono (fun r h c => ?_) (Cert.Reference11Ideal.Value.run m' g')⟩
  obtain ⟨h0, h1, h2⟩ := h c
  obtain ⟨a0, a1, a2, a3⟩ := harg c
  refine ⟨h0.trans ?_, h1.trans ?_, h2⟩
  · rw [Cert.Reference11Ideal.Read.val_main_v1_eq, a0, a1]
    exact (Cert.OutForward.same_p m c).symm
  · rw [Cert.Reference11Ideal.Read.val_main_v15_eq, a0, a1, a2, a3]
    exact (Cert.OutForward.same_x m c).symm

/-- The gradients through the output projection and its norm are the reference's. -/
theorem project3 : algebraic_Kernel12Ideal_Reference12Ideal (hKernel12Ideal := Kernel12Ideal.Gen.facts)
    (hReference12Ideal := Reference12Ideal.Gen.facts) := by
  intro m g m' g' _ harg
  refine ⟨fun c => _, fun c => _, fun c => _, Cert.Kernel12Ideal.Value.run_blocks m g,
    (θ_run Cert.Reference12Ideal.defs _ _).mono (fun r h c => ?_) (Cert.Reference12Ideal.Value.run m' g')⟩
  obtain ⟨h0, h1, h2, h3⟩ := h c
  obtain ⟨a0, a1, a2, a3⟩ := harg c
  refine ⟨h0.trans ?_, h1.trans ?_, h2.trans ?_, h3⟩
  · rw [Cert.Reference12Ideal.Read.val_main_v37_eq, a0, a1, a2, a3]
    exact (Cert.OutAlgebra.same_f m c).symm
  · rw [Cert.Reference12Ideal.Read.val_main_v39_eq, a0, a1, a2, a3]
    exact (Cert.OutAlgebra.same_d m c).symm
  · rw [Cert.Reference12Ideal.Read.val_main_v40_eq, a0, a1, a3]
    exact (Cert.OutAlgebra.same_g m c).symm

/-- The gradients through the input projection and its norm are the reference's. -/
theorem project4 : algebraic_Kernel13Ideal_Reference13Ideal (hKernel13Ideal := Kernel13Ideal.Gen.facts)
    (hReference13Ideal := Reference13Ideal.Gen.facts) := by
  intro m g m' g' _ harg
  refine ⟨fun c => _, fun c => _, Cert.Kernel13Ideal.Value.run_blocks m g,
    (θ_run Cert.Reference13Ideal.defs _ _).mono (fun r h c => ?_) (Cert.Reference13Ideal.Value.run m' g')⟩
  obtain ⟨h0, h1, h2⟩ := h c
  obtain ⟨a0, a1, a2, a3, a4⟩ := harg c
  refine ⟨h0.trans ?_, h1.trans ?_, h2⟩
  · rw [Cert.Reference13Ideal.Read.val_main_v38_eq, a0, a1, a2, a3, a4]
    exact (Cert.InAlgebra.same_x m c).symm
  · rw [Cert.Reference13Ideal.Read.val_main_v39_eq, a0, a1, a4]
    exact (Cert.InAlgebra.same_g m c).symm

theorem claim : Cert.Claim := ⟨Cert.Kernel.Gen.facts,
  Cert.KernelIdeal.Gen.facts, Cert.ReferenceIdeal.Gen.facts,
  Cert.Kernel2.Gen.facts, Cert.Kernel2Ideal.Gen.facts, Cert.Reference2Ideal.Gen.facts,
  Cert.Kernel3.Gen.facts,
  Cert.Kernel3Ideal.Gen.facts, Cert.Reference3Ideal.Gen.facts,
  Cert.Kernel4.Gen.facts,
  Cert.Kernel4Ideal.Gen.facts, Cert.Reference4Ideal.Gen.facts,
  Cert.Kernel5.Gen.facts,
  Cert.Kernel5Ideal.Gen.facts, Cert.Reference5Ideal.Gen.facts,
  Cert.Kernel6.Gen.facts,
  Cert.Kernel6Ideal.Gen.facts, Cert.Reference6Ideal.Gen.facts,
  Cert.Kernel7.Gen.facts,
  Cert.Kernel7Ideal.Gen.facts, Cert.Reference7Ideal.Gen.facts,
  Cert.Kernel8.Gen.facts,
  Cert.Kernel8Ideal.Gen.facts, Cert.Reference8Ideal.Gen.facts,
  Cert.Kernel9.Gen.facts,
  Cert.Kernel9Ideal.Gen.facts, Cert.Reference9Ideal.Gen.facts,
  Cert.Kernel10.Gen.facts,
  Cert.Kernel10Ideal.Gen.facts, Cert.Reference10Ideal.Gen.facts,
  Cert.Kernel11.Gen.facts,
  Cert.Kernel11Ideal.Gen.facts, Cert.Reference11Ideal.Gen.facts,
  Cert.Kernel12.Gen.facts,
  Cert.Kernel12Ideal.Gen.facts, Cert.Reference12Ideal.Gen.facts,
  Cert.Kernel13.Gen.facts,
  Cert.Kernel13Ideal.Gen.facts, Cert.Reference13Ideal.Gen.facts,
  Cert.Finite.facts, Cert.DownAlgebra.facts,
  fun m g _ => Cert.Kernel.Gen.frame m g, fun m g _ => Cert.KernelIdeal.Gen.frame m g, fun m g _ => Cert.KernelIdeal.Gen.frame m g,
  reference, fun m g _ => reference m g trivial,
  fun m g _ => Cert.Kernel2.Gen.frame m g, fun m g _ => Cert.Kernel2Ideal.Gen.frame m g, fun m g _ => Cert.Kernel2Ideal.Gen.frame m g,
  reference2, fun m g _ => reference2 m g trivial,
  fun m g _ => Cert.Kernel3.Gen.frame m g, fun m g _ => Cert.Kernel3Ideal.Gen.frame m g, reference3,
  fun m g _ => Cert.Kernel4.Gen.frame m g, fun m g _ => Cert.Kernel4Ideal.Gen.frame m g, reference4,
  fun m g _ => Cert.Kernel5.Gen.frame m g, fun m g _ => Cert.Kernel5Ideal.Gen.frame m g, reference5,
  fun m g _ => Cert.Kernel6.Gen.frame m g, fun m g _ => Cert.Kernel6Ideal.Gen.frame m g, reference6,
  fun m g _ => Cert.Kernel7.Gen.frame m g, fun m g _ => Cert.Kernel7Ideal.Gen.frame m g, reference7,
  fun m g _ => Cert.Kernel8.Gen.frame m g, fun m g _ => Cert.Kernel8Ideal.Gen.frame m g, reference8,
  fun m g _ => Cert.Kernel9.Gen.frame m g, fun m g _ => Cert.Kernel9Ideal.Gen.frame m g, reference9,
  fun m g _ => Cert.Kernel10.Gen.frame m g, fun m g _ => Cert.Kernel10Ideal.Gen.frame m g, reference10,
  fun m g _ => Cert.Kernel11.Gen.frame m g, fun m g _ => Cert.Kernel11Ideal.Gen.frame m g, reference11,
  fun m g _ => Cert.Kernel12.Gen.frame m g, fun m g _ => Cert.Kernel12Ideal.Gen.frame m g, reference12,
  fun m g _ => Cert.Kernel13.Gen.frame m g, fun m g _ => Cert.Kernel13Ideal.Gen.frame m g, reference13,
  trivial, attention, trivial, second, trivial, first, trivial, weight1, trivial, weight2,
  trivial, forward1, trivial, forward2, trivial, weight3, trivial, weight4,
  trivial, project1, trivial, project2, trivial, project3, trivial, project4⟩

end Cert.Proof

end
